-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "qscale" .f32 0x3E38AA3B#32 (((Real.log 256)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v63_0)) (v1 : (c : Dev Cert.Kernel3Ideal.nD) → Buf (Elt Ideal) ((c.tc : Thread Cert.Kernel3Ideal.nD Cert.Kernel3Ideal.τ).loc Cert.Kernel3Ideal.main_v63_1)) (v2 : (c : Dev Cert.Kernel3Ideal.nD) → Buf (Elt Ideal) ((c.tc : Thread Cert.Kernel3Ideal.nD Cert.Kernel3Ideal.τ).loc Cert.Kernel3Ideal.main_v63_2)) (v3 : (c : Dev Cert.Kernel3Ideal.nD) → Buf (Elt Ideal) ((c.tc : Thread Cert.Kernel3Ideal.nD Cert.Kernel3Ideal.τ).loc Cert.Kernel3Ideal.main_v63_3)) (v4 : (c : Dev Cert.Kernel3Ideal.nD) → Buf (Elt Ideal) ((c.tc : Thread Cert.Kernel3Ideal.nD Cert.Kernel3Ideal.τ).loc Cert.Kernel3Ideal.main_v63_4)) (v5 : (c : Dev Cert.Kernel3Ideal.nD) → Buf (Elt Ideal) ((c.tc : Thread Cert.Kernel3Ideal.nD Cert.Kernel3Ideal.τ).loc Cert.Kernel3Ideal.main_v63_5)) (v6 : (c : Dev Cert.Kernel3Ideal.nD) → Buf (Elt Ideal) ((c.tc : Thread Cert.Kernel3Ideal.nD Cert.Kernel3Ideal.τ).loc Cert.Kernel3Ideal.main_v63_6)) (v7 : (c : Dev Cert.Kernel3Ideal.nD) → Buf (Elt Ideal) ((c.tc : Thread Cert.Kernel3Ideal.nD Cert.Kernel3Ideal.τ).loc Cert.Kernel3Ideal.main_v63_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v63_0) = v0 c
          ∧ r.2.mem ((c.tc : Thread Cert.Kernel3Ideal.nD Cert.Kernel3Ideal.τ).loc Cert.Kernel3Ideal.main_v63_1) = v1 c
          ∧ r.2.mem ((c.tc : Thread Cert.Kernel3Ideal.nD Cert.Kernel3Ideal.τ).loc Cert.Kernel3Ideal.main_v63_2) = v2 c
          ∧ r.2.mem ((c.tc : Thread Cert.Kernel3Ideal.nD Cert.Kernel3Ideal.τ).loc Cert.Kernel3Ideal.main_v63_3) = v3 c
          ∧ r.2.mem ((c.tc : Thread Cert.Kernel3Ideal.nD Cert.Kernel3Ideal.τ).loc Cert.Kernel3Ideal.main_v63_4) = v4 c
          ∧ r.2.mem ((c.tc : Thread Cert.Kernel3Ideal.nD Cert.Kernel3Ideal.τ).loc Cert.Kernel3Ideal.main_v63_5) = v5 c
          ∧ r.2.mem ((c.tc : Thread Cert.Kernel3Ideal.nD Cert.Kernel3Ideal.τ).loc Cert.Kernel3Ideal.main_v63_6) = v6 c
          ∧ r.2.mem ((c.tc : Thread Cert.Kernel3Ideal.nD Cert.Kernel3Ideal.τ).loc Cert.Kernel3Ideal.main_v63_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v194) = v0 c
          ∧ r.2.mem ((c.tc : Thread Cert.Reference3Ideal.nD Cert.Reference3Ideal.τ).loc Cert.Reference3Ideal.main_v195) = v1 c
          ∧ r.2.mem ((c.tc : Thread Cert.Reference3Ideal.nD Cert.Reference3Ideal.τ).loc Cert.Reference3Ideal.main_v197) = v2 c
          ∧ r.2.mem ((c.tc : Thread Cert.Reference3Ideal.nD Cert.Reference3Ideal.τ).loc Cert.Reference3Ideal.main_v198) = v3 c
          ∧ r.2.mem ((c.tc : Thread Cert.Reference3Ideal.nD Cert.Reference3Ideal.τ).loc Cert.Reference3Ideal.main_v201) = v4 c
          ∧ r.2.mem ((c.tc : Thread Cert.Reference3Ideal.nD Cert.Reference3Ideal.τ).loc Cert.Reference3Ideal.main_v202) = v5 c
          ∧ r.2.mem ((c.tc : Thread Cert.Reference3Ideal.nD Cert.Reference3Ideal.τ).loc Cert.Reference3Ideal.main_v203) = v6 c
          ∧ r.2.mem ((c.tc : Thread Cert.Reference3Ideal.nD Cert.Reference3Ideal.τ).loc Cert.Reference3Ideal.main_v205) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8x2048x8x64 : Shape := ⟨4, ![8, 2048, 8, 64]⟩
abbrev S8x2048x2x64 : Shape := ⟨4, ![8, 2048, 2, 64]⟩
abbrev S8x256x2x64 : Shape := ⟨4, ![8, 256, 2, 64]⟩
abbrev S8 : Shape := ⟨1, ![8]⟩
abbrev S8x2048x2x4x64 : Shape := ⟨5, ![8, 2048, 2, 4, 64]⟩
abbrev S8x2048x4x2x64 : Shape := ⟨5, ![8, 2048, 4, 2, 64]⟩
abbrev S8x2048x512 : Shape := ⟨3, ![8, 2048, 512]⟩
abbrev S8x2048x128 : Shape := ⟨3, ![8, 2048, 128]⟩
abbrev S8x128x2048 : Shape := ⟨3, ![8, 128, 2048]⟩
abbrev S8x256x128 : Shape := ⟨3, ![8, 256, 128]⟩
abbrev S4x512x128 : Shape := ⟨3, ![4, 512, 128]⟩
abbrev S4x128x512 : Shape := ⟨3, ![4, 128, 512]⟩
abbrev S_ : Shape := ⟨0, ![]⟩
abbrev S8x1 : Shape := ⟨2, ![8, 1]⟩
abbrev S8x128 : Shape := ⟨2, ![8, 128]⟩
abbrev S1024 : Shape := ⟨1, ![1024]⟩
abbrev S1x1024 : Shape := ⟨2, ![1, 1024]⟩
abbrev S1x2048x512 : Shape := ⟨3, ![1, 2048, 512]⟩
abbrev S1x2048x128 : Shape := ⟨3, ![1, 2048, 128]⟩
abbrev S1x256x128 : Shape := ⟨3, ![1, 256, 128]⟩
abbrev S1x128x2048 : Shape := ⟨3, ![1, 128, 2048]⟩
abbrev S1x128x256 : Shape := ⟨3, ![1, 128, 256]⟩
abbrev S128x128 : Shape := ⟨2, ![128, 128]⟩
abbrev S1x512 : Shape := ⟨2, ![1, 512]⟩
abbrev S16x640 : Shape := ⟨2, ![16, 640]⟩
abbrev S1x128x128 : Shape := ⟨3, ![1, 128, 128]⟩
abbrev S1x128x512 : Shape := ⟨3, ![1, 128, 512]⟩
abbrev S128x512 : Shape := ⟨2, ![128, 512]⟩
abbrev S512x128 : Shape := ⟨2, ![512, 128]⟩
abbrev S256x128 : Shape := ⟨2, ![256, 128]⟩
abbrev S256x512 : Shape := ⟨2, ![256, 512]⟩
abbrev S640x512 : Shape := ⟨2, ![640, 512]⟩
abbrev S512 : Shape := ⟨1, ![512]⟩
abbrev S128x256 : Shape := ⟨2, ![128, 256]⟩
abbrev S128x640 : Shape := ⟨2, ![128, 640]⟩
abbrev S144x640 : Shape := ⟨2, ![144, 640]⟩
abbrev S144x512 : Shape := ⟨2, ![144, 512]⟩

abbrev nBuf : Space → Nat
  | .hbm => 34
  | .vmem => 13
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x2x64, .f32⟩
  | .hbm, ⟨2, _⟩ => ⟨S8x2048x2x64, .f32⟩
  | .hbm, ⟨3, _⟩ => ⟨S8x256x2x64, .f32⟩
  | .hbm, ⟨4, _⟩ => ⟨S8x256x2x64, .f32⟩
  | .hbm, ⟨5, _⟩ => ⟨S8, .f32⟩
  | .hbm, ⟨6, _⟩ => ⟨S8, .i32⟩
  | .hbm, ⟨7, _⟩ => ⟨S8x2048x2x4x64, .f32⟩
  | .hbm, ⟨8, _⟩ => ⟨S8x2048x4x2x64, .f32⟩
  | .hbm, ⟨9, _⟩ => ⟨S8x2048x512, .f32⟩
  | .hbm, ⟨10, _⟩ => ⟨S8x2048x512, .bf16⟩
  | .hbm, ⟨11, _⟩ => ⟨S8x2048x128, .f32⟩
  | .hbm, ⟨12, _⟩ => ⟨S8x2048x128, .bf16⟩
  | .hbm, ⟨13, _⟩ => ⟨S8x2048x128, .f32⟩
  | .hbm, ⟨14, _⟩ => ⟨S8x128x2048, .f32⟩
  | .hbm, ⟨15, _⟩ => ⟨S8x128x2048, .bf16⟩
  | .hbm, ⟨16, _⟩ => ⟨S8x256x128, .f32⟩
  | .hbm, ⟨17, _⟩ => ⟨S8x256x128, .bf16⟩
  | .hbm, ⟨18, _⟩ => ⟨S4x512x128, .f32⟩
  | .hbm, ⟨19, _⟩ => ⟨S4x128x512, .f32⟩
  | .hbm, ⟨20, _⟩ => ⟨S4x128x512, .bf16⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S8, .i32⟩
  | .hbm, ⟨28, _⟩ => ⟨S8x1, .i32⟩
  | .hbm, ⟨29, _⟩ => ⟨S8, .f32⟩
  | .hbm, ⟨30, _⟩ => ⟨S8x128, .f32⟩
  | .hbm, ⟨31, _⟩ => ⟨S1024, .f32⟩
  | .hbm, ⟨32, _⟩ => ⟨S1x1024, .f32⟩
  | .hbm, ⟨33, _⟩ => ⟨S8x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x128x256, .bf16⟩
  | .local _ .vmem, ⟨9, _⟩ => ⟨S1x128x256, .bf16⟩
  | .local _ .vmem, ⟨10, _⟩ => ⟨S1x1024, .f32⟩
  | .local _ .vmem, ⟨11, _⟩ => ⟨S1x2048x512, .bf16⟩
  | .local _ .vmem, ⟨12, _⟩ => ⟨S1x2048x512, .bf16⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log2e" => some (((Real.log 2)⁻¹ : ℝ) : EReal)
  | "qscale" => some (((Real.log 256)⁻¹ : ℝ) : EReal)
  | _ => none
-- ==== ReferenceIdeal.lean ====
abbrev S8x2048x8x64 : Shape := ⟨4, ![8, 2048, 8, 64]⟩
abbrev S8x2048x2x64 : Shape := ⟨4, ![8, 2048, 2, 64]⟩
abbrev S8x256x2x64 : Shape := ⟨4, ![8, 256, 2, 64]⟩
abbrev S8 : Shape := ⟨1, ![8]⟩
abbrev S8x16x128x2x4x64 : Shape := ⟨6, ![8, 16, 128, 2, 4, 64]⟩
abbrev S_ : Shape := ⟨0, ![]⟩
abbrev S8x2304x2x64 : Shape := ⟨4, ![8, 2304, 2, 64]⟩
abbrev S8x18x128x2x64 : Shape := ⟨5, ![8, 18, 128, 2, 64]⟩
abbrev S8x16x128x2x64 : Shape := ⟨5, ![8, 16, 128, 2, 64]⟩
abbrev S8x16x384x2x64 : Shape := ⟨5, ![8, 16, 384, 2, 64]⟩
abbrev S2048 : Shape := ⟨1, ![2048]⟩
abbrev S16x128 : Shape := ⟨2, ![16, 128]⟩
abbrev S16 : Shape := ⟨1, ![16]⟩
abbrev S16x1 : Shape := ⟨2, ![16, 1]⟩
abbrev S384 : Shape := ⟨1, ![384]⟩
abbrev S1x384 : Shape := ⟨2, ![1, 384]⟩
abbrev S16x384 : Shape := ⟨2, ![16, 384]⟩
abbrev S16x128x1 : Shape := ⟨3, ![16, 128, 1]⟩
abbrev S16x1x384 : Shape := ⟨3, ![16, 1, 384]⟩
abbrev S16x128x384 : Shape := ⟨3, ![16, 128, 384]⟩
abbrev S8x16x2x384x128x4 : Shape := ⟨6, ![8, 16, 2, 384, 128, 4]⟩
abbrev S8x16x2x4x128x384 : Shape := ⟨6, ![8, 16, 2, 4, 128, 384]⟩
abbrev S1x16x1x1x128x384 : Shape := ⟨6, ![1, 16, 1, 1, 128, 384]⟩
abbrev S8x2x256x16x128x4 : Shape := ⟨6, ![8, 2, 256, 16, 128, 4]⟩
abbrev S8x16x2x4x128x256 : Shape := ⟨6, ![8, 16, 2, 4, 128, 256]⟩
abbrev S1x1x2x4x1x1 : Shape := ⟨6, ![1, 1, 2, 4, 1, 1]⟩
abbrev S8x16x2x4x128 : Shape := ⟨5, ![8, 16, 2, 4, 128]⟩
abbrev S8x16x2x4x128x1 : Shape := ⟨6, ![8, 16, 2, 4, 128, 1]⟩
abbrev S8x16x2x64x4x128 : Shape := ⟨6, ![8, 16, 2, 64, 4, 128]⟩
abbrev S8x2x64x16x4x128 : Shape := ⟨6, ![8, 2, 64, 16, 4, 128]⟩
abbrev S8x16x128x4x2x64 : Shape := ⟨6, ![8, 16, 128, 4, 2, 64]⟩
abbrev S8x2048x512 : Shape := ⟨3, ![8, 2048, 512]⟩

abbrev nBuf : Space → Nat
  | .hbm => 117
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x2x64, .f32⟩
  | .hbm, ⟨2, _⟩ => ⟨S8x2048x2x64, .f32⟩
  | .hbm, ⟨3, _⟩ => ⟨S8x256x2x64, .f32⟩
  | .hbm, ⟨4, _⟩ => ⟨S8x256x2x64, .f32⟩
  | .hbm, ⟨5, _⟩ => ⟨S8, .f32⟩
  | .hbm, ⟨6, _⟩ => ⟨S8x16x128x2x4x64, .f32⟩
  | .hbm, ⟨7, _⟩ => ⟨S_, .i32⟩
  | .hbm, ⟨8, _⟩ => ⟨S_, .f32⟩
  | .hbm, ⟨9, _⟩ => ⟨S8x2304x2x64, .f32⟩
  | .hbm, ⟨10, _⟩ => ⟨S8x18x128x2x64, .f32⟩
  | .hbm, ⟨11, _⟩ => ⟨S8x16x128x2x64, .f32⟩
  | .hbm, ⟨12, _⟩ => ⟨S8x16x128x2x64, .f32⟩
  | .hbm, ⟨13, _⟩ => ⟨S8x16x128x2x64, .f32⟩
  | .hbm, ⟨14, _⟩ => ⟨S8x16x384x2x64, .f32⟩
  | .hbm, ⟨15, _⟩ => ⟨S_, .i32⟩
  | .hbm, ⟨16, _⟩ => ⟨S_, .f32⟩
  | .hbm, ⟨17, _⟩ => ⟨S8x2304x2x64, .f32⟩
  | .hbm, ⟨18, _⟩ => ⟨S8x18x128x2x64, .f32⟩
  | .hbm, ⟨19, _⟩ => ⟨S8x16x128x2x64, .f32⟩
  | .hbm, ⟨20, _⟩ => ⟨S8x16x128x2x64, .f32⟩
  | .hbm, ⟨21, _⟩ => ⟨S8x16x128x2x64, .f32⟩
  | .hbm, ⟨22, _⟩ => ⟨S8x16x384x2x64, .f32⟩
  | .hbm, ⟨23, _⟩ => ⟨S2048, .i32⟩
  | .hbm, ⟨24, _⟩ => ⟨S16x128, .i32⟩
  | .hbm, ⟨25, _⟩ => ⟨S16, .i32⟩
  | .hbm, ⟨26, _⟩ => ⟨S16x1, .i32⟩
  | .hbm, ⟨27, _⟩ => ⟨S_, .i32⟩
  | .hbm, ⟨28, _⟩ => ⟨S16x1, .i32⟩
  | .hbm, ⟨29, _⟩ => ⟨S16x1, .i32⟩
  | .hbm, ⟨30, _⟩ => ⟨S_, .i32⟩
  | .hbm, ⟨31, _⟩ => ⟨S16x1, .i32⟩
  | .hbm, ⟨32, _⟩ => ⟨S16x1, .i32⟩
  | .hbm, ⟨33, _⟩ => ⟨S384, .i32⟩
  | .hbm, ⟨34, _⟩ => ⟨S1x384, .i32⟩
  | .hbm, ⟨35, _⟩ => ⟨S16x384, .i32⟩
  | .hbm, ⟨36, _⟩ => ⟨S16x384, .i32⟩
  | .hbm, ⟨37, _⟩ => ⟨S16x384, .i32⟩
  | .hbm, ⟨38, _⟩ => ⟨S16x128x1, .i32⟩
  | .hbm, ⟨39, _⟩ => ⟨S16x1x384, .i32⟩
  | .hbm, ⟨40, _⟩ => ⟨S16x128x384, .i32⟩
  | .hbm, ⟨41, _⟩ => ⟨S16x128x384, .i32⟩
  | .hbm, ⟨42, _⟩ => ⟨S16x128x384, .i32⟩
  | .hbm, ⟨43, _⟩ => ⟨S16x128x384, .i32⟩
  | .hbm, ⟨44, _⟩ => ⟨S_, .i32⟩
  | .hbm, ⟨45, _⟩ => ⟨S16x128x384, .i32⟩
  | .hbm, ⟨46, _⟩ => ⟨S16x128x384, .i1⟩
  | .hbm, ⟨47, _⟩ => ⟨S16x1x384, .i32⟩
  | .hbm, ⟨48, _⟩ => ⟨S_, .i32⟩
  | .hbm, ⟨49, _⟩ => ⟨S16x1x384, .i32⟩
  | .hbm, ⟨50, _⟩ => ⟨S16x1x384, .i1⟩
  | .hbm, ⟨51, _⟩ => ⟨S16x128x384, .i1⟩
  | .hbm, ⟨52, _⟩ => ⟨S16x128x384, .i1⟩
  | .hbm, ⟨53, _⟩ => ⟨S16x1x384, .i32⟩
  | .hbm, ⟨54, _⟩ => ⟨S_, .i32⟩
  | .hbm, ⟨55, _⟩ => ⟨S16x1x384, .i32⟩
  | .hbm, ⟨56, _⟩ => ⟨S16x1x384, .i1⟩
  | .hbm, ⟨57, _⟩ => ⟨S16x128x384, .i1⟩
  | .hbm, ⟨58, _⟩ => ⟨S16x128x384, .i1⟩
  | .hbm, ⟨59, _⟩ => ⟨S8x16x2x384x128x4, .f32⟩
  | .hbm, ⟨60, _⟩ => ⟨S8x16x2x4x128x384, .f32⟩
  | .hbm, ⟨61, _⟩ => ⟨S_, .f32⟩
  | .hbm, ⟨62, _⟩ => ⟨S8x16x2x4x128x384, .f32⟩
  | .hbm, ⟨63, _⟩ => ⟨S8x16x2x4x128x384, .f32⟩
  | .hbm, ⟨64, _⟩ => ⟨S1x16x1x1x128x384, .i1⟩
  | .hbm, ⟨65, _⟩ => ⟨S_, .f32⟩
  | .hbm, ⟨66, _⟩ => ⟨S_, .f32⟩
  | .hbm, ⟨67, _⟩ => ⟨S8x16x2x4x128x384, .i1⟩
  | .hbm, ⟨68, _⟩ => ⟨S8x16x2x4x128x384, .f32⟩
  | .hbm, ⟨69, _⟩ => ⟨S8x16x2x4x128x384, .f32⟩
  | .hbm, ⟨70, _⟩ => ⟨S8x2x256x16x128x4, .f32⟩
  | .hbm, ⟨71, _⟩ => ⟨S8x16x2x4x128x256, .f32⟩
  | .hbm, ⟨72, _⟩ => ⟨S_, .f32⟩
  | .hbm, ⟨73, _⟩ => ⟨S8x16x2x4x128x256, .f32⟩
  | .hbm, ⟨74, _⟩ => ⟨S8x16x2x4x128x256, .f32⟩
  | .hbm, ⟨75, _⟩ => ⟨S1x1x2x4x1x1, .f32⟩
  | .hbm, ⟨76, _⟩ => ⟨S_, .f32⟩
  | .hbm, ⟨77, _⟩ => ⟨S8x16x2x4x128, .f32⟩
  | .hbm, ⟨78, _⟩ => ⟨S8x16x2x4x128x1, .f32⟩
  | .hbm, ⟨79, _⟩ => ⟨S_, .f32⟩
  | .hbm, ⟨80, _⟩ => ⟨S8x16x2x4x128, .f32⟩
  | .hbm, ⟨81, _⟩ => ⟨S8x16x2x4x128x1, .f32⟩
  | .hbm, ⟨82, _⟩ => ⟨S8x16x2x4x128x1, .f32⟩
  | .hbm, ⟨83, _⟩ => ⟨S8x16x2x4x128x1, .f32⟩
  | .hbm, ⟨84, _⟩ => ⟨S8x16x2x4x128x1, .f32⟩
  | .hbm, ⟨85, _⟩ => ⟨S8x16x2x4x128x384, .f32⟩
  | .hbm, ⟨86, _⟩ => ⟨S8x16x2x4x128x384, .f32⟩
  | .hbm, ⟨87, _⟩ => ⟨S8x16x2x4x128x384, .f32⟩
  | .hbm, ⟨88, _⟩ => ⟨S8x16x2x4x128x256, .f32⟩
  | .hbm, ⟨89, _⟩ => ⟨S8x16x2x4x128x256, .f32⟩
  | .hbm, ⟨90, _⟩ => ⟨S8x16x2x4x128x256, .f32⟩
  | .hbm, ⟨91, _⟩ => ⟨S_, .f32⟩
  | .hbm, ⟨92, _⟩ => ⟨S8x16x2x4x128, .f32⟩
  | .hbm, ⟨93, _⟩ => ⟨S8x16x2x4x128x1, .f32⟩
  | .hbm, ⟨94, _⟩ => ⟨S_, .f32⟩
  | .hbm, ⟨95, _⟩ => ⟨S8x16x2x4x128, .f32⟩
  | .hbm, ⟨96, _⟩ => ⟨S8x16x2x4x128x1, .f32⟩
  | .hbm, ⟨97, _⟩ => ⟨S8x16x2x4x128x1, .f32⟩
  | .hbm, ⟨98, _⟩ => ⟨S8x16x2x4x128x1, .f32⟩
  | .hbm, ⟨99, _⟩ => ⟨S8x16x2x4x128x1, .f32⟩
  | .hbm, ⟨100, _⟩ => ⟨S8x16x2x4x128x1, .f32⟩
  | .hbm, ⟨101, _⟩ => ⟨S8x16x2x4x128x1, .f32⟩
  | .hbm, ⟨102, _⟩ => ⟨S_, .f32⟩
  | .hbm, ⟨103, _⟩ => ⟨S8x16x2x4x128x1, .f32⟩
  | .hbm, ⟨104, _⟩ => ⟨S8x16x2x4x128x1, .f32⟩
  | .hbm, ⟨105, _⟩ => ⟨S8x16x2x4x128x384, .f32⟩
  | .hbm, ⟨106, _⟩ => ⟨S8x16x2x4x128x384, .f32⟩
  | .hbm, ⟨107, _⟩ => ⟨S8x16x2x64x4x128, .f32⟩
  | .hbm, ⟨108, _⟩ => ⟨S8x16x128x2x4x64, .f32⟩
  | .hbm, ⟨109, _⟩ => ⟨S8x16x2x4x128x256, .f32⟩
  | .hbm, ⟨110, _⟩ => ⟨S8x16x2x4x128x256, .f32⟩
  | .hbm, ⟨111, _⟩ => ⟨S8x2x64x16x4x128, .f32⟩
  | .hbm, ⟨112, _⟩ => ⟨S8x16x128x2x4x64, .f32⟩
  | .hbm, ⟨113, _⟩ => ⟨S8x16x128x2x4x64, .f32⟩
  | .hbm, ⟨114, _⟩ => ⟨S8x16x128x4x2x64, .f32⟩
  | .hbm, ⟨115, _⟩ => ⟨S8x2048x512, .f32⟩
  | .hbm, ⟨116, _⟩ => ⟨S8x2048x512, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_10 : Ref sig .tc := ⟨.hbm, 91, rfl⟩
abbrev main_v68 : Ref sig .tc := ⟨.hbm, 92, rfl⟩
abbrev main_v69 : Ref sig .tc := ⟨.hbm, 93, rfl⟩
abbrev main_cst_11 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_12 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x512 : Shape := ⟨3, ![8, 2048, 512]⟩
abbrev S16x6144 : Shape := ⟨2, ![16, 6144]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024x1024 : Shape := ⟨2, ![1024, 1024]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S16384x1024 : Shape := ⟨2, ![16384, 1024]⟩
abbrev S16384x512 : Shape := ⟨2, ![16384, 512]⟩
abbrev S1024x5632 : Shape := ⟨2, ![1024, 5632]⟩
abbrev S2816x1024 : Shape := ⟨2, ![2816, 1024]⟩
abbrev S1024x512 : Shape := ⟨2, ![1024, 512]⟩
abbrev S8x1024 : Shape := ⟨2, ![8, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 26
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S16x6144, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x1024x5632, .f32⟩
  | .hbm, ⟨9, _⟩ => ⟨S1x2816x1024, .f32⟩
  | .hbm, ⟨10, _⟩ => ⟨S1024x1024, .f32⟩
  | .hbm, ⟨11, _⟩ => ⟨S512x1024, .f32⟩
  | .hbm, ⟨12, _⟩ => ⟨S2x4x64x1024, .f32⟩
  | .hbm, ⟨13, _⟩ => ⟨S4x2x64x1024, .f32⟩
  | .hbm, ⟨14, _⟩ => ⟨S512x1024, .f32⟩
  | .hbm, ⟨15, _⟩ => ⟨S512x1024, .bf16⟩
  | .hbm, ⟨16, _⟩ => ⟨S512x1024, .f32⟩
  | .hbm, ⟨17, _⟩ => ⟨S512x1024, .bf16⟩
  | .hbm, ⟨18, _⟩ => ⟨S16384x1024, .f32⟩
  | .hbm, ⟨19, _⟩ => ⟨S16384x512, .bf16⟩
  | .hbm, ⟨20, _⟩ => ⟨S16384x512, .bf16⟩
  | .hbm, ⟨21, _⟩ => ⟨S1024x5632, .f32⟩
  | .hbm, ⟨22, _⟩ => ⟨S1024x5632, .bf16⟩
  | .hbm, ⟨23, _⟩ => ⟨S2816x1024, .f32⟩
  | .hbm, ⟨24, _⟩ => ⟨S2816x1024, .bf16⟩
  | .hbm, ⟨25, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S1024x5632, .bf16⟩
  | .local _ .vmem, ⟨20, _⟩ => ⟨S2816x1024, .bf16⟩
  | .local _ .vmem, ⟨21, _⟩ => ⟨S1024x1024, .f32⟩
  | .local _ .vmem, ⟨22, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c8_i32 : BitVec 32 := 8#32
  let c0_i32_4 : BitVec 32 := 0#32
  let v17 : BitVec 1 := Scalar.cmpi .eq c8_i32 c0_i32_4
  let c1_i32_5 : BitVec 32 := 1#32
  let v18 : BitVec 32 := Scalar.select v17 c1_i32_5 c8_i32
  let v19 : BitVec 32 := Scalar.remsi v16 v18
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let c0_i32_6 : BitVec 32 := 0#32
  let v20 : BitVec 1 := Scalar.cmpi .ne v19 c0_i32_6
  let v24 : BitVec 1 := Scalar.andi v23 v20
  let v25 : BitVec 32 := Scalar.addi v19 v18
  let v26 : BitVec 32 := Scalar.select v24 v25 v19
  let v27 : Index := Scalar.indexCast v26
  let c0 : Index := 0#32
  ![v27.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.divsi v16 c8_i32
  let c0_i32_4 : BitVec 32 := 0#32
  let v18 : BitVec 1 := Scalar.cmpi .sgt v16 c0_i32_4
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c0_i32_6 : BitVec 32 := 0#32
  let v23 : BitVec 1 := Scalar.cmpi .sgt c8_i32 c0_i32_6
  let v24 : BitVec 32 := Scalar.extui v23
  let c0_i32_7 : BitVec 32 := 0#32
  let v25 : BitVec 1 := Scalar.cmpi .slt c8_i32 c0_i32_7
  let v26 : BitVec 32 := Scalar.extui v25
  let v27 : BitVec 32 := Scalar.subi v24 v26
  let v28 : BitVec 1 := Scalar.cmpi .ne v22 v27
  let v29 : BitVec 32 := Scalar.remsi v16 c8_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c2_i32_10 : BitVec 32 := 2#32
  let c0_i32_11 : BitVec 32 := 0#32
  ![v33.toNat, c2_i32_10.toNat]

def cc0_transform_4 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.divsi v16 c8_i32
  let c0_i32_4 : BitVec 32 := 0#32
  let v18 : BitVec 1 := Scalar.cmpi .sgt v16 c0_i32_4
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c0_i32_6 : BitVec 32 := 0#32
  let v23 : BitVec 1 := Scalar.cmpi .sgt c8_i32 c0_i32_6
  let v24 : BitVec 32 := Scalar.extui v23
  let c0_i32_7 : BitVec 32 := 0#32
  let v25 : BitVec 1 := Scalar.cmpi .slt c8_i32 c0_i32_7
  let v26 : BitVec 32 := Scalar.extui v25
  let v27 : BitVec 32 := Scalar.subi v24 v26
  let v28 : BitVec 1 := Scalar.cmpi .ne v22 v27
  let v29 : BitVec 32 := Scalar.remsi v16 c8_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c3_i32 : BitVec 32 := 3#32
  let c0_i32_10 : BitVec 32 := 0#32
  ![v33.toNat, c3_i32.toNat]

def cc0_transform_5 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.divsi v16 c8_i32
  let c0_i32_4 : BitVec 32 := 0#32
  let v18 : BitVec 1 := Scalar.cmpi .sgt v16 c0_i32_4
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c0_i32_6 : BitVec 32 := 0#32
  let v23 : BitVec 1 := Scalar.cmpi .sgt c8_i32 c0_i32_6
  let v24 : BitVec 32 := Scalar.extui v23
  let c0_i32_7 : BitVec 32 := 0#32
  let v25 : BitVec 1 := Scalar.cmpi .slt c8_i32 c0_i32_7
  let v26 : BitVec 32 := Scalar.extui v25
  let v27 : BitVec 32 := Scalar.subi v24 v26
  let v28 : BitVec 1 := Scalar.cmpi .ne v22 v27
  let v29 : BitVec 32 := Scalar.remsi v16 c8_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c4_i32 : BitVec 32 := 4#32
  let c0_i32_10 : BitVec 32 := 0#32
  ![v33.toNat, c4_i32.toNat]

def cc0_transform_6 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.divsi v16 c8_i32
  let c0_i32_4 : BitVec 32 := 0#32
  let v18 : BitVec 1 := Scalar.cmpi .sgt v16 c0_i32_4
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c0_i32_6 : BitVec 32 := 0#32
  let v23 : BitVec 1 := Scalar.cmpi .sgt c8_i32 c0_i32_6
  let v24 : BitVec 32 := Scalar.extui v23
  let c0_i32_7 : BitVec 32 := 0#32
  let v25 : BitVec 1 := Scalar.cmpi .slt c8_i32 c0_i32_7
  let v26 : BitVec 32 := Scalar.extui v25
  let v27 : BitVec 32 := Scalar.subi v24 v26
  let v28 : BitVec 1 := Scalar.cmpi .ne v22 v27
  let v29 : BitVec 32 := Scalar.remsi v16 c8_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c5_i32 : BitVec 32 := 5#32
  let c0_i32_10 : BitVec 32 := 0#32
  ![v33.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S8x2048x1024 : Shape := ⟨3, ![8, 2048, 1024]⟩
abbrev S8x2048x512 : Shape := ⟨3, ![8, 2048, 512]⟩
abbrev S16x6144 : Shape := ⟨2, ![16, 6144]⟩
abbrev S1x1024 : Shape := ⟨2, ![1, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S8x6144 : Shape := ⟨2, ![8, 6144]⟩
abbrev S8x1x6144 : Shape := ⟨3, ![8, 1, 6144]⟩
abbrev S8x1x1024 : Shape := ⟨3, ![8, 1, 1024]⟩
abbrev S8x2048x4x2x64 : Shape := ⟨5, ![8, 2048, 4, 2, 64]⟩
abbrev S8x2048x2x4x64 : Shape := ⟨5, ![8, 2048, 2, 4, 64]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5632 : Shape := ⟨2, ![1024, 5632]⟩
abbrev S2816x1024 : Shape := ⟨2, ![2816, 1024]⟩
abbrev S8x2048x5632 : Shape := ⟨3, ![8, 2048, 5632]⟩
abbrev S8x2048x2816 : Shape := ⟨3, ![8, 2048, 2816]⟩
abbrev S16384x1024 : Shape := ⟨2, ![16384, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S16x6144, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x1024x5632, .f32⟩
  | .hbm, ⟨9, _⟩ => ⟨S1x2816x1024, .f32⟩
  | .hbm, ⟨10, _⟩ => ⟨S8x6144, .f32⟩
  | .hbm, ⟨11, _⟩ => ⟨S8x1x6144, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x2048x512, .f32⟩
  | .hbm, ⟨19, _⟩ => ⟨S8x2048x4x2x64, .f32⟩
  | .hbm, ⟨20, _⟩ => ⟨S8x2048x2x4x64, .f32⟩
  | .hbm, ⟨21, _⟩ => ⟨S8x2048x512, .f32⟩
  | .hbm, ⟨22, _⟩ => ⟨S8x2048x512, .f32⟩
  | .hbm, ⟨23, _⟩ => ⟨S8x2048x1024, .f32⟩
  | .hbm, ⟨24, _⟩ => ⟨S1024x1024, .f32⟩
  | .hbm, ⟨25, _⟩ => ⟨S8x2048x1024, .f32⟩
  | .hbm, ⟨26, _⟩ => ⟨S1024, .f32⟩
  | .hbm, ⟨27, _⟩ => ⟨S8x2048x1024, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S1024, .f32⟩
  | .hbm, ⟨47, _⟩ => ⟨S8x2048x1024, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x1, .f32⟩
  | .hbm, ⟨58, _⟩ => ⟨S8x2048x1024, .f32⟩
  | .hbm, ⟨59, _⟩ => ⟨S8x2048x1024, .f32⟩
  | .hbm, ⟨60, _⟩ => ⟨S1x1x1024, .f32⟩
  | .hbm, ⟨61, _⟩ => ⟨S8x2048x1024, .f32⟩
  | .hbm, ⟨62, _⟩ => ⟨S8x2048x1024, .f32⟩
  | .hbm, ⟨63, _⟩ => ⟨S_, .f32⟩
  | .hbm, ⟨64, _⟩ => ⟨S8x1x1024, .f32⟩
  | .hbm, ⟨65, _⟩ => ⟨S8x1x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S8x2048x1024, .f32⟩
  | .hbm, ⟨70, _⟩ => ⟨S1024x5632, .f32⟩
  | .hbm, ⟨71, _⟩ => ⟨S2816x1024, .f32⟩
  | .hbm, ⟨72, _⟩ => ⟨S8x2048x5632, .f32⟩
  | .hbm, ⟨73, _⟩ => ⟨S8x2048x2816, .f32⟩
  | .hbm, ⟨74, _⟩ => ⟨S8x2048x2816, .f32⟩
  | .hbm, ⟨75, _⟩ => ⟨S8x2048x2816, .f32⟩
  | .hbm, ⟨76, _⟩ => ⟨S8x2048x2816, .f32⟩
  | .hbm, ⟨77, _⟩ => ⟨S_, .f32⟩
  | .hbm, ⟨78, _⟩ => ⟨S8x2048x2816, .f32⟩
  | .hbm, ⟨79, _⟩ => ⟨S8x2048x2816, .f32⟩
  | .hbm, ⟨80, _⟩ => ⟨S_, .f32⟩
  | .hbm, ⟨81, _⟩ => ⟨S8x2048x2816, .f32⟩
  | .hbm, ⟨82, _⟩ => ⟨S8x2048x2816, .f32⟩
  | .hbm, ⟨83, _⟩ => ⟨S8x2048x2816, .f32⟩
  | .hbm, ⟨84, _⟩ => ⟨S8x2048x2816, .f32⟩
  | .hbm, ⟨85, _⟩ => ⟨S8x2048x1024, .f32⟩
  | .hbm, ⟨86, _⟩ => ⟨S1024, .f32⟩
  | .hbm, ⟨87, _⟩ => ⟨S8x2048x1024, .f32⟩
  | .hbm, ⟨88, _⟩ => ⟨S_, .f32⟩
  | .hbm, ⟨89, _⟩ => ⟨S8x2048, .f32⟩
  | .hbm, ⟨90, _⟩ => ⟨S8x2048x1, .f32⟩
  | .hbm, ⟨91, _⟩ => ⟨S_, .f32⟩
  | .hbm, ⟨92, _⟩ => ⟨S8x2048x1, .f32⟩
  | .hbm, ⟨93, _⟩ => ⟨S8x2048x1, .f32⟩
  | .hbm, ⟨94, _⟩ => ⟨S_, .f32⟩
  | .hbm, ⟨95, _⟩ => ⟨S8x2048x1, .f32⟩
  | .hbm, ⟨96, _⟩ => ⟨S8x2048x1, .f32⟩
  | .hbm, ⟨97, _⟩ => ⟨S8x2048x1, .f32⟩
  | .hbm, ⟨98, _⟩ => ⟨S8x2048x1024, .f32⟩
  | .hbm, ⟨99, _⟩ => ⟨S8x2048x1024, .f32⟩
  | .hbm, ⟨100, _⟩ => ⟨S1x1x1024, .f32⟩
  | .hbm, ⟨101, _⟩ => ⟨S8x2048x1024, .f32⟩
  | .hbm, ⟨102, _⟩ => ⟨S8x2048x1024, .f32⟩
  | .hbm, ⟨103, _⟩ => ⟨S8x2048x1024, .f32⟩
  | .hbm, ⟨104, _⟩ => ⟨S8x2048x1024, .f32⟩
  | .hbm, ⟨105, _⟩ => ⟨S8x2048x1024, .f32⟩
  | .hbm, ⟨106, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_6 : Ref sig .tc := ⟨.hbm, 88, rfl⟩
abbrev main_v63 : Ref sig .tc := ⟨.hbm, 89, rfl⟩
abbrev main_v64 : Ref sig .tc := ⟨.hbm, 90, rfl⟩
abbrev main_cst_7 : Ref sig .tc := ⟨.hbm, 91, rfl⟩
abbrev main_v65 : Ref sig .tc := ⟨.hbm, 92, rfl⟩
abbrev main_v66 : Ref sig .tc := ⟨.hbm, 93, rfl⟩
abbrev main_cst_8 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== Kernel3.lean ====
abbrev S8x2048x1024 : Shape := ⟨3, ![8, 2048, 1024]⟩
abbrev S16x6144 : Shape := ⟨2, ![16, 6144]⟩
abbrev S1x1024 : Shape := ⟨2, ![1, 1024]⟩
abbrev S1x1024x2320 : Shape := ⟨3, ![1, 1024, 2320]⟩
abbrev S1x3x512 : Shape := ⟨3, ![1, 3, 512]⟩
abbrev S1x16 : Shape := ⟨2, ![1, 16]⟩
abbrev S1x512 : Shape := ⟨2, ![1, 512]⟩
abbrev S1024x2320 : Shape := ⟨2, ![1024, 2320]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S1024x16 : Shape := ⟨2, ![1024, 16]⟩
abbrev S_ : Shape := ⟨0, ![]⟩
abbrev S1024x128 : Shape := ⟨2, ![1024, 128]⟩
abbrev S1024x1792 : Shape := ⟨2, ![1024, 1792]⟩
abbrev S1024x656 : Shape := ⟨2, ![1024, 656]⟩
abbrev S656x1024 : Shape := ⟨2, ![656, 1024]⟩
abbrev S1x128 : Shape := ⟨2, ![1, 128]⟩
abbrev S16x1 : Shape := ⟨2, ![16, 1]⟩
abbrev S3x512 : Shape := ⟨2, ![3, 512]⟩
abbrev S2048 : Shape := ⟨1, ![2048]⟩
abbrev S16 : Shape := ⟨1, ![16]⟩
abbrev S2048x1 : Shape := ⟨2, ![2048, 1]⟩
abbrev S2048x16 : Shape := ⟨2, ![2048, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S8x2048x512 : Shape := ⟨3, ![8, 2048, 512]⟩
abbrev S8x2048x128 : Shape := ⟨3, ![8, 2048, 128]⟩
abbrev S8x128x2048 : Shape := ⟨3, ![8, 128, 2048]⟩
abbrev S8x16x512x128 : Shape := ⟨4, ![8, 16, 512, 128]⟩
abbrev S8x16x16x128 : Shape := ⟨4, ![8, 16, 16, 128]⟩
abbrev S1x2048x1024 : Shape := ⟨3, ![1, 2048, 1024]⟩
abbrev S1x8x1024 : Shape := ⟨3, ![1, 8, 1024]⟩
abbrev S8x1024 : Shape := ⟨2, ![8, 1024]⟩
abbrev S1x2048x512 : Shape := ⟨3, ![1, 2048, 512]⟩
abbrev S1x2048x128 : Shape := ⟨3, ![1, 2048, 128]⟩
abbrev S1x128x2048 : Shape := ⟨3, ![1, 128, 2048]⟩
abbrev S1x16x512x128 : Shape := ⟨4, ![1, 16, 512, 128]⟩
abbrev S1x16x16x128 : Shape := ⟨4, ![1, 16, 16, 128]⟩
abbrev S256x1 : Shape := ⟨2, ![256, 1]⟩
abbrev S1x256x1024 : Shape := ⟨3, ![1, 256, 1024]⟩
abbrev S256x1024 : Shape := ⟨2, ![256, 1024]⟩
abbrev S272x1024 : Shape := ⟨2, ![272, 1024]⟩
abbrev S272 : Shape := ⟨1, ![272]⟩
abbrev S272x1 : Shape := ⟨2, ![272, 1]⟩
abbrev S256x512 : Shape := ⟨2, ![256, 512]⟩
abbrev S1024x256 : Shape := ⟨2, ![1024, 256]⟩
abbrev S256x256 : Shape := ⟨2, ![256, 256]⟩
abbrev S256x128 : Shape := ⟨2, ![256, 128]⟩
abbrev S1x256x128 : Shape := ⟨3, ![1, 256, 128]⟩
abbrev S272x512 : Shape := ⟨2, ![272, 512]⟩
abbrev S656x256 : Shape := ⟨2, ![656, 256]⟩
abbrev S1x256x256 : Shape := ⟨3, ![1, 256, 256]⟩
abbrev S16x256 : Shape := ⟨2, ![16, 256]⟩
abbrev S128x256 : Shape := ⟨2, ![128, 256]⟩
abbrev S1x128x256 : Shape := ⟨3, ![1, 128, 256]⟩
abbrev S512x128 : Shape := ⟨2, ![512, 128]⟩
abbrev S1x1x512x128 : Shape := ⟨4, ![1, 1, 512, 128]⟩
abbrev S16x128 : Shape := ⟨2, ![16, 128]⟩
abbrev S1x1x16x128 : Shape := ⟨4, ![1, 1, 16, 128]⟩
abbrev S1x256x512 : Shape := ⟨3, ![1, 256, 512]⟩

abbrev nBuf : Space → Nat
  | .hbm => 123
  | .vmem => 36
  | .smem => 0
  | _ => 0

abbrev bufTy : (tb : Table) → Fin (tcTables nBuf tb) → BufTy
  | .hbm, ⟨0, _⟩ => ⟨S8x2048x1024, .f32⟩
  | .hbm, ⟨1, _⟩ => ⟨S16x6144, .f32⟩
  | .hbm, ⟨2, _⟩ => ⟨S1x1024, .f32⟩
  | .hbm, ⟨3, _⟩ => ⟨S1x1024x2320, .f32⟩
  | .hbm, ⟨4, _⟩ => ⟨S1x3x512, .f32⟩
  | .hbm, ⟨5, _⟩ => ⟨S1x16, .f32⟩
  | .hbm, ⟨6, _⟩ => ⟨S1x512, .f32⟩
  | .hbm, ⟨7, _⟩ => ⟨S1024x2320, .f32⟩
  | .hbm, ⟨8, _⟩ => ⟨S1024x512, .f32⟩
  | .hbm, ⟨9, _⟩ => ⟨S1024x2x4x64, .f32⟩
  | .hbm, ⟨10, _⟩ => ⟨S1024x4x2x64, .f32⟩
  | .hbm, ⟨11, _⟩ => ⟨S1024x512, .f32⟩
  | .hbm, ⟨12, _⟩ => ⟨S1024x16, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .f32⟩
  | .hbm, ⟨17, _⟩ => ⟨S1024x512, .f32⟩
  | .hbm, ⟨18, _⟩ => ⟨S1024x512, .f32⟩
  | .hbm, ⟨19, _⟩ => ⟨S1024x1792, .f32⟩
  | .hbm, ⟨20, _⟩ => ⟨S1024x1792, .bf16⟩
  | .hbm, ⟨21, _⟩ => ⟨S1024x128, .f32⟩
  | .hbm, ⟨22, _⟩ => ⟨S1024x512, .f32⟩
  | .hbm, ⟨23, _⟩ => ⟨S1024x16, .f32⟩
  | .hbm, ⟨24, _⟩ => ⟨S1024x656, .f32⟩
  | .hbm, ⟨25, _⟩ => ⟨S656x1024, .f32⟩
  | .hbm, ⟨26, _⟩ => ⟨S656x1024, .bf16⟩
  | .hbm, ⟨27, _⟩ => ⟨S_, .i32⟩
  | .hbm, ⟨28, _⟩ => ⟨S_, .f32⟩
  | .hbm, ⟨29, _⟩ => ⟨S1x128, .f32⟩
  | .hbm, ⟨30, _⟩ => ⟨S16x1, .f32⟩
  | .hbm, ⟨31, _⟩ => ⟨S3x512, .f32⟩
  | .hbm, ⟨32, _⟩ => ⟨S2048, .i32⟩
  | .hbm, ⟨33, _⟩ => ⟨S_, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S2048, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S_, .i32⟩
  | .hbm, ⟨61, _⟩ => ⟨S2048, .i32⟩
  | .hbm, ⟨62, _⟩ => ⟨S2048, .i1⟩
  | .hbm, ⟨63, _⟩ => ⟨S_, .i32⟩
  | .hbm, ⟨64, _⟩ => ⟨S2048, .i32⟩
  | .hbm, ⟨65, _⟩ => ⟨S2048, .i1⟩
  | .hbm, ⟨66, _⟩ => ⟨S_, .i32⟩
  | .hbm, ⟨67, _⟩ => ⟨S_, .i1⟩
  | .hbm, ⟨68, _⟩ => ⟨S2048, .i1⟩
  | .hbm, ⟨69, _⟩ => ⟨S2048, .i1⟩
  | .hbm, ⟨70, _⟩ => ⟨S2048, .i1⟩
  | .hbm, ⟨71, _⟩ => ⟨S2048, .i32⟩
  | .hbm, ⟨72, _⟩ => ⟨S2048, .i32⟩
  | .hbm, ⟨73, _⟩ => ⟨S2048, .i32⟩
  | .hbm, ⟨74, _⟩ => ⟨S2048, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S_, .f32⟩
  | .hbm, ⟨81, _⟩ => ⟨S16, .f32⟩
  | .hbm, ⟨82, _⟩ => ⟨S16, .f32⟩
  | .hbm, ⟨83, _⟩ => ⟨S2048x1, .f32⟩
  | .hbm, ⟨84, _⟩ => ⟨S1x16, .f32⟩
  | .hbm, ⟨85, _⟩ => ⟨S2048x16, .f32⟩
  | .hbm, ⟨86, _⟩ => ⟨S2048x16, .f32⟩
  | .hbm, ⟨87, _⟩ => ⟨S2048x16, .f32⟩
  | .hbm, ⟨88, _⟩ => ⟨S2048x1, .f32⟩
  | .hbm, ⟨89, _⟩ => ⟨S1x16, .f32⟩
  | .hbm, ⟨90, _⟩ => ⟨S2048x16, .f32⟩
  | .hbm, ⟨91, _⟩ => ⟨S2048x16, .f32⟩
  | .hbm, ⟨92, _⟩ => ⟨S2048x16, .f32⟩
  | .hbm, ⟨93, _⟩ => ⟨S_, .f32⟩
  | .hbm, ⟨94, _⟩ => ⟨S2048x16, .f32⟩
  | .hbm, ⟨95, _⟩ => ⟨S2048x16, .f32⟩
  | .hbm, ⟨96, _⟩ => ⟨S2048x16, .f32⟩
  | .hbm, ⟨97, _⟩ => ⟨S2048x64, .f32⟩
  | .hbm, ⟨98, _⟩ => ⟨S1x2048x1x64, .f32⟩
  | .hbm, ⟨99, _⟩ => ⟨S1x2048x2x64, .f32⟩
  | .hbm, ⟨100, _⟩ => ⟨S2048x128, .f32⟩
  | .hbm, ⟨101, _⟩ => ⟨S2048x16, .f32⟩
  | .hbm, ⟨102, _⟩ => ⟨S2048x16, .f32⟩
  | .hbm, ⟨103, _⟩ => ⟨S2048x16, .f32⟩
  | .hbm, ⟨104, _⟩ => ⟨S2048x16, .f32⟩
  | .hbm, ⟨105, _⟩ => ⟨S2048x64, .f32⟩
  | .hbm, ⟨106, _⟩ => ⟨S1x2048x1x64, .f32⟩
  | .hbm, ⟨107, _⟩ => ⟨S1x2048x2x64, .f32⟩
  | .hbm, ⟨108, _⟩ => ⟨S2048x128, .f32⟩
  | .hbm, ⟨109, _⟩ => ⟨S2048x16, .f32⟩
  | .hbm, ⟨110, _⟩ => ⟨S2048x16, .f32⟩
  | .hbm, ⟨111, _⟩ => ⟨S2048x64, .f32⟩
  | .hbm, ⟨112, _⟩ => ⟨S1x2048x1x64, .f32⟩
  | .hbm, ⟨113, _⟩ => ⟨S1x2048x2x64, .f32⟩
  | .hbm, ⟨114, _⟩ => ⟨S2048x128, .f32⟩
  | .hbm, ⟨115, _⟩ => ⟨S8x2048x512, .bf16⟩
  | .hbm, ⟨116, _⟩ => ⟨S8x2048x128, .bf16⟩
  | .hbm, ⟨117, _⟩ => ⟨S8x128x2048, .bf16⟩
  | .hbm, ⟨118, _⟩ => ⟨S8x2048x512, .bf16⟩
  | .hbm, ⟨119, _⟩ => ⟨S8x16x512x128, .bf16⟩
  | .hbm, ⟨120, _⟩ => ⟨S8x2048x512, .bf16⟩
  | .hbm, ⟨121, _⟩ => ⟨S8x2048x128, .f32⟩
  | .hbm, ⟨122, _⟩ => ⟨S8x16x16x128, .f32⟩
  | .local _ .vmem, ⟨0, _⟩ => ⟨S1x2048x1024, .f32⟩
  | .local _ .vmem, ⟨1, _⟩ => ⟨S1x2048x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S1x1024, .f32⟩
  | .local _ .vmem, ⟨11, _⟩ => ⟨S1024x1792, .bf16⟩
  | .local _ .vmem, ⟨12, _⟩ => ⟨S656x1024, .bf16⟩
  | .local _ .vmem, ⟨13, _⟩ => ⟨S1x128, .f32⟩
  | .local _ .vmem, ⟨14, _⟩ => ⟨S16x1, .f32⟩
  | .local _ .vmem, ⟨15, _⟩ => ⟨S3x512, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S1x512, .f32⟩
  | .local _ .vmem, ⟨20, _⟩ => ⟨S1x2048x512, .bf16⟩
  | .local _ .vmem, ⟨21, _⟩ => ⟨S1x2048x512, .bf16⟩
  | .local _ .vmem, ⟨22, _⟩ => ⟨S1x2048x128, .bf16⟩
  | .local _ .vmem, ⟨23, _⟩ => ⟨S1x2048x128, .bf16⟩
  | .local _ .vmem, ⟨24, _⟩ => ⟨S1x128x2048, .bf16⟩
  | .local _ .vmem, ⟨25, _⟩ => ⟨S1x128x2048, .bf16⟩
  | .local _ .vmem, ⟨26, _⟩ => ⟨S1x2048x512, .bf16⟩
  | .local _ .vmem, ⟨27, _⟩ => ⟨S1x2048x512, .bf16⟩
  | .local _ .vmem, ⟨28, _⟩ => ⟨S1x16x512x128, .bf16⟩
  | .local _ .vmem, ⟨29, _⟩ => ⟨S1x16x512x128, .bf16⟩
  | .local _ .vmem, ⟨30, _⟩ => ⟨S1x2048x512, .bf16⟩
  | .local _ .vmem, ⟨31, _⟩ => ⟨S1x2048x512, .bf16⟩
  | .local _ .vmem, ⟨32, _⟩ => ⟨S1x2048x128, .f32⟩
  | .local _ .vmem, ⟨33, _⟩ => ⟨S1x2048x128, .f32⟩
  | .local _ .vmem, ⟨34, _⟩ => ⟨S1x16x16x128, .f32⟩
  | .local _ .vmem, ⟨35, _⟩ => ⟨S1x16x16x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_call1_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_1 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_c : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_0 : Ref sig .tc := ⟨.hbm, 47, rfl⟩
abbrev main_call2_v12 : Ref sig .tc := ⟨.hbm, 48, rfl⟩
abbrev main_call2_v13 : Ref sig .tc := ⟨.hbm, 49, rfl⟩
abbrev main_v22 : Ref sig .tc := ⟨.hbm, 50, rfl⟩
abbrev main_v23 : Ref sig .tc := ⟨.hbm, 51, rfl⟩
abbrev main_c_2 : Ref sig .tc := ⟨.hbm, 52, rfl⟩
abbrev main_call3_v0 : Ref sig .tc := ⟨.hbm, 53, rfl⟩
abbrev main_call3_c : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_c_1 : Ref sig .tc := ⟨.hbm, 60, rfl⟩
abbrev main_call3_v5 : Ref sig .tc := ⟨.hbm, 61, rfl⟩
abbrev main_call3_v6 : Ref sig .tc := ⟨.hbm, 62, rfl⟩
abbrev main_call3_c_2 : Ref sig .tc := ⟨.hbm, 63, rfl⟩
abbrev main_call3_v7 : Ref sig .tc := ⟨.hbm, 64, rfl⟩
abbrev main_call3_v8 : Ref sig .tc := ⟨.hbm, 65, rfl⟩
abbrev main_call3_c_3 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_v12 : Ref sig .tc := ⟨.hbm, 70, rfl⟩
abbrev main_call3_v13 : Ref sig .tc := ⟨.hbm, 71, rfl⟩
abbrev main_call3_v14 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_cst : Ref sig .tc := ⟨.hbm, 77, rfl⟩
abbrev main_v28 : Ref sig .tc := ⟨.hbm, 78, rfl⟩
abbrev main_v29 : Ref sig .tc := ⟨.hbm, 79, rfl⟩
abbrev main_cst_3 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_cst_4 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63_0 : Ref sig .tc := ⟨.hbm, 115, rfl⟩
abbrev main_v63_1 : Ref sig .tc := ⟨.hbm, 116, rfl⟩
abbrev main_v63_2 : Ref sig .tc := ⟨.hbm, 117, rfl⟩
abbrev main_v63_3 : Ref sig .tc := ⟨.hbm, 118, rfl⟩
abbrev main_v63_4 : Ref sig .tc := ⟨.hbm, 119, rfl⟩
abbrev main_v63_5 : Ref sig .tc := ⟨.hbm, 120, rfl⟩
abbrev main_v63_6 : Ref sig .tc := ⟨.hbm, 121, rfl⟩
abbrev main_v63_7 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨2, ![1, 8], ![false, false]⟩

def k0_off1 (i : grid0.Coords) : Fin 2 → Nat :=
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v11 : Index := Scalar.indexCast v9
  let c0_4 : Index := 0#32
  ![v11.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg1.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c256_i32 : BitVec 32 := 256#32
  let v1 : BitVec 32 := Scalar.muli v0 c256_i32
  let c255_i32 : BitVec 32 := 255#32
  let v2 : BitVec 32 := Scalar.minsi v1 c255_i32
  let c0_i32 : BitVec 32 := 0#32
  let c0_i32_0 : BitVec 32 := 0#32
  ![arg1.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  ![v16.toNat, c1_i32_4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1792 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S656x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S2048x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x2048x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2048x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2048x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x16x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x2048x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x2048x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x16x16x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference3Ideal.lean ====
abbrev S8x2048x1024 : Shape := ⟨3, ![8, 2048, 1024]⟩
abbrev S16x6144 : Shape := ⟨2, ![16, 6144]⟩
abbrev S1x1024 : Shape := ⟨2, ![1, 1024]⟩
abbrev S1x1024x2320 : Shape := ⟨3, ![1, 1024, 2320]⟩
abbrev S1x3x512 : Shape := ⟨3, ![1, 3, 512]⟩
abbrev S1x16 : Shape := ⟨2, ![1, 16]⟩
abbrev S1x512 : Shape := ⟨2, ![1, 512]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S2048x16 : Shape := ⟨2, ![2048, 16]⟩
abbrev S2048x1x16 : Shape := ⟨3, ![2048, 1, 16]⟩
abbrev S8x6144 : Shape := ⟨2, ![8, 6144]⟩
abbrev S8x1x6144 : Shape := ⟨3, ![8, 1, 6144]⟩
abbrev S8x1x1024 : Shape := ⟨3, ![8, 1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1024x2320 : Shape := ⟨2, ![1024, 2320]⟩
abbrev S8x2048x2320 : Shape := ⟨3, ![8, 2048, 2320]⟩
abbrev S8x2048x512 : Shape := ⟨3, ![8, 2048, 512]⟩
abbrev S8x2048x128 : Shape := ⟨3, ![8, 2048, 128]⟩
abbrev S8x2048x256 : Shape := ⟨3, ![8, 2048, 256]⟩
abbrev S8x2048x16 : Shape := ⟨3, ![8, 2048, 16]⟩
abbrev S8x2048x8x64 : Shape := ⟨4, ![8, 2048, 8, 64]⟩
abbrev S8x2048x8x32 : Shape := ⟨4, ![8, 2048, 8, 32]⟩
abbrev S8x2048x8x16 : Shape := ⟨4, ![8, 2048, 8, 16]⟩
abbrev S1x2048x1x16 : Shape := ⟨4, ![1, 2048, 1, 16]⟩
abbrev S8x2048x2x4x64 : Shape := ⟨5, ![8, 2048, 2, 4, 64]⟩
abbrev S8x2048x4x2x64 : Shape := ⟨5, ![8, 2048, 4, 2, 64]⟩
abbrev S8x2048x2x64 : Shape := ⟨4, ![8, 2048, 2, 64]⟩
abbrev S8x2048x2x32 : Shape := ⟨4, ![8, 2048, 2, 32]⟩
abbrev S8x2048x2x16 : Shape := ⟨4, ![8, 2048, 2, 16]⟩
abbrev S3x512 : Shape := ⟨2, ![3, 512]⟩
abbrev S8x2050x512 : Shape := ⟨3, ![8, 2050, 512]⟩
abbrev S512 : Shape := ⟨1, ![512]⟩
abbrev S1x1x512 : Shape := ⟨3, ![1, 1, 512]⟩
abbrev S1x1x16 : Shape := ⟨3, ![1, 1, 16]⟩
abbrev S8x128x2048 : Shape := ⟨3, ![8, 128, 2048]⟩
abbrev S8x16x128x512 : Shape := ⟨4, ![8, 16, 128, 512]⟩
abbrev S8x16x512x128 : Shape := ⟨4, ![8, 16, 512, 128]⟩
abbrev S8x16x128x16 : Shape := ⟨4, ![8, 16, 128, 16]⟩
abbrev S8x16x16x128 : Shape := ⟨4, ![8, 16, 16, 128]⟩

abbrev nBuf : Space → Nat
  | .hbm => 234
  | .vmem => 0
  | .smem => 0
  | _ => 0

abbrev hbmTy0_0 (i : Nat) : BufTy := match i % 128 with
  | 0 => ⟨S8x2048x1024, .f32⟩
  | 1 => ⟨S16x6144, .f32⟩
  | 2 => ⟨S1x1024, .f32⟩
  | 3 => ⟨S1x1024x2320, .f32⟩
  | 4 => ⟨S1x3x512, .f32⟩
  | 5 => ⟨S1x16, .f32⟩
  | 6 => ⟨S1x512, .f32⟩
  | 7 => ⟨S32, .f32⟩
  | 8 => ⟨S32x64, .f32⟩
  | 9 => ⟨S2048, .f32⟩
  | 10 => ⟨S64, .f32⟩
  | 11 => ⟨S1x64, .f32⟩
  | 12 => ⟨S32x64, .f32⟩
  | 13 => ⟨S2048, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S2048x1, .f32⟩
  | 23 => ⟨S1x16, .f32⟩
  | 24 => ⟨S2048x16, .f32⟩
  | 25 => ⟨S2048x16, .f32⟩
  | 26 => ⟨S2048x16, .f32⟩
  | 27 => ⟨S2048x1x16, .f32⟩
  | 28 => ⟨S2048x1, .f32⟩
  | 29 => ⟨S1x16, .f32⟩
  | 30 => ⟨S2048x16, .f32⟩
  | 31 => ⟨S2048x16, .f32⟩
  | 32 => ⟨S2048x16, .f32⟩
  | 33 => ⟨S2048x1x16, .f32⟩
  | 34 => ⟨S8x6144, .f32⟩
  | 35 => ⟨S8x1x6144, .f32⟩
  | 36 => ⟨S8x1x1024, .f32⟩
  | 37 => ⟨S8x1x1024, .f32⟩
  | 38 => ⟨S8x1x1024, .f32⟩
  | 39 => ⟨S8x1x1024, .f32⟩
  | 40 => ⟨S8x1x1024, .f32⟩
  | 41 => ⟨S8x1x1024, .f32⟩
  | 42 => ⟨S1024, .f32⟩
  | 43 => ⟨S8x2048x1024, .f32⟩
  | 44 => ⟨S_, .f32⟩
  | 45 => ⟨S8x2048, .f32⟩
  | 46 => ⟨S8x2048x1, .f32⟩
  | 47 => ⟨S_, .f32⟩
  | 48 => ⟨S8x2048x1, .f32⟩
  | 49 => ⟨S8x2048x1, .f32⟩
  | 50 => ⟨S_, .f32⟩
  | 51 => ⟨S8x2048x1, .f32⟩
  | 52 => ⟨S8x2048x1, .f32⟩
  | 53 => ⟨S8x2048x1, .f32⟩
  | 54 => ⟨S8x2048x1024, .f32⟩
  | 55 => ⟨S8x2048x1024, .f32⟩
  | 56 => ⟨S1x1x1024, .f32⟩
  | 57 => ⟨S8x2048x1024, .f32⟩
  | 58 => ⟨S8x2048x1024, .f32⟩
  | 59 => ⟨S_, .f32⟩
  | 60 => ⟨S8x1x1024, .f32⟩
  | 61 => ⟨S8x1x1024, .f32⟩
  | 62 => ⟨S8x2048x1024, .f32⟩
  | 63 => ⟨S8x2048x1024, .f32⟩
  | 64 => ⟨S8x2048x1024, .f32⟩
  | 65 => ⟨S8x2048x1024, .f32⟩
  | 66 => ⟨S1024x2320, .f32⟩
  | 67 => ⟨S8x2048x2320, .f32⟩
  | 68 => ⟨S8x2048x512, .f32⟩
  | 69 => ⟨S8x2048x128, .f32⟩
  | 70 => ⟨S8x2048x128, .f32⟩
  | 71 => ⟨S8x2048x256, .f32⟩
  | 72 => ⟨S8x2048x256, .f32⟩
  | 73 => ⟨S8x2048x512, .f32⟩
  | 74 => ⟨S8x2048x512, .f32⟩
  | 75 => ⟨S8x2048x16, .f32⟩
  | 76 => ⟨S8x2048x8x64, .f32⟩
  | 77 => ⟨S8x2048x8x32, .f32⟩
  | 78 => ⟨S8x2048x8x32, .f32⟩
  | 79 => ⟨S2048x1x16, .f32⟩
  | 80 => ⟨S2048x1x16, .f32⟩
  | 81 => ⟨S8x2048x8x16, .f32⟩
  | 82 => ⟨S8x2048x8x16, .f32⟩
  | 83 => ⟨S1x2048x1x16, .f32⟩
  | 84 => ⟨S8x2048x8x16, .f32⟩
  | 85 => ⟨S8x2048x8x16, .f32⟩
  | 86 => ⟨S1x2048x1x16, .f32⟩
  | 87 => ⟨S8x2048x8x16, .f32⟩
  | 88 => ⟨S8x2048x8x16, .f32⟩
  | 89 => ⟨S8x2048x8x16, .f32⟩
  | 90 => ⟨S1x2048x1x16, .f32⟩
  | 91 => ⟨S8x2048x8x16, .f32⟩
  | 92 => ⟨S8x2048x8x16, .f32⟩
  | 93 => ⟨S1x2048x1x16, .f32⟩
  | 94 => ⟨S8x2048x8x16, .f32⟩
  | 95 => ⟨S8x2048x8x16, .f32⟩
  | 96 => ⟨S8x2048x8x16, .f32⟩
  | 97 => ⟨S8x2048x8x32, .f32⟩
  | 98 => ⟨S2048x1x16, .f32⟩
  | 99 => ⟨S2048x1x16, .f32⟩
  | 100 => ⟨S8x2048x8x16, .f32⟩
  | 101 => ⟨S8x2048x8x16, .f32⟩
  | 102 => ⟨S1x2048x1x16, .f32⟩
  | 103 => ⟨S8x2048x8x16, .f32⟩
  | 104 => ⟨S8x2048x8x16, .f32⟩
  | 105 => ⟨S1x2048x1x16, .f32⟩
  | 106 => ⟨S8x2048x8x16, .f32⟩
  | 107 => ⟨S8x2048x8x16, .f32⟩
  | 108 => ⟨S8x2048x8x16, .f32⟩
  | 109 => ⟨S1x2048x1x16, .f32⟩
  | 110 => ⟨S8x2048x8x16, .f32⟩
  | 111 => ⟨S8x2048x8x16, .f32⟩
  | 112 => ⟨S1x2048x1x16, .f32⟩
  | 113 => ⟨S8x2048x8x16, .f32⟩
  | 114 => ⟨S8x2048x8x16, .f32⟩
  | 115 => ⟨S8x2048x8x16, .f32⟩
  | 116 => ⟨S8x2048x8x32, .f32⟩
  | 117 => ⟨S8x2048x8x64, .f32⟩
  | 118 => ⟨S8x2048x2x4x64, .f32⟩
  | 119 => ⟨S8x2048x4x2x64, .f32⟩
  | 120 => ⟨S8x2048x512, .f32⟩
  | 121 => ⟨S8x2048x2x64, .f32⟩
  | 122 => ⟨S8x2048x2x32, .f32⟩
  | 123 => ⟨S8x2048x2x32, .f32⟩
  | 124 => ⟨S2048x1x16, .f32⟩
  | 125 => ⟨S2048x1x16, .f32⟩
  | 126 => ⟨S8x2048x2x16, .f32⟩
  | 127 => ⟨S8x2048x2x16, .f32⟩
  | _ => ⟨S8x2048x1024, .f32⟩

abbrev hbmTy0_1 (i : Nat) : BufTy := match i % 128 with
  | 0 => ⟨S1x2048x1x16, .f32⟩
  | 1 => ⟨S8x2048x2x16, .f32⟩
  | 2 => ⟨S8x2048x2x16, .f32⟩
  | 3 => ⟨S1x2048x1x16, .f32⟩
  | 4 => ⟨S8x2048x2x16, .f32⟩
  | 5 => ⟨S8x2048x2x16, .f32⟩
  | 6 => ⟨S8x2048x2x16, .f32⟩
  | 7 => ⟨S1x2048x1x16, .f32⟩
  | 8 => ⟨S8x2048x2x16, .f32⟩
  | 9 => ⟨S8x2048x2x16, .f32⟩
  | 10 => ⟨S1x2048x1x16, .f32⟩
  | 11 => ⟨S8x2048x2x16, .f32⟩
  | 12 => ⟨S8x2048x2x16, .f32⟩
  | 13 => ⟨S8x2048x2x16, .f32⟩
  | 14 => ⟨S8x2048x2x32, .f32⟩
  | 15 => ⟨S2048x1x16, .f32⟩
  | 16 => ⟨S2048x1x16, .f32⟩
  | 17 => ⟨S8x2048x2x16, .f32⟩
  | 18 => ⟨S8x2048x2x16, .f32⟩
  | 19 => ⟨S1x2048x1x16, .f32⟩
  | 20 => ⟨S8x2048x2x16, .f32⟩
  | 21 => ⟨S8x2048x2x16, .f32⟩
  | 22 => ⟨S1x2048x1x16, .f32⟩
  | 23 => ⟨S8x2048x2x16, .f32⟩
  | 24 => ⟨S8x2048x2x16, .f32⟩
  | 25 => ⟨S8x2048x2x16, .f32⟩
  | 26 => ⟨S1x2048x1x16, .f32⟩
  | 27 => ⟨S8x2048x2x16, .f32⟩
  | 28 => ⟨S8x2048x2x16, .f32⟩
  | 29 => ⟨S1x2048x1x16, .f32⟩
  | 30 => ⟨S8x2048x2x16, .f32⟩
  | 31 => ⟨S8x2048x2x16, .f32⟩
  | 32 => ⟨S8x2048x2x16, .f32⟩
  | 33 => ⟨S8x2048x2x32, .f32⟩
  | 34 => ⟨S8x2048x2x64, .f32⟩
  | 35 => ⟨S8x2048x128, .f32⟩
  | 36 => ⟨S8x2048x512, .f32⟩
  | 37 => ⟨S3x512, .f32⟩
  | 38 => ⟨S_, .i32⟩
  | 39 => ⟨S_, .f32⟩
  | 40 => ⟨S8x2050x512, .f32⟩
  | 41 => ⟨S8x2048x512, .f32⟩
  | 42 => ⟨S1x512, .f32⟩
  | 43 => ⟨S512, .f32⟩
  | 44 => ⟨S1x1x512, .f32⟩
  | 45 => ⟨S8x2048x512, .f32⟩
  | 46 => ⟨S8x2048x512, .f32⟩
  | 47 => ⟨S8x2048x512, .f32⟩
  | 48 => ⟨S1x512, .f32⟩
  | 49 => ⟨S512, .f32⟩
  | 50 => ⟨S1x1x512, .f32⟩
  | 51 => ⟨S8x2048x512, .f32⟩
  | 52 => ⟨S8x2048x512, .f32⟩
  | 53 => ⟨S8x2048x512, .f32⟩
  | 54 => ⟨S8x2048x512, .f32⟩
  | 55 => ⟨S1x512, .f32⟩
  | 56 => ⟨S512, .f32⟩
  | 57 => ⟨S1x1x512, .f32⟩
  | 58 => ⟨S8x2048x512, .f32⟩
  | 59 => ⟨S8x2048x512, .f32⟩
  | 60 => ⟨S8x2048x512, .f32⟩
  | 61 => ⟨S8x2048x512, .f32⟩
  | 62 => ⟨S8x2048x512, .f32⟩
  | 63 => ⟨S_, .f32⟩
  | 64 => ⟨S8x2048x512, .f32⟩
  | 65 => ⟨S8x2048x512, .f32⟩
  | 66 => ⟨S_, .f32⟩
  | 67 => ⟨S8x2048x512, .f32⟩
  | 68 => ⟨S8x2048x512, .f32⟩
  | 69 => ⟨S8x2048x512, .f32⟩
  | 70 => ⟨S8x2048x256, .f32⟩
  | 71 => ⟨S8x2048x256, .f32⟩
  | 72 => ⟨S_, .f32⟩
  | 73 => ⟨S8x2048x256, .f32⟩
  | 74 => ⟨S8x2048x256, .f32⟩
  | 75 => ⟨S8x2048x512, .f32⟩
  | 76 => ⟨S16, .f32⟩
  | 77 => ⟨S1x1x16, .f32⟩
  | 78 => ⟨S8x2048x16, .f32⟩
  | 79 => ⟨S8x2048x16, .f32⟩
  | 80 => ⟨S8x2048x512, .f32⟩
  | 81 => ⟨S8x2048x512, .f32⟩
  | 82 => ⟨S_, .f32⟩
  | 83 => ⟨S8x2048x512, .f32⟩
  | 84 => ⟨S8x2048x512, .f32⟩
  | 85 => ⟨S_, .f32⟩
  | 86 => ⟨S8x2048x512, .f32⟩
  | 87 => ⟨S8x2048x512, .f32⟩
  | 88 => ⟨S512, .f32⟩
  | 89 => ⟨S1x1x512, .f32⟩
  | 90 => ⟨S8x2048x512, .f32⟩
  | 91 => ⟨S8x2048x512, .f32⟩
  | 92 => ⟨S8x2048x512, .bf16⟩
  | 93 => ⟨S8x2048x128, .bf16⟩
  | 94 => ⟨S8x128x2048, .f32⟩
  | 95 => ⟨S8x128x2048, .bf16⟩
  | 96 => ⟨S8x2048x512, .bf16⟩
  | 97 => ⟨S8x16x128x512, .f32⟩
  | 98 => ⟨S8x16x512x128, .f32⟩
  | 99 => ⟨S8x16x512x128, .bf16⟩
  | 100 => ⟨S8x2048x512, .bf16⟩
  | 101 => ⟨S_, .i32⟩
  | 102 => ⟨S_, .f32⟩
  | 103 => ⟨S8x2048x128, .f32⟩
  | 104 => ⟨S8x16x128x16, .f32⟩
  | 105 => ⟨S8x16x16x128, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_c : Ref sig .tc := ⟨.hbm, 166, rfl⟩
abbrev main_call0_v0 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_call1_v0 : Ref sig .tc := ⟨.hbm, 189, rfl⟩
abbrev main_call1_v1 : Ref sig .tc := ⟨.hbm, 190, rfl⟩
abbrev main_call1_cst : Ref sig .tc := ⟨.hbm, 191, rfl⟩
abbrev main_call1_v2 : Ref sig .tc := ⟨.hbm, 192, rfl⟩
abbrev main_call1_v3 : Ref sig .tc := ⟨.hbm, 193, rfl⟩
abbrev main_call1_cst_0 : Ref sig .tc := ⟨.hbm, 194, rfl⟩
abbrev main_call1_v4 : Ref sig .tc := ⟨.hbm, 195, rfl⟩
abbrev main_call1_v5 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_cst_5 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_cst_6 : Ref sig .tc := ⟨.hbm, 210, rfl⟩
abbrev main_v186 : Ref sig .tc := ⟨.hbm, 211, rfl⟩
abbrev main_v187 : Ref sig .tc := ⟨.hbm, 212, rfl⟩
abbrev main_cst_7 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_c_8 : Ref sig .tc := ⟨.hbm, 229, rfl⟩
abbrev main_call2_v0 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩

abbrev nD : Nat := 1
abbrev τ : Topo := Topo.v7x

variable {F : FTy → Type} [FloatOps F]
-- ==== Proof.Attn.Unit.lean ====
/- One unit of the attention call's body — a block of 128 queries and one half of the head groups — written once for
   every unit, over any float values, and the body's output as the canon of the units' tiles. -/
module

public import proofs.«01_k».proof.Proof.Gen.KernelIdeal.Frame

@[expose] public section

set_option maxRecDepth 16384

noncomputable section

namespace Cert.Attn

open Cert.KernelIdeal Cert.KernelIdeal.Gen Idealize.ShloMosaic Idealize.SL.Sem

variable {F : FTy → Type} [FloatOps F] [Named F]

/-- The lane (head dimension) of each element of a 128 by 128 tile. -/
def lane : IVec S128x128 32 := iota .tc S128x128 32 [1] iota_S128x128_d1_w32

/-- The row of each element of a 128 by 128 tile. -/
def row : IVec S128x128 32 := iota .tc S128x128 32 [0] iota_S128x128_d0_w32

/-- The zero tile. -/
def zeroTile : FVec F S128x128 .bf16 := broadcast S128x128 (Scalar.ofBits .bf16 0x0000#16)

/-- The tile of minus infinity. -/
def ninf : FVec F S128x128 .f32 := broadcast S128x128 (Scalar.ofBits .f32 0xFF800000#32)

/-- The bias of the block of keys before the queries': a key that lies more than 128 back is masked. -/
def biasPrev : FVec F S128x128 .f32 :=
  select (cmpi .sge row lane) (broadcast S128x128 (Scalar.ofBits .f32 0x00000000#32)) ninf

/-- The bias of the block of keys after the queries': a key that lies more than 128 ahead is masked. -/
def biasNext : FVec F S128x128 .f32 :=
  select (cmpi .sle row lane) (broadcast S128x128 (Scalar.ofBits .f32 0x00000000#32)) ninf

/-- Block `b`'s bias for the keys before it: at the first block there are none. -/
def bp : Nat → FVec F S128x128 .f32
  | 0 => ninf
  | _ + 1 => biasPrev

/-- Block `b`'s bias for the keys after it: at the last block there are none. -/
def bn (b : Nat) : FVec F S128x128 .f32 := if b = 15 then ninf else biasNext

/-- A block of queries times the scale of the scores. -/
def scaled (q : Vec F S1x128x512 .bf16) : FVec F S128x512 .bf16 :=
  truncf .bf16 (mulf (extf .f32 (shapeCast S128x512 q shapeCasts_S1x128x512_S128x512) bitsLt_bf16_f32)
    (broadcast S128x512 (Named.named κ "qscale" 0x3E38AA3B#32))) bitsLt_bf16_f32

/-- Two groups' queries stacked by head: each slab twice, once with the lanes of the first key-value head alone and once
    with those of the second. -/
def stack (a b : FVec F S128x128 .bf16) : FVec F S512x128 .bf16 :=
  concatenate S512x128 0 [⟨S128x128, select (cmpi .slt lane (broadcast S128x128 64#32)) a zeroTile⟩,
    ⟨S128x128, select (cmpi .sge lane (broadcast S128x128 64#32)) a zeroTile⟩,
    ⟨S128x128, select (cmpi .slt lane (broadcast S128x128 64#32)) b zeroTile⟩,
    ⟨S128x128, select (cmpi .sge lane (broadcast S128x128 64#32)) b zeroTile⟩]
    concatenates_S128x128_S128x128_S128x128_S128x128_S512x128_d0

/-- The stacked queries of the first two groups. -/
def heads0 (q : Vec F S1x128x512 .bf16) : FVec F S512x128 .bf16 :=
  stack (extractStridedSlice S128x128 ![0, 0] (scaled q) slices_S128x512_o0_0_S128x128)
    (extractStridedSlice S128x128 ![0, 128] (scaled q) slices_S128x512_o0_128_S128x128)

/-- The stacked queries of the last two groups. -/
def heads1 (q : Vec F S1x128x512 .bf16) : FVec F S512x128 .bf16 :=
  stack (extractStridedSlice S128x128 ![0, 256] (scaled q) slices_S128x512_o0_256_S128x128)
    (extractStridedSlice S128x128 ![0, 384] (scaled q) slices_S128x512_o0_384_S128x128)

/-- A block of 128 keys or value lanes as a tile. -/
def tile (k : Vec F S1x128x128 .bf16) : FVec F S128x128 .bf16 := shapeCast S128x128 k shapeCasts_S1x128x128_S128x128

/-- The products of a block of keys with the stacked queries. -/
def sLoc (k : FVec F S128x128 .bf16) (h : FVec F S512x128 .bf16) : FVec F S128x512 .f32 :=
  matmul dot_S128x128_S512x128_S128x512_1_1_0_0_n_n none k h (constant S128x512 .f32 0x00000000#32)

/-- The products of the context's keys with the stacked queries. -/
def sCtx (k : Vec F S1x256x128 .bf16) (h : FVec F S512x128 .bf16) : FVec F S256x512 .f32 :=
  matmul dot_S256x128_S512x128_S256x512_1_1_0_0_n_n none (shapeCast S256x128 k shapeCasts_S1x256x128_S256x128) h
    (constant S256x512 .f32 0x00000000#32)

/-- A tile's bias beside itself for each of the four stacked heads. -/
def slots (b : FVec F S128x128 .f32) : FVec F S128x512 .f32 :=
  concatenate S128x512 1 [⟨S128x128, b⟩, ⟨S128x128, b⟩, ⟨S128x128, b⟩, ⟨S128x128, b⟩]
    concatenates_S128x128_S128x128_S128x128_S128x128_S128x512_d1

/-- The scores of all 640 keys: the block before, the queries' own, the block after, the context. -/
def scores (b₁ b₂ : FVec F S128x128 .f32) (kp kc kn : FVec F S128x128 .bf16) (kx : Vec F S1x256x128 .bf16)
    (h : FVec F S512x128 .bf16) : FVec F S640x512 .f32 :=
  concatenate S640x512 0 [⟨S128x512, addf (sLoc kp h) (slots b₁)⟩, ⟨S128x512, sLoc kc h⟩,
    ⟨S128x512, addf (sLoc kn h) (slots b₂)⟩, ⟨S256x512, sCtx kx h⟩]
    concatenates_S128x512_S128x512_S128x512_S256x512_S640x512_d0

/-- The sink's scores, times the logarithm's base. -/
def sinkRow (s : Vec F S1x512 .f32) : FVec F S1x512 .f32 :=
  mulf (shapeCast S1x512 s shapeCasts_S1x512_S1x512) (broadcast S1x512 (Named.named κ "log2e" 0x3FB8AA3B#32))

/-- The greatest score of each query, the sink's among them. -/
def top (sk : FVec F S1x512 .f32) (s : FVec F S640x512 .f32) : FVec F S1x512 .f32 :=
  maximumf sk (shapeCast S1x512
    (multiReduction .maximumf [0] S512 s 0xFF800000#32 reduces_S640x512_S512 (.inl rfl) rfl) shapeCasts_S512_S1x512)

/-- The weights before the division. -/
def weights (sk : FVec F S1x512 .f32) (s : FVec F S640x512 .f32) : FVec F S640x512 .bf16 :=
  truncf .bf16 (exp2 (subf s (broadcastTo S640x512 (top sk s) broadcasts_S1x512_S640x512))) bitsLt_bf16_f32

/-- The sink's weight before the division. -/
def sinkWeight (sk : FVec F S1x512 .f32) (s : FVec F S640x512 .f32) : FVec F S1x512 .f32 := exp2 (subf sk (top sk s))

/-- The weighted values of each query, and below them, in sixteen equal rows, the sum of its weights. -/
def valued (vp vc vn : FVec F S128x128 .bf16) (vx : Vec F S1x128x256 .bf16) (p : FVec F S640x512 .bf16) :
    FVec F S144x512 .f32 :=
  matmul dot_S144x640_S640x512_S144x512_1_0_0_1_n_n none
    (concatenate S144x640 0 [⟨S128x640, concatenate S128x640 1 [⟨S128x128, vp⟩, ⟨S128x128, vc⟩, ⟨S128x128, vn⟩,
        ⟨S128x256, shapeCast S128x256 vx shapeCasts_S1x128x256_S128x256⟩]
        concatenates_S128x128_S128x128_S128x128_S128x256_S128x640_d1⟩,
      ⟨S16x640, broadcast S16x640 (Scalar.ofBits .bf16 0x3F80#16)⟩] concatenates_S128x640_S16x640_S144x640_d0)
    p (constant S144x512 .f32 0x00000000#32)

/-- The weighted values divided by the sum of the weights, the sink's among them. -/
def normed (ps : FVec F S1x512 .f32) (ot : FVec F S144x512 .f32) : FVec F S128x512 .f32 :=
  mulf (extractStridedSlice S128x512 ![0, 0] ot slices_S144x512_o0_0_S128x512)
    (broadcastTo S128x512 (divf (broadcast S1x512 (Scalar.ofBits .f32 0x3F800000#32))
      (addf (extractStridedSlice S1x512 ![128, 0] ot slices_S144x512_o128_0_S1x512) ps)) broadcasts_S1x512_S128x512)

/-- Two heads' tiles joined by lane and turned to queries by lanes. -/
def joined (a b : FVec F S128x128 .f32) : FVec F S1x128x128 .bf16 :=
  shapeCast S1x128x128 (truncf .bf16 (transpose S128x128 [1, 0]
    (select (cmpi .slt row (broadcast S128x128 64#32)) a b) transposes_S128x128_p1_0_S128x128) bitsLt_bf16_f32)
    shapeCasts_S128x128_S1x128x128

/-- The first group's tile of a unit. -/
def emit0 (o : FVec F S128x512 .f32) : FVec F S1x128x128 .bf16 :=
  joined (extractStridedSlice S128x128 ![0, 0] o slices_S128x512_o0_0_S128x128)
    (extractStridedSlice S128x128 ![0, 128] o slices_S128x512_o0_128_S128x128)

/-- The second group's tile of a unit. -/
def emit1 (o : FVec F S128x512 .f32) : FVec F S1x128x128 .bf16 :=
  joined (extractStridedSlice S128x128 ![0, 256] o slices_S128x512_o0_256_S128x128)
    (extractStridedSlice S128x128 ![0, 384] o slices_S128x512_o0_384_S128x128)

/-- A unit: from its keys, values, biases, stacked queries and sink to its weighted values. -/
def unit (b₁ b₂ : FVec F S128x128 .f32) (kp kc kn : FVec F S128x128 .bf16) (kx : Vec F S1x256x128 .bf16)
    (vp vc vn : FVec F S128x128 .bf16) (vx : Vec F S1x128x256 .bf16) (h : FVec F S512x128 .bf16)
    (sk : FVec F S1x512 .f32) : FVec F S128x512 .f32 :=
  normed (sinkWeight sk (scores b₁ b₂ kp kc kn kx h))
    (valued vp vc vn vx (weights sk (scores b₁ b₂ kp kc kn kx h)))

/-- The rows of block `b` of the keys, -/
abbrev rK (b : Nat) (h : b < 16) : Rect S1x2048x128 :=
  Rect.unit (s := S1x2048x128) ![0, 128 * b, 0] S1x128x128.size (fun a => match a with
    | ⟨0, _⟩ => by show 0 + 1 ≤ 1; omega
    | ⟨1, _⟩ => by show 128 * b + 128 ≤ 2048; omega
    | ⟨2, _⟩ => by show 0 + 128 ≤ 128; omega)

/-- the columns of block `b` of the values, -/
abbrev rV (b : Nat) (h : b < 16) : Rect S1x128x2048 :=
  Rect.unit (s := S1x128x2048) ![0, 0, 128 * b] S1x128x128.size (fun a => match a with
    | ⟨0, _⟩ => by show 0 + 1 ≤ 1; omega
    | ⟨1, _⟩ => by show 0 + 128 ≤ 128; omega
    | ⟨2, _⟩ => by show 128 * b + 128 ≤ 2048; omega)

/-- the rows of block `b` of the queries, -/
abbrev rQ (b : Nat) (h : b < 16) : Rect S1x2048x512 :=
  Rect.unit (s := S1x2048x512) ![0, 128 * b, 0] S1x128x512.size (fun a => match a with
    | ⟨0, _⟩ => by show 0 + 1 ≤ 1; omega
    | ⟨1, _⟩ => by show 128 * b + 128 ≤ 2048; omega
    | ⟨2, _⟩ => by show 0 + 512 ≤ 512; omega)

/-- and the tile of block `b` and group `g` of the result. -/
abbrev rO (b g : Nat) (h : b < 16) (hg : g < 4) : Rect S1x2048x512 :=
  Rect.unit (s := S1x2048x512) ![0, 128 * b, 128 * g] S1x128x128.size (fun a => match a with
    | ⟨0, _⟩ => by show 0 + 1 ≤ 1; omega
    | ⟨1, _⟩ => by show 128 * b + 128 ≤ 2048; omega
    | ⟨2, _⟩ => by show 128 * g + 128 ≤ 512; omega)

/-- The block after `b`, or the last one. -/
def next (b : Nat) : Nat := if b = 15 then 15 else b + 1

theorem next_lt {b : Nat} (h : b < 16) : next b < 16 := by unfold next; split <;> omega

section Body
variable (x0 : Vec F S1x2048x512 .bf16) (x1 : Vec F S1x2048x128 .bf16) (x2 : Vec F S1x256x128 .bf16)
  (x3 : Vec F S1x128x2048 .bf16) (x4 : Vec F S1x128x256 .bf16) (x5 : Vec F S1x1024 .f32)

/-- Block `b`'s unit of the first two groups. -/
def unit0 (b : Nat) (h : b < 16) : FVec F S128x512 .f32 :=
  unit (bp b) (bn b) (tile (View.ld x1 (rK (b - 1) (Nat.lt_of_le_of_lt (Nat.sub_le b 1) h)))) (tile (View.ld x1 (rK b h)))
    (tile (View.ld x1 (rK (next b) (next_lt h)))) (View.ld x2 r0_35)
    (tile (View.ld x3 (rV (b - 1) (Nat.lt_of_le_of_lt (Nat.sub_le b 1) h)))) (tile (View.ld x3 (rV b h)))
    (tile (View.ld x3 (rV (next b) (next_lt h)))) (View.ld x4 r0_37)
    (heads0 (View.ld x0 (rQ b h))) (sinkRow (View.ld x5 r0_0))

/-- Block `b`'s unit of the last two groups. -/
def unit1 (b : Nat) (h : b < 16) : FVec F S128x512 .f32 :=
  unit (bp b) (bn b) (tile (View.ld x1 (rK (b - 1) (Nat.lt_of_le_of_lt (Nat.sub_le b 1) h)))) (tile (View.ld x1 (rK b h)))
    (tile (View.ld x1 (rK (next b) (next_lt h)))) (View.ld x2 r0_35)
    (tile (View.ld x3 (rV (b - 1) (Nat.lt_of_le_of_lt (Nat.sub_le b 1) h)))) (tile (View.ld x3 (rV b h)))
    (tile (View.ld x3 (rV (next b) (next_lt h)))) (View.ld x4 r0_37)
    (heads1 (View.ld x0 (rQ b h))) (sinkRow (View.ld x5 r0_1))

/-- The tiles that block `b` stores, the last one first. -/
def tiles (b : Nat) (h : b < 16) : List (View.Piece (Elt F) S1x2048x512 .bf16) :=
  [⟨rO b 3 h (by decide), emit1 (unit1 x0 x1 x2 x3 x4 x5 b h)⟩,
   ⟨rO b 2 h (by decide), emit0 (unit1 x0 x1 x2 x3 x4 x5 b h)⟩,
   ⟨rO b 1 h (by decide), emit1 (unit0 x0 x1 x2 x3 x4 x5 b h)⟩,
   ⟨rO b 0 h (by decide), emit0 (unit0 x0 x1 x2 x3 x4 x5 b h)⟩]

/-- The tiles of the first `n` blocks, the last one first. -/
def tilesTo : (n : Nat) → n ≤ 16 → List (View.Piece (Elt F) S1x2048x512 .bf16)
  | 0, _ => []
  | n + 1, h => tiles x0 x1 x2 x3 x4 x5 n h ++ tilesTo n (Nat.le_of_lt h)

set_option maxHeartbeats 4000000 in
/-- The body's output is the canon of its units' tiles. -/
theorem out_eq : out0_6 x0 x1 x2 x3 x4 x5 = View.canon (tilesTo x0 x1 x2 x3 x4 x5 16 (Nat.le_refl 16)) := by
  rfl

end Body

end Cert.Attn

end
-- ==== Proof.Attn.Core.lean ====
/- The softmax with a sink on the extended reals: the kernel's way — scores times the logarithm's base, powers of two, the
   weighted values summed first and divided once — and the reference's — exponentials, each weight divided before the
   sums — give one value. No condition on the scores or values is needed. -/
module

public import Idealize.ShloMosaic.PureOps.Ideal
public import Idealize.ShloMosaic.PureOps.Ideal.Laws
public import Mathlib.Data.EReal.Operations
public import Mathlib.Data.EReal.Inv
public import Mathlib.Analysis.SpecialFunctions.Pow.Real

@[expose] public section

noncomputable section

namespace Cert.Attn

open Idealize.ShloMosaic

/-- The factor from natural exponents to exponents of two. -/
abbrev lam : ℝ := (Real.log 2)⁻¹

theorem lam_pos : 0 < lam := inv_pos.mpr (Real.log_pos (by norm_num))

/-- A real factor that is not negative distributes over a sum. -/
theorem mul_sum_of_nonneg {ι : Type} (t : Finset ι) (c : ℝ) (hc : 0 ≤ c) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha, ← ih]
    exact EReal.left_distrib_of_nonneg_of_ne_top (EReal.coe_nonneg.mpr hc) (EReal.coe_ne_top c) _ _

/-- A power of two of a scaled exponent is the exponential. -/
theorem exp2_lam (a : EReal) : Ideal.exp2 ((lam : EReal) * a) = Ideal.exp a := by
  induction a with
  | bot => rw [EReal.coe_mul_bot_of_pos lam_pos]; rfl
  | top => rw [EReal.coe_mul_top_of_pos lam_pos]; rfl
  | coe r =>
    rw [← EReal.coe_mul, Ideal.exp2_coe, Ideal.exp_coe]
    congr 1
    show (2 : ℝ) ^ (lam * r) = Real.exp r
    rw [Real.rpow_def_of_pos (by norm_num), ← mul_assoc, mul_inv_cancel₀ (Real.log_pos (by norm_num)).ne', one_mul]

/-- The scale leaves a difference's form. -/
theorem lam_sub (x y : EReal) : (lam : EReal) * x - (lam : EReal) * y = (lam : EReal) * (x - y) := by
  rw [sub_eq_add_neg, sub_eq_add_neg, ← mul_neg]
  exact (EReal.left_distrib_of_nonneg_of_ne_top (EReal.coe_nonneg.mpr lam_pos.le) (EReal.coe_ne_top lam) _ _).symm

theorem lam_mono : Monotone fun x : EReal => (lam : EReal) * x :=
  fun _ _ h => mul_le_mul_of_nonneg_left h (EReal.coe_nonneg.mpr lam_pos.le)

theorem lam_bot : (lam : EReal) * ⊥ = ⊥ := EReal.coe_mul_bot_of_pos lam_pos

/-- The fold of the maximum from minus infinity is the least upper bound. -/
theorem fold_max {ι : Type} (t : Finset ι) (f : ι → EReal) : t.fold max ⊥ f = t.sup f := rfl

theorem lam_sup {ι : Type} (t : Finset ι) (f : ι → EReal) :
    (t.sup fun i => (lam : EReal) * f i) = (lam : EReal) * t.sup f := by
  classical
  induction t using Finset.induction_on with
  | empty => simpa using lam_bot.symm
  | insert a t ha ih => rw [Finset.sup_insert, Finset.sup_insert, ih]; exact (lam_mono.map_sup _ _).symm

/-- The greatest of two runs of entries, one after the other. -/
theorem sup_append (m n : Nat) (f : Fin (m + n) → EReal) :
    Finset.univ.sup f = max (Finset.univ.sup fun i => f (Fin.castAdd n i)) (Finset.univ.sup fun j => f (Fin.natAdd m j)) := by
  apply le_antisymm
  · refine Finset.sup_le fun r _ => ?_
    refine Fin.addCases (fun i => ?_) (fun j => ?_) r
    · exact le_max_of_le_left (Finset.le_sup (f := fun i => f (Fin.castAdd n i)) (Finset.mem_univ i))
    · exact le_max_of_le_right (Finset.le_sup (f := fun j => f (Fin.natAdd m j)) (Finset.mem_univ j))
  · exact max_le (Finset.sup_le fun i _ => Finset.le_sup (Finset.mem_univ _))
      (Finset.sup_le fun j _ => Finset.le_sup (Finset.mem_univ _))

theorem exp_nonneg (a : EReal) : 0 ≤ Ideal.exp a := by
  induction a with
  | bot => exact le_refl _
  | top => exact le_top
  | coe r => rw [Ideal.exp_coe]; exact EReal.coe_nonneg.mpr (Real.exp_pos r).le

/-- The reciprocal of a weight's sum is a real number that is not negative, when the sum is not zero. -/
theorem div_one_real (D : EReal) (h : 0 ≤ D) (h0 : D ≠ 0) : ∃ c : ℝ, 0 ≤ c ∧ Ideal.div 1 D = (c : EReal) := by
  unfold Ideal.div
  rw [if_neg h0, one_mul]
  induction D with
  | bot => exact absurd h (by simp)
  | top => exact ⟨0, le_refl 0, by simp⟩
  | coe r => exact ⟨r⁻¹, inv_nonneg.mpr (EReal.coe_nonneg.mp h), by rw [EReal.coe_inv]⟩

/-- Dividing the sum of the weighted values, or each weight: the same. -/
theorem divide_late {ι : Type} [Fintype ι] (V p : ι → EReal) (e D : EReal) (hp : ∀ i, 0 ≤ p i) (he : 0 ≤ e)
    (hD : D = (∑ i, p i) + e) :
    (∑ i, V i * p i) * Ideal.div 1 D = ∑ i, V i * (p i * Ideal.div 1 D) := by
  by_cases h0 : D = 0
  · have hs : ∑ i, p i = 0 := le_antisymm
      (by calc ∑ i, p i ≤ (∑ i, p i) + e := le_add_of_nonneg_right he
            _ = 0 := by rw [← hD, h0]) (Finset.sum_nonneg fun i _ => hp i)
    have hz : ∀ i, p i = 0 := fun i => (Finset.sum_eq_zero_iff_of_nonneg fun i _ => hp i).mp hs i (Finset.mem_univ i)
    simp [hz]
  · obtain ⟨c, hc, hcd⟩ := div_one_real D (hD ▸ add_nonneg (Finset.sum_nonneg fun i _ => hp i) he) h0
    rw [hcd, mul_comm, mul_sum_of_nonneg _ c hc]
    refine Finset.sum_congr rfl fun i _ => ?_
    rw [mul_comm (p i), ← mul_assoc, ← mul_assoc, mul_comm (c : EReal)]

theorem ofBits_ninf : Ideal.ofBits .f32 0xFF800000#32 = ⊥ := by simp [Ideal.ofBits, Ideal.ieee]

/-- The reference's value of a query's lane: the scores `s` of its keys (minus infinity where masked), the values `v` in
    the lane, and the sink `sk`. -/
def softmaxValue (s₁ v₁ : Fin 384 → EReal) (s₂ v₂ : Fin 256 → EReal) (sk : EReal) : EReal :=
  let m := max (max (Finset.univ.fold max ⊥ s₁) (Finset.univ.fold max ⊥ s₂)) sk
  let inv := Ideal.div 1 ((∑ w, Ideal.exp (s₁ w - m)) + (∑ c, Ideal.exp (s₂ c - m)) + Ideal.exp (sk - m))
  (∑ w, v₁ w * (Ideal.exp (s₁ w - m) * inv)) + ∑ c, v₂ c * (Ideal.exp (s₂ c - m) * inv)

/-- The kernel's value of a query's lane: the scaled scores `x`, the values `V`, and the scaled sink `sk`. -/
def softmaxLate (x V : Fin 640 → EReal) (sk : EReal) : EReal :=
  let m := max sk (Finset.univ.fold max ⊥ x)
  (∑ r, V r * Ideal.exp2 (x r - m)) * Ideal.div 1 ((∑ r, Ideal.exp2 (x r - m)) + Ideal.exp2 (sk - m))

/-- The two agree when the kernel's scores are the reference's times the base's factor, and the values agree at each key
    that is not masked. -/
theorem softmax_eq (x V : Fin 640 → EReal) (s₁ v₁ : Fin 384 → EReal) (s₂ v₂ : Fin 256 → EReal) (sk : EReal)
    (hx₁ : ∀ w : Fin 384, x (Fin.castAdd 256 w) = (lam : EReal) * s₁ w)
    (hx₂ : ∀ c : Fin 256, x (Fin.natAdd 384 c) = (lam : EReal) * s₂ c)
    (hv₁ : ∀ w : Fin 384, s₁ w ≠ ⊥ → V (Fin.castAdd 256 w) = v₁ w)
    (hv₂ : ∀ c : Fin 256, V (Fin.natAdd 384 c) = v₂ c) :
    softmaxLate x V ((lam : EReal) * sk) = softmaxValue s₁ v₁ s₂ v₂ sk := by
  unfold softmaxLate softmaxValue
  have hm : max ((lam : EReal) * sk) (Finset.univ.fold max ⊥ x)
      = (lam : EReal) * max (max (Finset.univ.fold max ⊥ s₁) (Finset.univ.fold max ⊥ s₂)) sk := by
    rw [fold_max, fold_max, fold_max, sup_append 384 256 x]
    simp only [hx₁, hx₂]
    rw [lam_sup, lam_sup, max_comm, ← lam_mono.map_max, ← lam_mono.map_max]
  simp only [hm]
  generalize max (max (Finset.univ.fold max ⊥ s₁) (Finset.univ.fold max ⊥ s₂)) sk = m
  have e₁ : ∀ w : Fin 384, Ideal.exp2 (x (Fin.castAdd 256 w) - (lam : EReal) * m) = Ideal.exp (s₁ w - m) := fun w => by
    rw [hx₁, lam_sub, exp2_lam]
  have e₂ : ∀ c : Fin 256, Ideal.exp2 (x (Fin.natAdd 384 c) - (lam : EReal) * m) = Ideal.exp (s₂ c - m) := fun c => by
    rw [hx₂, lam_sub, exp2_lam]
  have hP : ∀ r, 0 ≤ Ideal.exp2 (x r - (lam : EReal) * m) := fun r =>
    Fin.addCases (motive := fun r => 0 ≤ Ideal.exp2 (x r - (lam : EReal) * m)) (fun w => (e₁ w).symm ▸ exp_nonneg _)
      (fun c => (e₂ c).symm ▸ exp_nonneg _) r
  have hs : (∑ r, Ideal.exp2 (x r - (lam : EReal) * m))
      = (∑ w, Ideal.exp (s₁ w - m)) + ∑ c, Ideal.exp (s₂ c - m) := by
    rw [show (∑ r, Ideal.exp2 (x r - (lam : EReal) * m)) = _ from
      Fin.sum_univ_add (a := 384) (b := 256) fun r => Ideal.exp2 (x r - (lam : EReal) * m)]
    simp only [e₁, e₂]
  rw [lam_sub, exp2_lam, divide_late V (fun r => Ideal.exp2 (x r - (lam : EReal) * m)) (Ideal.exp (sk - m)) _ hP
    (exp_nonneg _) rfl, hs]
  generalize hI : Ideal.div 1 ((∑ w, Ideal.exp (s₁ w - m)) + (∑ c, Ideal.exp (s₂ c - m)) + Ideal.exp (sk - m)) = I
  rw [show (∑ r, V r * (Ideal.exp2 (x r - (lam : EReal) * m) * I)) = _ from
    Fin.sum_univ_add (a := 384) (b := 256) fun r => V r * (Ideal.exp2 (x r - (lam : EReal) * m) * I)]
  simp only [e₁, e₂, hv₂]
  congr 1
  refine Finset.sum_congr rfl fun w _ => ?_
  by_cases hb : s₁ w = ⊥
  · have : Ideal.exp (s₁ w - m) = 0 := by rw [hb, sub_eq_add_neg, EReal.bot_add]; rfl
    rw [this, zero_mul, mul_zero, mul_zero]
  · rw [hv₁ w hb]

end Cert.Attn

end
-- ==== Proof.Attn.Point.lean ====
/- A unit of the attention call's body read at an index, on the extended reals. -/
module

public import proofs.«01_k».proof.Proof.Attn.Unit
public import proofs.«01_k».proof.Proof.Attn.Core
public import Idealize.ShloMosaic.Lib.Pointwise
public import Idealize.ShloMosaic.PureOps.IdealRules

@[expose] public section

set_option maxRecDepth 16384

noncomputable section

namespace Cert.Attn

open Cert.KernelIdeal Cert.KernelIdeal.Gen Idealize.ShloMosaic Idealize.SL.Sem Idealize.ShloMosaic.Pointwise

theorem sel_slt {α : Type} (a b : Nat) (ha : a < 2048) (hb : b < 2048) (x y : α) :
    Scalar.select (IntOp.cmpi .slt (BitVec.ofNat 32 a) (BitVec.ofNat 32 b)) x y = if a < b then x else y := by
  rw [WordCmp.cmpi_slt_ofNat (by omega) (by omega), WordCmp.select_decide]

theorem sel_sge {α : Type} (a b : Nat) (ha : a < 2048) (hb : b < 2048) (x y : α) :
    Scalar.select (IntOp.cmpi .sge (BitVec.ofNat 32 a) (BitVec.ofNat 32 b)) x y = if b ≤ a then x else y := by
  rw [WordCmp.cmpi_sge_ofNat (by omega) (by omega), WordCmp.select_decide]

theorem sel_sle {α : Type} (a b : Nat) (ha : a < 2048) (hb : b < 2048) (x y : α) :
    Scalar.select (IntOp.cmpi .sle (BitVec.ofNat 32 a) (BitVec.ofNat 32 b)) x y = if a ≤ b then x else y := by
  rw [WordCmp.cmpi_sle_ofNat (by omega) (by omega), WordCmp.select_decide]

/-- The column of query `q` under the unit's head `t`. -/
abbrev col (t : Fin 4) (q : Fin 128) : Fin 512 := ⟨128 * t.val + q.val, by omega⟩

theorem sLoc_apply (k : FVec Ideal S128x128 .bf16) (h : FVec Ideal S512x128 .bf16) (r : Fin 128) (c : Fin 512) :
    sLoc k h (ix2 r c) = ∑ d : Fin 128, k (ix2 r d) * h (ix2 c d) := by
  pointwise [sLoc]

theorem sCtx_apply (k : Vec Ideal S1x256x128 .bf16) (h : FVec Ideal S512x128 .bf16) (r : Fin 256) (c : Fin 512) :
    sCtx k h (ix2 r c) = ∑ d : Fin 128, k (ix3 0 r d) * h (ix2 c d) := by
  pointwise [sCtx]

/-- Read at a shifted index, a tile gives its value at the index. -/
theorem at_row {n m : Nat} {ft : FTy} (v : FVec Ideal ⟨2, ![n, m]⟩ ft) (q : Fin n) (d : Fin m) (k : Nat) (hk : k < n)
    (e : k = q.val) : v (ix2 ⟨k, hk⟩ d) = v (ix2 q d) := by
  subst e; rfl

theorem at_col {n m : Nat} {ft : FTy} (v : FVec Ideal ⟨2, ![n, m]⟩ ft) (q : Fin n) (d : Fin m) (k : Nat) (hk : k < m)
    (e : k = d.val) : v (ix2 q ⟨k, hk⟩) = v (ix2 q d) := by
  subst e; rfl

theorem zeroTile_apply (q d : Fin 128) : (zeroTile : FVec Ideal S128x128 .bf16) (ix2 q d) = 0 := Ideal.ofBits_zero_bf16

theorem stack_apply (a b : FVec Ideal S128x128 .bf16) (t : Fin 4) (q d : Fin 128) :
    stack a b (ix2 (col t q) d)
      = if d.val / 64 = t.val % 2 then (if t.val < 2 then a (ix2 q d) else b (ix2 q d)) else 0 := by
  have hq := q.isLt
  have hd := d.isLt
  have ht := t.isLt
  pointwise [stack, lane]
  simp only [sel_slt d.val 64 (by omega) (by omega), sel_sge d.val 64 (by omega) (by omega), zeroTile_apply]
  have key : ∀ (v : FVec Ideal S128x128 .bf16) (k : Nat) (hk : k < 128) (p p' : Prop) [Decidable p] [Decidable p']
      (v' : EReal), k = q.val → (p ↔ p') → v (ix2 q d) = v' →
      (if p then v (ix2 ⟨k, hk⟩ d) else 0) = if p' then v' else 0 := fun v k hk p p' _ _ v' e hp hv => by
    subst e
    rw [← hv]
    exact if_congr hp rfl rfl
  split
  · exact key a _ _ _ _ _ (by omega) (by omega) (if_pos (by omega)).symm
  split
  · exact key a _ _ _ _ _ (by omega) (by omega) (if_pos (by omega)).symm
  split
  · exact key b _ _ _ _ _ (by omega) (by omega) (if_neg (by omega)).symm
  · exact key b _ _ _ _ _ (by omega) (by omega) (if_neg (by omega)).symm

theorem slots_apply (b : FVec Ideal S128x128 .f32) (r : Fin 128) (t : Fin 4) (q : Fin 128) :
    slots b (ix2 r (col t q)) = b (ix2 r q) := by
  have hq := q.isLt
  have ht := t.isLt
  pointwise [slots]
  split
  · exact at_col _ r q _ _ (by omega)
  split
  · exact at_col _ r q _ _ (by omega)
  split
  · exact at_col _ r q _ _ (by omega)
  · exact at_col _ r q _ _ (by omega)

theorem scores_apply (b₁ b₂ : FVec Ideal S128x128 .f32) (kp kc kn : FVec Ideal S128x128 .bf16)
    (kx : Vec Ideal S1x256x128 .bf16) (h : FVec Ideal S512x128 .bf16) (w : Fin 384) (t : Fin 4) (q : Fin 128) :
    scores b₁ b₂ kp kc kn kx h (ix2 (Fin.castAdd 256 w) (col t q)) =
      if h₁ : w.val < 128 then sLoc kp h (ix2 ⟨w.val, h₁⟩ (col t q)) + b₁ (ix2 ⟨w.val, h₁⟩ q)
      else if h₂ : w.val < 256 then sLoc kc h (ix2 ⟨w.val - 128, by omega⟩ (col t q))
      else sLoc kn h (ix2 ⟨w.val - 256, by omega⟩ (col t q)) + b₂ (ix2 ⟨w.val - 256, by omega⟩ q) := by
  have hw := w.isLt
  pointwise [scores]
  simp only [slots_apply, Fin.val_castAdd, Nat.sub_sub]
  by_cases h₁ : w.val < 128
  · rw [dif_pos h₁, dif_pos h₁]
  rw [dif_neg h₁, dif_neg h₁]
  by_cases h₂ : w.val - 128 < 128
  · rw [dif_pos h₂, dif_pos (show w.val < 256 by omega)]
  rw [dif_neg h₂, dif_neg (show ¬ w.val < 256 by omega)]
  rw [dif_pos (show w.val - (128 + 128) < 128 by omega)]

theorem scores_ctx (b₁ b₂ : FVec Ideal S128x128 .f32) (kp kc kn : FVec Ideal S128x128 .bf16)
    (kx : Vec Ideal S1x256x128 .bf16) (h : FVec Ideal S512x128 .bf16) (c : Fin 256) (l : Fin 512) :
    scores b₁ b₂ kp kc kn kx h (ix2 (Fin.natAdd 384 c) l) = sCtx kx h (ix2 c l) := by
  pointwise [scores]
  simp only [Fin.val_natAdd, Nat.sub_sub]
  rw [dif_neg (show ¬ 384 + c.val < 128 by omega), dif_neg (show ¬ 384 + c.val - 128 < 128 by omega),
    dif_neg (show ¬ 384 + c.val - (128 + 128) < 128 by omega)]
  exact at_row _ c l _ _ (by omega)

/-- The value of a unit's lane at one of its 640 keys. -/
def vals (vp vc vn : FVec Ideal S128x128 .bf16) (vx : Vec Ideal S1x128x256 .bf16) (d : Fin 128) (x : Fin 640) : EReal :=
  if h₁ : x.val < 128 then vp (ix2 d ⟨x.val, h₁⟩)
  else if h₂ : x.val - 128 < 128 then vc (ix2 d ⟨x.val - 128, h₂⟩)
  else if h₃ : x.val - 128 - 128 < 128 then vn (ix2 d ⟨x.val - 128 - 128, h₃⟩)
  else vx (ix3 0 d ⟨x.val - 128 - 128 - 128, by omega⟩)

theorem vals_loc (vp vc vn : FVec Ideal S128x128 .bf16) (vx : Vec Ideal S1x128x256 .bf16) (d : Fin 128) (w : Fin 384) :
    vals vp vc vn vx d (Fin.castAdd 256 w) =
      if h₁ : w.val < 128 then vp (ix2 d ⟨w.val, h₁⟩)
      else if h₂ : w.val < 256 then vc (ix2 d ⟨w.val - 128, by omega⟩)
      else vn (ix2 d ⟨w.val - 256, by omega⟩) := by
  have hw := w.isLt
  unfold vals
  simp only [Fin.val_castAdd, Nat.sub_sub]
  split_ifs <;> first | rfl | (exfalso; omega)

theorem vals_ctx (vp vc vn : FVec Ideal S128x128 .bf16) (vx : Vec Ideal S1x128x256 .bf16) (d : Fin 128) (c : Fin 256) :
    vals vp vc vn vx d (Fin.natAdd 384 c) = vx (ix3 0 d c) := by
  have e : ∀ (k : Nat) (hk : k < 256), k = c.val → vx (ix3 0 d ⟨k, hk⟩) = vx (ix3 0 d c) := fun k hk e => by
    subst e; rfl
  unfold vals
  simp only [Fin.val_natAdd, Nat.sub_sub]
  split_ifs
  · exfalso; omega
  · exfalso; omega
  · exfalso; omega
  · exact e _ _ (by omega)

theorem unit_apply (b₁ b₂ : FVec Ideal S128x128 .f32) (kp kc kn : FVec Ideal S128x128 .bf16)
    (kx : Vec Ideal S1x256x128 .bf16) (vp vc vn : FVec Ideal S128x128 .bf16) (vx : Vec Ideal S1x128x256 .bf16)
    (h : FVec Ideal S512x128 .bf16) (sk : FVec Ideal S1x512 .f32) (d : Fin 128) (c : Fin 512) :
    unit b₁ b₂ kp kc kn kx vp vc vn vx h sk (ix2 d c)
      = softmaxLate (fun r => scores b₁ b₂ kp kc kn kx h (ix2 r c)) (vals vp vc vn vx d) (sk (ix2 0 c)) := by
  unfold unit
  generalize scores b₁ b₂ kp kc kn kx h = s
  pointwise [normed, sinkWeight, weights, valued, top]
  rw [ofBits_ninf]
  unfold softmaxLate vals
  rfl

theorem joined_apply (a b : FVec Ideal S128x128 .f32) (q l : Fin 128) :
    joined a b (ix3 0 q l) = if l.val < 64 then a (ix2 l q) else b (ix2 l q) := by
  pointwise [joined, row]
  rw [sel_slt l.val 64 (by omega) (by omega)]

theorem scaled_apply (q : Vec Ideal S1x128x512 .bf16) (r : Fin 128) (l : Fin 512) :
    scaled q (ix2 r l) = q (ix3 0 r l) * (((Real.log 256)⁻¹ : ℝ) : EReal) := by
  pointwise [scaled]
  rw [show (Named.named κ "qscale" 0x3E38AA3B#32 : Ideal .f32) = (((Real.log 256)⁻¹ : ℝ) : EReal) from
    IdealRules.named_const.ideal_named_scalar _ _ _ _ rfl]

theorem sinkRow_apply (q : Vec Ideal S1x512 .f32) (l : Fin 512) :
    sinkRow q (ix2 0 l) = (lam : EReal) * q (ix2 0 l) := by
  pointwise [sinkRow]
  rw [mul_comm, show (Named.named κ "log2e" 0x3FB8AA3B#32 : Ideal .f32) = (lam : EReal) from
    IdealRules.named_const.ideal_named_scalar _ _ _ _ rfl]

theorem ninf_apply (r l : Fin 128) : (ninf : FVec Ideal S128x128 .f32) (ix2 r l) = ⊥ := by
  pointwise [ninf]
  exact ofBits_ninf

theorem biasPrev_apply (r l : Fin 128) :
    (biasPrev : FVec Ideal S128x128 .f32) (ix2 r l) = if l.val ≤ r.val then 0 else ⊥ := by
  pointwise [biasPrev, ninf, row, lane]
  rw [sel_sge r.val l.val (by omega) (by omega), ofBits_ninf]

theorem biasNext_apply (r l : Fin 128) :
    (biasNext : FVec Ideal S128x128 .f32) (ix2 r l) = if r.val ≤ l.val then 0 else ⊥ := by
  pointwise [biasNext, ninf, row, lane]
  rw [sel_sle r.val l.val (by omega) (by omega), ofBits_ninf]

end Cert.Attn

end
-- ==== Proof.Attn.Mask.lean ====
/- The reference's window mask, a test of words, as a test of the natural numbers. -/
module

public import Idealize.ShloMosaic.Lib.Pointwise
public import Idealize.ShloMosaic.Lib.WordCmp

@[expose] public section

namespace Cert.Attn

open Idealize.ShloMosaic

/-- A block's key at slot `w`, as a word, -/
theorem key_word (b w : Nat) (hb : b < 16) (hw : w < 384) :
    IntOp.addi (IntOp.muli (IntOp.subi (BitVec.ofNat 32 b) 1#32) 128#32) (BitVec.ofNat 32 w)
      = BitVec.ofNat 32 (128 * b + w + 4294967168) := by
  refine Eq.trans (b := (BitVec.ofNat 32 b - 1#32) * 128#32 + BitVec.ofNat 32 w) rfl ?_
  apply BitVec.eq_of_toNat_eq
  simp only [BitVec.toNat_add, BitVec.toNat_mul, BitVec.toNat_sub, BitVec.toNat_ofNat]
  omega

/-- and how far before a query it lies. -/
theorem back_word (b q w : Nat) (hw : w < 384) :
    IntOp.subi (BitVec.ofNat 32 (b * 128 + q)) (BitVec.ofNat 32 (128 * b + w + 4294967168))
      = BitVec.ofNat 32 (q + 384 - w + 4294967040) := by
  refine Eq.trans (b := BitVec.ofNat 32 (b * 128 + q) - BitVec.ofNat 32 (128 * b + w + 4294967168)) rfl ?_
  have h : BitVec.ofNat 32 (b * 128 + q)
      = BitVec.ofNat 32 (q + 384 - w + 4294967040) + BitVec.ofNat 32 (128 * b + w + 4294967168) := by
    rw [← BitVec.ofNat_add]
    apply BitVec.eq_of_toNat_eq
    rw [BitVec.toNat_ofNat, BitVec.toNat_ofNat]
    omega
  rw [h, BitVec.add_sub_cancel]

/-- A key lies in the window of a query: by their distance, -/
theorem near_word : ∀ t : Nat, t < 512 → IntOp.cmpi .sle (IntOp.absi (BitVec.ofNat 32 (t + 4294967040))) 128#32
    = BitVec.ofBool (decide (128 ≤ t ∧ t ≤ 384)) := by decide +kernel

/-- and it is a key of the sequence: by its position. -/
theorem inside_word : ∀ u : Nat, u < 2304 → IntOp.cmpi .sge (BitVec.ofNat 32 (u + 4294967168)) 0#32
      = BitVec.ofBool (decide (128 ≤ u))
    ∧ IntOp.cmpi .slt (BitVec.ofNat 32 (u + 4294967168)) 2048#32 = BitVec.ofBool (decide (u < 2176)) := by
  decide +kernel

/-- The three tests of the window together. -/
theorem mask_word (b q w : Nat) (hb : b < 16) (hq : q < 128) (hw : w < 384) :
    IntOp.andi (IntOp.andi
        (IntOp.cmpi .sle (IntOp.absi (IntOp.subi (BitVec.ofNat 32 (b * 128 + q))
          (IntOp.addi (IntOp.muli (IntOp.subi (BitVec.ofNat 32 b) 1#32) 128#32) (BitVec.ofNat 32 w)))) 128#32)
        (IntOp.cmpi .sge (IntOp.addi (IntOp.muli (IntOp.subi (BitVec.ofNat 32 b) 1#32) 128#32) (BitVec.ofNat 32 w)) 0#32))
      (IntOp.cmpi .slt (IntOp.addi (IntOp.muli (IntOp.subi (BitVec.ofNat 32 b) 1#32) 128#32) (BitVec.ofNat 32 w)) 2048#32)
    = BitVec.ofBool (decide (q ≤ w ∧ w ≤ q + 256 ∧ 128 ≤ 128 * b + w ∧ 128 * b + w < 2176)) := by
  rw [key_word b w hb hw, back_word b q w hw, near_word _ (by omega), (inside_word _ (by omega)).1,
    (inside_word _ (by omega)).2, WordCmp.andi_ofBool, WordCmp.andi_ofBool]
  congr 1
  rw [← Bool.decide_and, ← Bool.decide_and]
  exact decide_eq_decide.mpr (by omega)

end Cert.Attn
-- ==== Proof.Attn.Ref.lean ====
/- The reference's attention read at an index: the softmax with a sink over a query's window and the context. -/
module

public import proofs.«01_k».proof.Proof.Gen.ReferenceIdeal.Read
public import proofs.«01_k».proof.Proof.Attn.Core
public import proofs.«01_k».proof.Proof.Attn.Mask

@[expose] public section

set_option maxRecDepth 16384

noncomputable section

namespace Cert.Attn

open Cert.ReferenceIdeal Cert.ReferenceIdeal.Read Idealize.ShloMosaic Idealize.SL.Sem Idealize.ShloMosaic.Pointwise

/-- Slot `w` of block `b`'s window holds a key that query `q` of the block attends to. -/
abbrev valid (b q w : Nat) : Prop := q ≤ w ∧ w ≤ q + 256 ∧ 128 ≤ 128 * b + w ∧ 128 * b + w < 2176

/-- The position of the key in slot `w` of block `b`'s window. -/
abbrev keyAt (b : Fin 16) (w : Fin 384) : Fin 2048 :=
  if h : 128 ≤ 128 * b.val + w.val ∧ 128 * b.val + w.val < 2176 then ⟨128 * b.val + w.val - 128, by omega⟩ else 0

/-- The position of query `q` of block `b`, -/
abbrev queryAt (b : Fin 16) (q : Fin 128) : Fin 2048 := ⟨128 * b.val + q.val, by omega⟩

/-- and the head of group `g` of key-value head `h`. -/
abbrev headAt (h : Fin 2) (g : Fin 4) : Fin 8 := ⟨4 * h.val + g.val, by omega⟩

variable (x0 : (⟨S8x2048x8x64, .f32⟩ : BufTy).Contents (Elt Ideal)) (x1 x2 : (⟨S8x2048x2x64, .f32⟩ : BufTy).Contents (Elt Ideal))
  (x3 x4 : (⟨S8x256x2x64, .f32⟩ : BufTy).Contents (Elt Ideal)) (x5 : (⟨S8, .f32⟩ : BufTy).Contents (Elt Ideal))

/-- The score of a key of the window, minus infinity where it is masked, -/
def scoreLoc (n : Fin 8) (b : Fin 16) (q : Fin 128) (h : Fin 2) (g : Fin 4) (w : Fin 384) : EReal :=
  if valid b.val q.val w.val then
    (∑ d : Fin 64, x1 (ix4 n (keyAt b w) h d) * x0 (ix4 n (queryAt b q) (headAt h g) d)) * ((1 / 8 : ℝ) : EReal)
  else ⊥

/-- the score of a key of the context, -/
def scoreCtx (n : Fin 8) (b : Fin 16) (q : Fin 128) (h : Fin 2) (g : Fin 4) (c : Fin 256) : EReal :=
  (∑ d : Fin 64, x3 (ix4 n c h d) * x0 (ix4 n (queryAt b q) (headAt h g) d)) * ((1 / 8 : ℝ) : EReal)

theorem reduces384 : S8x16x2x4x128x384.Reduces [5] S8x16x2x4x128 := by decide

theorem reduces256 : S8x16x2x4x128x256.Reduces [5] S8x16x2x4x128 := by decide

theorem lift384 (n : Fin 8) (b : Fin 16) (h : Fin 2) (g : Fin 4) (q : Fin 128) (w : Fin 384) :
    reduces384.lift (ix5 n b h g q) w = ix6 n b h g q w := by
  funext a
  apply Fin.ext
  refine (Shape.Reduces.lift_val reduces384 (ix5 n b h g q) w a).trans ?_
  fin_cases a <;> rfl

theorem lift256 (n : Fin 8) (b : Fin 16) (h : Fin 2) (g : Fin 4) (q : Fin 128) (w : Fin 256) :
    reduces256.lift (ix5 n b h g q) w = ix6 n b h g q w := by
  funext a
  apply Fin.ext
  refine (Shape.Reduces.lift_val reduces256 (ix5 n b h g q) w a).trans ?_
  fin_cases a <;> rfl

theorem ofBits_eighth : Ideal.ofBits .f32 0x3E000000#32 = ((1 / 8 : ℝ) : EReal) := by
  simp [Ideal.ofBits, Ideal.ieee, -EReal.coe_mul]; norm_num

theorem mask_apply (b : Fin 16) (q : Fin 128) (w : Fin 384) :
    val_main_v43 (F := Ideal) (ix3 b q w) = BitVec.ofBool (decide (valid b.val q.val w.val)) := by
  pointwise [val_main_v43, val_main_v38, val_main_v42, val_main_v41, val_main_v40, val_main_v39, val_main_c_5, val_main_v37, val_main_v36, val_main_v35, val_main_v34, val_main_c_4, val_main_v33, val_main_v32, val_main_c_3, val_main_v31, val_main_v30, val_main_v29, val_main_v28, val_main_v27, val_main_v26, val_main_v25, val_main_v24, val_main_v23, val_main_v22, val_main_v21, val_main_v20, val_main_v19, val_main_c_2, val_main_v18, val_main_v17, val_main_c_1, val_main_v16, val_main_v15, val_main_v14, val_main_v13]
  exact mask_word b.val q.val w.val b.isLt q.isLt w.isLt

/-- The keys' window, where it holds a key. -/
theorem band_apply (n : Fin 8) (b : Fin 16) (w : Fin 384) (h : Fin 2) (d : Fin 64)
    (hi : 128 ≤ 128 * b.val + w.val ∧ 128 * b.val + w.val < 2176) :
    val_main_v6 x1 (ix5 n b w h d) = x1 (ix4 n (keyAt b w) h d) := by
  pointwise [val_main_v6, val_main_v5, val_main_v4, val_main_v3, val_main_v2, val_main_v1, val_main_call0_v0]
  have hw := w.isLt
  have hk : keyAt b w = ⟨128 * b.val + w.val - 128, by omega⟩ := dif_pos hi
  have e : ∀ (m : Nat) (hm : m < 2048), m = 128 * b.val + w.val - 128 → x1 (ix4 n ⟨m, hm⟩ h d) = x1 (ix4 n (keyAt b w) h d) :=
    fun m hm he => by subst he; rw [hk]
  by_cases h₁ : w.val < 128
  · rw [dif_pos h₁, dif_pos (⟨by omega, by omega⟩ : 128 ≤ b.val * 128 + w.val ∧ b.val * 128 + w.val - 128 < 2048)]
    exact e _ _ (by omega)
  · rw [dif_neg h₁]
    by_cases h₂ : w.val - 128 < 128
    · rw [dif_pos h₂, dif_pos (⟨by omega, by omega⟩ :
        128 ≤ (1 + b.val) * 128 + (w.val - 128) ∧ (1 + b.val) * 128 + (w.val - 128) - 128 < 2048)]
      exact e _ _ (by omega)
    · rw [dif_neg h₂, dif_pos (⟨by omega, by omega⟩ :
        128 ≤ (2 + b.val) * 128 + (w.val - 128 - 128) ∧ (2 + b.val) * 128 + (w.val - 128 - 128) - 128 < 2048)]
      exact e _ _ (by omega)

/-- The values' window is cut as the keys' is. -/
theorem bandV : val_main_v12 x2 = val_main_v6 x2 := rfl

theorem query_apply (n : Fin 8) (b : Fin 16) (q : Fin 128) (h : Fin 2) (g : Fin 4) (d : Fin 64) :
    val_main_v0 x0 (ix6 n b q h g d) = x0 (ix4 n (queryAt b q) (headAt h g) d) := by
  pointwise [val_main_v0]
  congr 2 <;> apply Fin.ext <;> simp only <;> omega

theorem scoreLoc_apply (n : Fin 8) (b : Fin 16) (h : Fin 2) (g : Fin 4) (q : Fin 128) (w : Fin 384) :
    val_main_v49 x0 x1 (ix6 n b h g q w) = scoreLoc x0 x1 n b q h g w := by
  pointwise [val_main_v49, val_main_v48, val_main_v47, val_main_v46, val_main_v45, val_main_v44, val_main_cst, val_main_cst_6,val_main_call2_v0, val_main_call2_v1, val_main_call2_v2]
  rw [mask_apply]
  unfold scoreLoc
  by_cases hv : valid b.val q.val w.val
  · rw [if_pos hv, decide_eq_true hv, ofBits_eighth]
    show (_ : EReal) * _ = _
    congr 1
    exact Finset.sum_congr rfl fun d _ => by rw [band_apply x1 n b w h d hv.2.2, query_apply]
  · rw [if_neg hv, decide_eq_false hv]
    exact ofBits_ninf

theorem scoreCtx_apply (n : Fin 8) (b : Fin 16) (h : Fin 2) (g : Fin 4) (q : Fin 128) (c : Fin 256) :
    val_main_v53 x0 x3 (ix6 n b h g q c) = scoreCtx x0 x3 n b q h g c := by
  pointwise [val_main_v53, val_main_v52, val_main_v51, val_main_v50, val_main_cst_7]
  unfold scoreCtx
  rw [ofBits_eighth]
  congr 1
  exact Finset.sum_congr rfl fun d _ => by rw [query_apply]

theorem maxCtx_apply (n : Fin 8) (b : Fin 16) (h : Fin 2) (g : Fin 4) (q : Fin 128) :
    val_main_v57 x0 x3 (ix5 n b h g q) = Finset.univ.fold max ⊥ (scoreCtx x0 x3 n b q h g) := by
  rw [show scoreCtx x0 x3 n b q h g = fun c => val_main_v53 x0 x3 (ix6 n b h g q c) from
    funext fun c => (scoreCtx_apply x0 x3 n b h g q c).symm]
  unfold val_main_v57
  generalize val_main_v53 x0 x3 = y
  rw [Host.reduce_eq_fold_single _ _ _ _ reduces256, val_main_cst_9_apply,
    show y ∘ reduces256.lift (ix5 n b h g q) = fun w : Fin 256 => y (ix6 n b h g q w) from
      funext fun w => congrArg y (lift256 n b h g q w),
    show (FloatOps.ofBits .f32 0xFF800000#32 : Ideal .f32) = ⊥ from ofBits_ninf]
  rfl

theorem maxLoc_apply (n : Fin 8) (b : Fin 16) (h : Fin 2) (g : Fin 4) (q : Fin 128) :
    val_main_v55 x0 x1 (ix5 n b h g q) = Finset.univ.fold max ⊥ (scoreLoc x0 x1 n b q h g) := by
  rw [show scoreLoc x0 x1 n b q h g = fun c => val_main_v49 x0 x1 (ix6 n b h g q c) from
    funext fun c => (scoreLoc_apply x0 x1 n b h g q c).symm]
  unfold val_main_v55
  generalize val_main_v49 x0 x1 = y
  rw [Host.reduce_eq_fold_single _ _ _ _ reduces384, val_main_cst_8_apply,
    show y ∘ reduces384.lift (ix5 n b h g q) = fun w : Fin 384 => y (ix6 n b h g q w) from
      funext fun w => congrArg y (lift384 n b h g q w),
    show (FloatOps.ofBits .f32 0xFF800000#32 : Ideal .f32) = ⊥ from ofBits_ninf]
  rfl

theorem sink_apply (n : Fin 8) (b : Fin 16) (h : Fin 2) (g : Fin 4) (q : Fin 128) :
    val_main_v60 x5 (ix6 n b h g q 0) = x5 (ix1 (headAt h g)) := by
  pointwise [val_main_v60, val_main_v54]
  congr 2; apply Fin.ext; simp only; omega

/-- The greatest score of a query. -/
def most (n : Fin 8) (b : Fin 16) (q : Fin 128) (h : Fin 2) (g : Fin 4) : EReal :=
  max (max (Finset.univ.fold max ⊥ (scoreLoc x0 x1 n b q h g)) (Finset.univ.fold max ⊥ (scoreCtx x0 x3 n b q h g)))
    (x5 (ix1 (headAt h g)))

theorem most_apply (n : Fin 8) (b : Fin 16) (h : Fin 2) (g : Fin 4) (q : Fin 128) :
    val_main_v61 x0 x1 x3 x5 (ix6 n b h g q 0) = most x0 x1 x3 x5 n b q h g := by
  rw [val_main_v61_apply, val_main_v59_apply, val_main_v58_apply, val_main_v56_apply, sink_apply,
    show idx_main_v56 (ix6 n b h g q 0) = ix5 n b h g q from funext fun a => by fin_cases a <;> rfl,
    show idx_main_v58 (ix6 n b h g q 0) = ix5 n b h g q from funext fun a => by fin_cases a <;> rfl,
    maxLoc_apply, maxCtx_apply]
  rfl

theorem inv_apply (n : Fin 8) (b : Fin 16) (h : Fin 2) (g : Fin 4) (q : Fin 128) :
    val_main_v78 x0 x1 x3 x5 (ix6 n b h g q 0) = Ideal.div 1
      ((∑ w, Ideal.exp (scoreLoc x0 x1 n b q h g w - most x0 x1 x3 x5 n b q h g))
        + (∑ c, Ideal.exp (scoreCtx x0 x3 n b q h g c - most x0 x1 x3 x5 n b q h g))
        + Ideal.exp (x5 (ix1 (headAt h g)) - most x0 x1 x3 x5 n b q h g)) := by
  have h₁ : val_main_v70 x0 x1 x3 x5 (ix5 n b h g q)
      = ∑ c, Ideal.exp (scoreCtx x0 x3 n b q h g c - most x0 x1 x3 x5 n b q h g) := by
    rw [val_main_v70_apply, val_main_cst_11_apply,
      show (FloatOps.ofBits .f32 0x00000000#32 : Ideal .f32) = 0 from Ideal.ofBits_zero_f32, zero_add]
    refine Finset.sum_congr rfl fun c _ => ?_
    rw [show idx_main_v70 (ix5 n b h g q) c = ix6 n b h g q c from funext fun a => by fin_cases a <;> rfl]
    pointwise [val_main_v67, val_main_v66, val_main_v65]
    rw [scoreCtx_apply, most_apply]
  have h₂ : val_main_v68 x0 x1 x3 x5 (ix5 n b h g q)
      = ∑ w, Ideal.exp (scoreLoc x0 x1 n b q h g w - most x0 x1 x3 x5 n b q h g) := by
    rw [val_main_v68_apply, val_main_cst_10_apply,
      show (FloatOps.ofBits .f32 0x00000000#32 : Ideal .f32) = 0 from Ideal.ofBits_zero_f32, zero_add]
    refine Finset.sum_congr rfl fun c _ => ?_
    rw [show idx_main_v68 (ix5 n b h g q) c = ix6 n b h g q c from funext fun a => by fin_cases a <;> rfl]
    pointwise [val_main_v64, val_main_v63, val_main_v62]
    rw [scoreLoc_apply, most_apply]
  have h₃ : val_main_v73 x5 (ix6 n b h g q 0) = x5 (ix1 (headAt h g)) := sink_apply x5 n b h g q
  unfold val_main_v78 val_main_v76 val_main_v72 val_main_v71 val_main_v69
  generalize val_main_v70 x0 x1 x3 x5 = y₁ at *
  generalize val_main_v68 x0 x1 x3 x5 = y₂ at *
  pointwise [val_main_v77, val_main_v75, val_main_v74, val_main_cst_12]
  rw [h₁, h₂, h₃, most_apply]

theorem mix_apply (n : Fin 8) (b : Fin 16) (h : Fin 2) (g : Fin 4) (q : Fin 128) (d : Fin 64) :
    val_main_v87 x0 x1 x2 x3 x4 x5 (ix6 n b q h g d)
      = softmaxValue (scoreLoc x0 x1 n b q h g) (fun w => val_main_v12 x2 (ix5 n b w h d)) (scoreCtx x0 x3 n b q h g)
        (fun c => x4 (ix4 n c h d)) (x5 (ix1 (headAt h g))) := by
  pointwise [val_main_v87, val_main_v86, val_main_v85, val_main_v84, val_main_v83, val_main_v82, val_main_v81, val_main_v80, val_main_v79, val_main_v67, val_main_v66, val_main_v65, val_main_v64, val_main_v63, val_main_v62]
  simp only [scoreLoc_apply, scoreCtx_apply, most_apply, inv_apply]
  rfl

/-- The reference's result. -/
theorem ref_apply (n : Fin 8) (b : Fin 16) (q : Fin 128) (g : Fin 4) (h : Fin 2) (d : Fin 64) :
    val_main_v90 x0 x1 x2 x3 x4 x5 (ix3 n (queryAt b q) ⟨128 * g.val + 64 * h.val + d.val, by omega⟩)
      = softmaxValue (scoreLoc x0 x1 n b q h g) (fun w => val_main_v12 x2 (ix5 n b w h d)) (scoreCtx x0 x3 n b q h g)
        (fun c => x4 (ix4 n c h d)) (x5 (ix1 (headAt h g))) := by
  pointwise [val_main_v90, val_main_v89, val_main_v88]
  rw [← mix_apply]
  congr 1
  congr 1 <;> apply Fin.ext <;> simp only <;> omega

end Cert.Attn

end
-- ==== Proof.Attn.Tile.lean ====
/- The values of one unit's tile, from what its blocks hold of the arguments. -/
module

public import proofs.«01_k».proof.Proof.Attn.Point
public import proofs.«01_k».proof.Proof.Attn.Ref

@[expose] public section

set_option maxRecDepth 16384

noncomputable section

namespace Cert.Attn

open Cert.KernelIdeal Cert.KernelIdeal.Gen Idealize.ShloMosaic Idealize.SL.Sem Idealize.ShloMosaic.Pointwise

theorem log256 : (Real.log 256)⁻¹ = lam * (1 / 8) := by
  unfold lam
  rw [show (256 : ℝ) = 2 ^ 8 by norm_num, Real.log_pow, mul_inv]
  norm_num [mul_comm]

/-- Of the 128 lanes of a stacked query only its key-value head's 64 count. -/
theorem sum_half (f : Fin 128 → EReal) (h : Fin 2) :
    (∑ d : Fin 128, if d.val / 64 = h.val then f d else 0) = ∑ d : Fin 64, f ⟨64 * h.val + d.val, by omega⟩ := by
  rw [show (∑ d : Fin 128, if d.val / 64 = h.val then f d else 0) = _ from
    Fin.sum_univ_add (a := 64) (b := 64) fun d : Fin (64 + 64) => if d.val / 64 = h.val then f d else 0]
  have e₀ : ∀ d : Fin 64, (Fin.castAdd 64 d).val / 64 = 0 := fun d => by
    rw [Fin.val_castAdd]; omega
  have e₁ : ∀ d : Fin 64, (Fin.natAdd 64 d).val / 64 = 1 := fun d => by
    rw [Fin.val_natAdd]; omega
  simp only [e₀, e₁]
  match h with
  | ⟨0, _⟩ =>
    simp only [if_true, one_ne_zero, if_false, Finset.sum_const_zero, add_zero]
    exact Finset.sum_congr rfl fun d _ => congrArg f (Fin.ext (by show d.val = 64 * 0 + d.val; omega))
  | ⟨1, _⟩ =>
    simp only [if_true, zero_ne_one, if_false, Finset.sum_const_zero, zero_add]
    rfl

/-- A stacked query's score: the base's factor times the reference's score. -/
theorem score_half (k y : Fin 128 → EReal) (h : Fin 2) :
    (∑ d : Fin 128, k d * (if d.val / 64 = h.val then y d * (((Real.log 256)⁻¹ : ℝ) : EReal) else 0))
      = (lam : EReal) * ((∑ d : Fin 64, k ⟨64 * h.val + d.val, by omega⟩ * y ⟨64 * h.val + d.val, by omega⟩)
          * ((1 / 8 : ℝ) : EReal)) := by
  have hp : (0 : ℝ) ≤ lam * (1 / 8) := mul_nonneg lam_pos.le (by norm_num)
  simp only [mul_ite, mul_zero]
  rw [sum_half (fun d => k d * (y d * (((Real.log 256)⁻¹ : ℝ) : EReal))) h, mul_comm _ ((1 / 8 : ℝ) : EReal), ← mul_assoc,
    ← EReal.coe_mul, log256, mul_sum_of_nonneg _ _ hp]
  exact Finset.sum_congr rfl fun d _ => by rw [← mul_assoc, mul_comm]

/-- What the blocks of one grid point hold of the arguments: batch `n`'s rows, the heads side by side in the lanes. -/
structure Fits (x0 : Vec Ideal S1x2048x512 .bf16) (x1 : Vec Ideal S1x2048x128 .bf16) (x2 : Vec Ideal S1x256x128 .bf16)
    (x3 : Vec Ideal S1x128x2048 .bf16) (x4 : Vec Ideal S1x128x256 .bf16) (x5 : Vec Ideal S1x1024 .f32)
    (a0 : FVec Ideal S8x2048x8x64 .f32) (a1 a2 : FVec Ideal S8x2048x2x64 .f32) (a3 a4 : FVec Ideal S8x256x2x64 .f32)
    (a5 : FVec Ideal S8 .f32) (n : Fin 8) : Prop where
  q : ∀ (p : Fin 2048) (g : Fin 4) (h : Fin 2) (d : Fin 64),
    x0 (ix3 0 p ⟨128 * g.val + (64 * h.val + d.val), by omega⟩) = a0 (ix4 n p (headAt h g) d)
  k : ∀ (p : Fin 2048) (h : Fin 2) (d : Fin 64), x1 (ix3 0 p ⟨64 * h.val + d.val, by omega⟩) = a1 (ix4 n p h d)
  kx : ∀ (p : Fin 256) (h : Fin 2) (d : Fin 64), x2 (ix3 0 p ⟨64 * h.val + d.val, by omega⟩) = a3 (ix4 n p h d)
  v : ∀ (p : Fin 2048) (h : Fin 2) (d : Fin 64), x3 (ix3 0 ⟨64 * h.val + d.val, by omega⟩ p) = a2 (ix4 n p h d)
  vx : ∀ (p : Fin 256) (h : Fin 2) (d : Fin 64), x4 (ix3 0 ⟨64 * h.val + d.val, by omega⟩ p) = a4 (ix4 n p h d)
  s : ∀ (g : Fin 4) (h : Fin 2) (q : Fin 128),
    x5 (ix2 0 ⟨256 * g.val + 128 * h.val + q.val, by omega⟩) = a5 (ix1 (headAt h g))

theorem tileK (x1 : Vec Ideal S1x2048x128 .bf16) (b : Nat) (hb : b < 16) (r d : Fin 128) :
    tile (View.ld x1 (rK b hb)) (ix2 r d) = x1 (ix3 0 ⟨128 * b + r.val, by omega⟩ d) := by
  pointwise [tile]

theorem tileV (x3 : Vec Ideal S1x128x2048 .bf16) (b : Nat) (hb : b < 16) (d r : Fin 128) :
    tile (View.ld x3 (rV b hb)) (ix2 d r) = x3 (ix3 0 d ⟨128 * b + r.val, by omega⟩) := by
  pointwise [tile]

theorem loadKx (x2 : Vec Ideal S1x256x128 .bf16) (r : Fin 256) (d : Fin 128) :
    View.ld x2 r0_35 (ix3 0 r d) = x2 (ix3 0 r d) := by
  pointwise [r0_35]

theorem loadVx (x4 : Vec Ideal S1x128x256 .bf16) (d : Fin 128) (r : Fin 256) :
    View.ld x4 r0_37 (ix3 0 d r) = x4 (ix3 0 d r) := by
  pointwise [r0_37]

section Value
variable {x0 : Vec Ideal S1x2048x512 .bf16} {x1 : Vec Ideal S1x2048x128 .bf16} {x2 : Vec Ideal S1x256x128 .bf16}
  {x3 : Vec Ideal S1x128x2048 .bf16} {x4 : Vec Ideal S1x128x256 .bf16} {x5 : Vec Ideal S1x1024 .f32}
  {a0 : FVec Ideal S8x2048x8x64 .f32} {a1 a2 : FVec Ideal S8x2048x2x64 .f32} {a3 a4 : FVec Ideal S8x256x2x64 .f32}
  {a5 : FVec Ideal S8 .f32} {n : Fin 8}

/-- The score of the key at row `r` of block `b'`. -/
theorem score_at (F : Fits x0 x1 x2 x3 x4 x5 a0 a1 a2 a3 a4 a5 n) (H : FVec Ideal S512x128 .bf16) (t : Fin 4) (b : Fin 16)
    (q : Fin 128) (h : Fin 2) (g : Fin 4)
    (hH : ∀ d : Fin 128, H (ix2 (col t q) d)
      = if d.val / 64 = h.val then x0 (ix3 0 (queryAt b q) ⟨128 * g.val + d.val, by omega⟩) * (((Real.log 256)⁻¹ : ℝ) : EReal)
        else 0) (b' : Nat) (hb : b' < 16) (r : Fin 128) :
    sLoc (tile (View.ld x1 (rK b' hb))) H (ix2 r (col t q))
      = (lam : EReal) * ((∑ d : Fin 64, a1 (ix4 n ⟨128 * b' + r.val, by omega⟩ h d) * a0 (ix4 n (queryAt b q) (headAt h g) d))
          * ((1 / 8 : ℝ) : EReal)) := by
  rw [sLoc_apply]
  simp only [tileK, hH]
  rw [score_half (fun d => x1 (ix3 0 ⟨128 * b' + r.val, by omega⟩ d))
    (fun d => x0 (ix3 0 (queryAt b q) ⟨128 * g.val + d.val, by omega⟩)) h]
  simp only [F.k, F.q]

/-- The score of the context's key at row `r`. -/
theorem score_ctx (F : Fits x0 x1 x2 x3 x4 x5 a0 a1 a2 a3 a4 a5 n) (H : FVec Ideal S512x128 .bf16) (t : Fin 4) (b : Fin 16)
    (q : Fin 128) (h : Fin 2) (g : Fin 4)
    (hH : ∀ d : Fin 128, H (ix2 (col t q) d)
      = if d.val / 64 = h.val then x0 (ix3 0 (queryAt b q) ⟨128 * g.val + d.val, by omega⟩) * (((Real.log 256)⁻¹ : ℝ) : EReal)
        else 0) (r : Fin 256) :
    sCtx (View.ld x2 r0_35) H (ix2 r (col t q)) = (lam : EReal) * scoreCtx a0 a3 n b q h g r := by
  rw [sCtx_apply]
  rw [show (∑ d : Fin 128, View.ld x2 r0_35 (ix3 0 r d) * H (ix2 (col t q) d)) = _ from
    Finset.sum_congr rfl fun d _ => congrArg₂ (· * ·) (loadKx x2 r d) (hH d)]
  rw [score_half (fun d => x2 (ix3 0 r d)) (fun d => x0 (ix3 0 (queryAt b q) ⟨128 * g.val + d.val, by omega⟩)) h]
  simp only [F.kx, F.q]
  rfl

/-- A key's position, at each third of the window. -/
theorem keyAt_eq (b : Fin 16) (w : Fin 384) (k : Nat) (hk : k < 2048) (e : 128 + k = 128 * b.val + w.val) :
    keyAt b w = ⟨k, hk⟩ := by
  have hi : 128 ≤ 128 * b.val + w.val ∧ 128 * b.val + w.val < 2176 := by omega
  refine (dif_pos hi).trans (Fin.ext ?_)
  show 128 * b.val + w.val - 128 = k
  omega

theorem scoreLoc_of_valid (b : Fin 16) (q : Fin 128) (h : Fin 2) (g : Fin 4) (w : Fin 384) (k : Nat) (hk : k < 2048)
    (e : 128 + k = 128 * b.val + w.val) (hv : valid b.val q.val w.val) :
    scoreLoc a0 a1 n b q h g w
      = (∑ d : Fin 64, a1 (ix4 n ⟨k, hk⟩ h d) * a0 (ix4 n (queryAt b q) (headAt h g) d)) * ((1 / 8 : ℝ) : EReal) := by
  unfold scoreLoc
  rw [if_pos hv, keyAt_eq b w k hk e]

theorem scoreLoc_of_not (b : Fin 16) (q : Fin 128) (h : Fin 2) (g : Fin 4) (w : Fin 384)
    (hv : ¬ valid b.val q.val w.val) : scoreLoc a0 a1 n b q h g w = ⊥ := if_neg hv

/-- A biased score of a block beside the queries'. -/
theorem biased (s : EReal) (b : Fin 16) (q : Fin 128) (h : Fin 2) (g : Fin 4) (w : Fin 384) (k : Nat) (hk : k < 2048)
    (e : valid b.val q.val w.val → 128 + k = 128 * b.val + w.val)
    (hs : s = (lam : EReal) * ((∑ d : Fin 64, a1 (ix4 n ⟨k, hk⟩ h d) * a0 (ix4 n (queryAt b q) (headAt h g) d))
      * ((1 / 8 : ℝ) : EReal))) (c : EReal) (h₀ : valid b.val q.val w.val → c = 0)
    (h₁ : ¬ valid b.val q.val w.val → c = ⊥) : s + c = (lam : EReal) * scoreLoc a0 a1 n b q h g w := by
  by_cases hv : valid b.val q.val w.val
  · rw [h₀ hv, add_zero, hs, scoreLoc_of_valid b q h g w k hk (e hv) hv]
  · rw [h₁ hv, EReal.add_bot, scoreLoc_of_not b q h g w hv, lam_bot]

/-- The value of a unit's lane. -/
theorem unit_value (F : Fits x0 x1 x2 x3 x4 x5 a0 a1 a2 a3 a4 a5 n) (H : FVec Ideal S512x128 .bf16)
    (sk : FVec Ideal S1x512 .f32) (t : Fin 4) (b : Fin 16) (q : Fin 128) (h : Fin 2) (g : Fin 4) (d : Fin 64)
    (hH : ∀ d : Fin 128, H (ix2 (col t q) d)
      = if d.val / 64 = h.val then x0 (ix3 0 (queryAt b q) ⟨128 * g.val + d.val, by omega⟩) * (((Real.log 256)⁻¹ : ℝ) : EReal)
        else 0) (hsk : sk (ix2 0 (col t q)) = (lam : EReal) * a5 (ix1 (headAt h g)))
    (hp : b.val - 1 < 16) (hn : next b.val < 16) :
    unit (bp b.val) (bn b.val) (tile (View.ld x1 (rK (b.val - 1) hp))) (tile (View.ld x1 (rK b.val b.isLt)))
      (tile (View.ld x1 (rK (next b.val) hn))) (View.ld x2 r0_35) (tile (View.ld x3 (rV (b.val - 1) hp)))
      (tile (View.ld x3 (rV b.val b.isLt))) (tile (View.ld x3 (rV (next b.val) hn))) (View.ld x4 r0_37) H sk
      (ix2 ⟨64 * h.val + d.val, by omega⟩ (col t q))
      = softmaxValue (scoreLoc a0 a1 n b q h g) (fun w => ReferenceIdeal.Read.val_main_v12 (F := Ideal) a2 (ix5 n b w h d))
          (scoreCtx a0 a3 n b q h g) (fun c => a4 (ix4 n c h d)) (a5 (ix1 (headAt h g))) := by
  have hb := b.isLt
  have hq := q.isLt
  rw [unit_apply, hsk]
  refine softmax_eq _ _ _ _ _ _ _ (fun w => ?_) (fun c => ?_) (fun w hw => ?_) (fun c => ?_)
  · have hw := w.isLt
    refine (scores_apply _ _ _ _ _ _ _ w t q).trans ?_
    split
    · next h₁ =>
      refine biased _ b q h g w (128 * (b.val - 1) + w.val) (by omega) (fun hv => by omega)
        (score_at F H t b q h g hH (b.val - 1) hp ⟨w.val, h₁⟩) _ (fun hv => ?_) (fun hv => ?_)
      · obtain ⟨i, hi⟩ : ∃ i, b.val = i + 1 := ⟨b.val - 1, by omega⟩
        rw [hi]
        exact (biasPrev_apply _ _).trans (if_pos (by show q.val ≤ w.val; omega))
      · rcases Nat.eq_zero_or_pos b.val with hz | hz
        · rw [hz]; exact ninf_apply _ _
        · obtain ⟨i, hi⟩ : ∃ i, b.val = i + 1 := ⟨b.val - 1, by omega⟩
          rw [hi]
          exact (biasPrev_apply _ _).trans (if_neg (by show ¬ q.val ≤ w.val; omega))
    · split
      · next h₁ h₂ =>
        rw [score_at F H t b q h g hH b.val b.isLt ⟨w.val - 128, by omega⟩,
          scoreLoc_of_valid b q h g w (128 * b.val + (w.val - 128)) (by omega) (by omega) (by omega)]
      · next h₁ h₂ =>
        refine biased _ b q h g w (128 * next b.val + (w.val - 256)) (by omega) (fun hv => ?_)
          (score_at F H t b q h g hH (next b.val) hn ⟨w.val - 256, by omega⟩) _ (fun hv => ?_) (fun hv => ?_)
        · unfold next; rw [if_neg (by omega)]; omega
        · unfold bn
          rw [if_neg (by omega)]
          exact (biasNext_apply _ _).trans (if_pos (by show w.val - 256 ≤ q.val; omega))
        · unfold bn
          by_cases hz : b.val = 15
          · rw [if_pos hz]; exact ninf_apply _ _
          · rw [if_neg hz]
            exact (biasNext_apply _ _).trans (if_neg (by show ¬ w.val - 256 ≤ q.val; omega))
  · exact (scores_ctx _ _ _ _ _ _ _ c _).trans (score_ctx F H t b q h g hH c)
  · have hw' := w.isLt
    have hv : valid b.val q.val w.val := by
      by_contra hv
      exact hw (scoreLoc_of_not b q h g w hv)
    show _ = ReferenceIdeal.Read.val_main_v12 (F := Ideal) a2 (ix5 n b w h d)
    rw [bandV, band_apply a2 n b w h d ⟨by omega, by omega⟩, vals_loc]
    split
    · next h₁ =>
      rw [tileV, keyAt_eq b w (128 * (b.val - 1) + w.val) (by omega) (by omega)]
      exact F.v _ h d
    · split
      · next h₁ h₂ =>
        rw [tileV, keyAt_eq b w (128 * b.val + (w.val - 128)) (by omega) (by omega)]
        exact F.v _ h d
      · next h₁ h₂ =>
        have hx : next b.val = b.val + 1 := if_neg (by omega)
        rw [tileV, keyAt_eq b w (128 * next b.val + (w.val - 256)) (by omega) (by omega)]
        exact F.v _ h d
  · exact (vals_ctx _ _ _ _ _ c).trans ((loadVx x4 _ c).trans (F.vx c h d))

end Value

end Cert.Attn

end
-- ==== Proof.Attn.Host.lean ====
/- What each grid point's blocks hold of the arguments. -/
module

public import proofs.«01_k».proof.Proof.Attn.Tile
public import proofs.«01_k».proof.Proof.Gen.KernelIdeal.Value
public import Idealize.ShloMosaic.Lib.Pipeline.ValueKit
public import Idealize.ShloMosaic.Lib.Routing.OpsSet

@[expose] public section

set_option maxRecDepth 16384

noncomputable section

namespace Cert.Attn

open Cert.KernelIdeal Cert.KernelIdeal.Gen Idealize.ShloMosaic Idealize.ShloMosaic.TcCoe Idealize.SL.Sem
  Idealize.ShloMosaic.Pointwise

variable (m : (ℓ : Loc nD τ sig) → Buf (Elt Ideal) ℓ) (c : Dev nD)

/-- Every window's block index at each point. -/
theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val / 2, 0, t.val % 2]
    ∧ win0_5.index t = ![0, 0] ∧ win0_6.index t = ![t.val, 0, 0] :=
  (by decide +kernel : ∀ t : Fin grid0.N, _)

/-- The batch of a grid point. -/
abbrev batch (t : Fin cfg0.N) : Fin 8 := ⟨t.val, t.isLt⟩

theorem fit_q (t : Fin cfg0.N) (p : Fin 2048) (g : Fin 4) (h : Fin 2) (d : Fin 64) :
    iblk m c 0 t (ix3 0 p ⟨128 * g.val + (64 * h.val + d.val), by omega⟩)
      = m ((c : Thread nD τ).loc main_arg0) (ix4 (batch t) p (headAt h g) d) := by
  have ht : t.val < 8 := t.isLt
  blk_ext! [iblk, V, idx t]

theorem fit_k (t : Fin cfg0.N) (p : Fin 2048) (h : Fin 2) (d : Fin 64) :
    iblk m c 1 t (ix3 0 p ⟨64 * h.val + d.val, by omega⟩)
      = m ((c : Thread nD τ).loc main_arg1) (ix4 (batch t) p h d) := by
  have ht : t.val < 8 := t.isLt
  blk_ext! [iblk, V, idx t]

theorem fit_kx (t : Fin cfg0.N) (p : Fin 256) (h : Fin 2) (d : Fin 64) :
    iblk m c 2 t (ix3 0 p ⟨64 * h.val + d.val, by omega⟩)
      = m ((c : Thread nD τ).loc main_arg3) (ix4 (batch t) p h d) := by
  have ht : t.val < 8 := t.isLt
  blk_ext! [iblk, V, idx t]

theorem fit_v (t : Fin cfg0.N) (p : Fin 2048) (h : Fin 2) (d : Fin 64) :
    iblk m c 3 t (ix3 0 ⟨64 * h.val + d.val, by omega⟩ p)
      = m ((c : Thread nD τ).loc main_arg2) (ix4 (batch t) p h d) := by
  have ht : t.val < 8 := t.isLt
  blk_ext! [iblk, V, idx t]

set_option maxHeartbeats 1600000 in
theorem fit_vx (t : Fin cfg0.N) (p : Fin 256) (h : Fin 2) (d : Fin 64) :
    iblk m c 4 t (ix3 0 ⟨64 * h.val + d.val, by omega⟩ p)
      = m ((c : Thread nD τ).loc main_arg4) (ix4 (batch t) p h d) := by
  have ht : t.val < 8 := t.isLt
  blk_ext! [iblk, V, idx t]

/-- The positions at which the sink is read: group by group, the key-value heads in turn. -/
def order : IVec S8x1 32 :=
  broadcastInDim S8x1 ![0] bcast_S8_S8x1_0
    (select (cmpi .slt (fun i => lit0 (S8.rowMajor i)) (broadcastInDim S8 ![] bcast_S_S8 (constantI S_ 32 0#32)))
      (addi (fun i => lit0 (S8.rowMajor i)) (broadcastInDim S8 ![] bcast_S_S8 (constantI S_ 32 8#32)))
      fun i => lit0 (S8.rowMajor i))

theorem order_apply : ∀ k : Fin 8, order (ix2 k (0 : Fin 1)) = BitVec.ofNat 32 (4 * (k.val % 2) + k.val / 2) := by
  decide +kernel

theorem sink_read (x : FVec Ideal S8 .f32) (k : Fin 8) (g : Fin 4) (h : Fin 2) (e : k.val = 2 * g.val + h.val) :
    Host.gather gather_S8_S8x1_S8_n_0_n_n_0_1_1 x order (ix1 k) = x (ix1 (headAt h g)) := by
  refine Routing.gather_take1 _ rfl rfl rfl rfl x order k (headAt h g) ((order_apply k).trans ?_) (by decide)
  rw [show 4 * (k.val % 2) + k.val / 2 = 4 * h.val + g.val by omega]

theorem fit_s (t : Fin cfg0.N) (g : Fin 4) (h : Fin 2) (q : Fin 128) :
    iblk m c 5 t (ix2 0 ⟨256 * g.val + 128 * h.val + q.val, by omega⟩)
      = m ((c : Thread nD τ).loc main_arg5) (ix1 (headAt h g)) := by
  have e1 : (((View.whole main_v23).slice (win0_5.rect t)).emb
      (ix2 0 ⟨256 * g.val + 128 * h.val + q.val, by omega⟩) 1).val = 256 * g.val + 128 * h.val + q.val := by
    blk_simp [idx t]
  have key := sink_read (m (c, Proc.tc.devRef main_arg5))
    ⟨(((View.whole main_v23).slice (win0_5.rect t)).emb
      (ix2 0 ⟨256 * g.val + 128 * h.val + q.val, by omega⟩) 1).val / 128, by rw [e1]; omega⟩ g h ((congrArg (· / 128) e1).trans (by omega))
  blk_simp [iblk, V]
  entry_read
  pointwise
  exact key

theorem fits (t : Fin cfg0.N) : Fits (iblk m c 0 t) (iblk m c 1 t) (iblk m c 2 t) (iblk m c 3 t) (iblk m c 4 t)
    (iblk m c 5 t) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (batch t) :=
  ⟨fit_q m c t, fit_k m c t, fit_kx m c t, fit_v m c t, fit_vx m c t, fit_s m c t⟩

end Cert.Attn

end
-- ==== Proof.Attn.Body.lean ====
/- The attention call's body read at an index of its block of the result. -/
module

public import proofs.«01_k».proof.Proof.Attn.Tile
public import Idealize.ShloMosaic.Lib.Pipeline.ValueKit

@[expose] public section

set_option maxRecDepth 16384

noncomputable section

namespace Cert.Attn

open Cert.KernelIdeal Cert.KernelIdeal.Gen Idealize.ShloMosaic Idealize.SL.Sem Idealize.ShloMosaic.Pointwise

section Value
variable {x0 : Vec Ideal S1x2048x512 .bf16} {x1 : Vec Ideal S1x2048x128 .bf16} {x2 : Vec Ideal S1x256x128 .bf16}
  {x3 : Vec Ideal S1x128x2048 .bf16} {x4 : Vec Ideal S1x128x256 .bf16} {x5 : Vec Ideal S1x1024 .f32}
  {a0 : FVec Ideal S8x2048x8x64 .f32} {a1 a2 : FVec Ideal S8x2048x2x64 .f32} {a3 a4 : FVec Ideal S8x256x2x64 .f32}
  {a5 : FVec Ideal S8 .f32} {n : Fin 8}

theorem heads0_apply (b : Fin 16) (t : Fin 4) (q d : Fin 128) :
    heads0 (View.ld x0 (rQ b.val b.isLt)) (ix2 (col t q) d)
      = if d.val / 64 = t.val % 2 then
          x0 (ix3 0 (queryAt b q) ⟨128 * (t.val / 2) + d.val, by omega⟩) * (((Real.log 256)⁻¹ : ℝ) : EReal) else 0 := by
  have e : ∀ (l : Fin 512), scaled (View.ld x0 (rQ b.val b.isLt)) (ix2 q l)
      = x0 (ix3 0 (queryAt b q) l) * (((Real.log 256)⁻¹ : ℝ) : EReal) := fun l => by
    rw [scaled_apply]
    pointwise
  unfold heads0
  rw [stack_apply]
  refine if_congr Iff.rfl ?_ rfl
  generalize scaled (View.ld x0 (rQ b.val b.isLt)) = s at e
  split
  · pointwise
    rw [e]
    congr 3
    apply Fin.ext
    simp only
    omega
  · pointwise
    rw [e]
    congr 3
    apply Fin.ext
    simp only
    omega

theorem heads1_apply (b : Fin 16) (t : Fin 4) (q d : Fin 128) :
    heads1 (View.ld x0 (rQ b.val b.isLt)) (ix2 (col t q) d)
      = if d.val / 64 = t.val % 2 then
          x0 (ix3 0 (queryAt b q) ⟨128 * (2 + t.val / 2) + d.val, by omega⟩) * (((Real.log 256)⁻¹ : ℝ) : EReal) else 0 := by
  have e : ∀ (l : Fin 512), scaled (View.ld x0 (rQ b.val b.isLt)) (ix2 q l)
      = x0 (ix3 0 (queryAt b q) l) * (((Real.log 256)⁻¹ : ℝ) : EReal) := fun l => by
    rw [scaled_apply]
    pointwise
  unfold heads1
  rw [stack_apply]
  refine if_congr Iff.rfl ?_ rfl
  generalize scaled (View.ld x0 (rQ b.val b.isLt)) = s at e
  split
  · pointwise
    rw [e]
    congr 3
    apply Fin.ext
    simp only
    omega
  · pointwise
    rw [e]
    congr 3
    apply Fin.ext
    simp only
    omega

theorem sink0 (l : Fin 512) : View.ld x5 r0_0 (ix2 0 l) = x5 (ix2 0 ⟨l.val, by omega⟩) := by
  pointwise [r0_0]

theorem sink1 (l : Fin 512) : View.ld x5 r0_1 (ix2 0 l) = x5 (ix2 0 ⟨512 + l.val, by omega⟩) := by
  pointwise [r0_1]

/-- The value of query `q` of block `b` under the head of group `g` and key-value head `h`, in lane `d`. -/
def refAt (a0 : FVec Ideal S8x2048x8x64 .f32) (a1 a2 : FVec Ideal S8x2048x2x64 .f32) (a3 a4 : FVec Ideal S8x256x2x64 .f32)
    (a5 : FVec Ideal S8 .f32) (n : Fin 8) (b : Fin 16) (q : Fin 128) (g : Fin 4) (h : Fin 2) (d : Fin 64) : EReal :=
  softmaxValue (scoreLoc a0 a1 n b q h g) (fun w => ReferenceIdeal.Read.val_main_v12 (F := Ideal) a2 (ix5 n b w h d))
    (scoreCtx a0 a3 n b q h g) (fun c => a4 (ix4 n c h d)) (a5 (ix1 (headAt h g)))

theorem unit0_value (F : Fits x0 x1 x2 x3 x4 x5 a0 a1 a2 a3 a4 a5 n) (b : Fin 16) (q : Fin 128) (s h : Fin 2) (d : Fin 64) :
    unit0 x0 x1 x2 x3 x4 x5 b.val b.isLt (ix2 ⟨64 * h.val + d.val, by omega⟩ (col ⟨2 * s.val + h.val, by omega⟩ q))
      = refAt a0 a1 a2 a3 a4 a5 n b q ⟨s.val, by omega⟩ h d := by
  refine unit_value F _ _ ⟨2 * s.val + h.val, by omega⟩ b q h ⟨s.val, by omega⟩ d (fun d' => ?_) ?_ _ _
  · refine (heads0_apply b _ q d').trans (if_congr (by simp only; omega) ?_ rfl)
    congr 3
    apply Fin.ext
    simp only
    omega
  · rw [sinkRow_apply, sink0, ← F.s ⟨s.val, by omega⟩ h q]
    congr 3
    apply Fin.ext
    simp only
    omega

theorem unit1_value (F : Fits x0 x1 x2 x3 x4 x5 a0 a1 a2 a3 a4 a5 n) (b : Fin 16) (q : Fin 128) (s h : Fin 2) (d : Fin 64) :
    unit1 x0 x1 x2 x3 x4 x5 b.val b.isLt (ix2 ⟨64 * h.val + d.val, by omega⟩ (col ⟨2 * s.val + h.val, by omega⟩ q))
      = refAt a0 a1 a2 a3 a4 a5 n b q ⟨2 + s.val, by omega⟩ h d := by
  refine unit_value F _ _ ⟨2 * s.val + h.val, by omega⟩ b q h ⟨2 + s.val, by omega⟩ d (fun d' => ?_) ?_ _ _
  · refine (heads1_apply b _ q d').trans (if_congr (by simp only; omega) ?_ rfl)
    congr 3
    apply Fin.ext
    simp only
    omega
  · rw [sinkRow_apply, sink1, ← F.s ⟨2 + s.val, by omega⟩ h q]
    congr 3
    apply Fin.ext
    simp only
    omega

/-- A joined tile's lane, from its unit's values. -/
theorem emit0_value (o : FVec Ideal S128x512 .f32) (q l : Fin 128) (f : Fin 2 → Fin 64 → EReal)
    (hf : ∀ (h : Fin 2) (d : Fin 64), o (ix2 ⟨64 * h.val + d.val, by omega⟩ (col ⟨2 * (0 : Fin 2).val + h.val, by simp only [Fin.val_zero]; omega⟩ q)) = f h d) :
    emit0 o (ix3 0 q l) = f ⟨l.val / 64, by omega⟩ ⟨l.val % 64, by omega⟩ := by
  unfold emit0
  rw [joined_apply, ← hf]
  split
  · pointwise
    congr 2 <;> apply Fin.ext <;> simp only [Fin.val_zero] <;> omega
  · pointwise
    congr 2 <;> apply Fin.ext <;> simp only [Fin.val_zero] <;> omega

theorem emit1_value (o : FVec Ideal S128x512 .f32) (q l : Fin 128) (f : Fin 2 → Fin 64 → EReal)
    (hf : ∀ (h : Fin 2) (d : Fin 64), o (ix2 ⟨64 * h.val + d.val, by omega⟩ (col ⟨2 * (1 : Fin 2).val + h.val, by simp only [Fin.val_one]; omega⟩ q)) = f h d) :
    emit1 o (ix3 0 q l) = f ⟨l.val / 64, by omega⟩ ⟨l.val % 64, by omega⟩ := by
  unfold emit1
  rw [joined_apply, ← hf]
  split
  · pointwise
    congr 2 <;> apply Fin.ext <;> simp only [Fin.val_one] <;> omega
  · pointwise
    congr 2 <;> apply Fin.ext <;> simp only [Fin.val_one] <;> omega

/-- The block of the result. -/
def blockOf (a0 : FVec Ideal S8x2048x8x64 .f32) (a1 a2 : FVec Ideal S8x2048x2x64 .f32) (a3 a4 : FVec Ideal S8x256x2x64 .f32)
    (a5 : FVec Ideal S8 .f32) (n : Fin 8) (p : Fin 2048) (l : Fin 512) : EReal :=
  refAt a0 a1 a2 a3 a4 a5 n ⟨p.val / 128, by omega⟩ ⟨p.val % 128, by omega⟩ ⟨l.val / 128, by omega⟩
    ⟨l.val % 128 / 64, by omega⟩ ⟨l.val % 64, by omega⟩

/-- Each piece agrees with the block. -/
def Agrees (a0 : FVec Ideal S8x2048x8x64 .f32) (a1 a2 : FVec Ideal S8x2048x2x64 .f32) (a3 a4 : FVec Ideal S8x256x2x64 .f32)
    (a5 : FVec Ideal S8 .f32) (n : Fin 8) (p : View.Piece (Elt Ideal) S1x2048x512 .bf16) : Prop :=
  ∀ x, p.2 x = blockOf a0 a1 a2 a3 a4 a5 n (p.1.emb x 1) (p.1.emb x 2)

theorem agrees_of (b : Fin 16) (g : Fin 4) (P : FVec Ideal S1x128x128 .bf16)
    (hP : ∀ q l : Fin 128, P (ix3 0 q l) = refAt a0 a1 a2 a3 a4 a5 n b q g ⟨l.val / 64, by omega⟩ ⟨l.val % 64, by omega⟩) :
    Agrees a0 a1 a2 a3 a4 a5 n ⟨rO b.val g.val b.isLt g.isLt, P⟩ := by
  intro x
  have h1 : (x 1).val < 128 := (x 1).isLt
  have h2 : (x 2).val < 128 := (x 2).isLt
  have hx : x = ix3 0 ⟨(x 1).val, h1⟩ ⟨(x 2).val, h2⟩ := by
    funext a
    fin_cases a
    · exact Subsingleton.elim (α := Fin 1) _ _
    · rfl
    · rfl
  have e1 : ((rO b.val g.val b.isLt g.isLt).emb x 1).val = 128 * b.val + (x 1).val :=
    congrArg (128 * b.val + ·) (Nat.one_mul _)
  have e2 : ((rO b.val g.val b.isLt g.isLt).emb x 2).val = 128 * g.val + (x 2).val :=
    congrArg (128 * g.val + ·) (Nat.one_mul _)
  refine (congrArg P hx).trans ((hP _ _).trans ?_)
  show _ = refAt a0 a1 a2 a3 a4 a5 n ⟨((rO b.val g.val b.isLt g.isLt).emb x 1).val / 128, _⟩ ⟨((rO b.val g.val b.isLt g.isLt).emb x 1).val % 128, _⟩ ⟨((rO b.val g.val b.isLt g.isLt).emb x 2).val / 128, _⟩
    ⟨((rO b.val g.val b.isLt g.isLt).emb x 2).val % 128 / 64, _⟩ ⟨((rO b.val g.val b.isLt g.isLt).emb x 2).val % 64, _⟩
  simp only [e1, e2]
  congr 1 <;> apply Fin.ext <;> simp only <;> omega

theorem tiles_agree (F : Fits x0 x1 x2 x3 x4 x5 a0 a1 a2 a3 a4 a5 n) (b : Nat) (hb : b < 16) :
    ∀ p ∈ tiles x0 x1 x2 x3 x4 x5 b hb, Agrees a0 a1 a2 a3 a4 a5 n p := by
  intro p hp
  simp only [tiles, List.mem_cons, List.not_mem_nil, or_false] at hp
  rcases hp with rfl | rfl | rfl | rfl
  · exact agrees_of ⟨b, hb⟩ 3 _ fun q l => emit1_value _ q l _ fun h d => unit1_value F ⟨b, hb⟩ q 1 h d
  · exact agrees_of ⟨b, hb⟩ 2 _ fun q l => emit0_value _ q l _ fun h d => unit1_value F ⟨b, hb⟩ q 0 h d
  · exact agrees_of ⟨b, hb⟩ 1 _ fun q l => emit1_value _ q l _ fun h d => unit0_value F ⟨b, hb⟩ q 1 h d
  · exact agrees_of ⟨b, hb⟩ 0 _ fun q l => emit0_value _ q l _ fun h d => unit0_value F ⟨b, hb⟩ q 0 h d

theorem tilesTo_agree (F : Fits x0 x1 x2 x3 x4 x5 a0 a1 a2 a3 a4 a5 n) : ∀ (k : Nat) (hk : k ≤ 16),
    ∀ p ∈ tilesTo x0 x1 x2 x3 x4 x5 k hk, Agrees a0 a1 a2 a3 a4 a5 n p
  | 0, _, p, hp => absurd hp List.not_mem_nil
  | k + 1, hk, p, hp => (List.mem_append.mp hp).elim (tiles_agree F k hk p) (tilesTo_agree F k (Nat.le_of_lt hk) p)

/-- Block `b`'s tiles are among those of the first `k` blocks. -/
theorem mem_tilesTo (b : Nat) (hb : b < 16) (p : View.Piece (Elt Ideal) S1x2048x512 .bf16)
    (hp : p ∈ tiles x0 x1 x2 x3 x4 x5 b hb) : ∀ (k : Nat) (hk : k ≤ 16), b < k → p ∈ tilesTo x0 x1 x2 x3 x4 x5 k hk
  | 0, _, h => absurd h (Nat.not_lt_zero b)
  | k + 1, hk, h => List.mem_append.mpr <| by
    by_cases e : b = k
    · subst e; exact .inl hp
    · exact .inr (mem_tilesTo b hb p hp k (Nat.le_of_lt hk) (by omega))

/-- A tile of block `b` and group `g`. -/
theorem tile_of (b : Nat) (hb : b < 16) (g : Nat) (hg : g < 4) :
    ∃ P, (⟨rO b g hb hg, P⟩ : View.Piece (Elt Ideal) S1x2048x512 .bf16) ∈ tiles x0 x1 x2 x3 x4 x5 b hb := by
  match g, hg with
  | 0, _ => exact ⟨_, .tail _ (.tail _ (.tail _ (.head _)))⟩
  | 1, _ => exact ⟨_, .tail _ (.tail _ (.head _))⟩
  | 2, _ => exact ⟨_, .tail _ (.head _)⟩
  | 3, _ => exact ⟨_, .head _⟩

theorem mem_rO (b : Fin 16) (g : Fin 4) (q l : Fin 128) :
    (ix3 (0 : Fin 1) (queryAt b q) (⟨128 * g.val + l.val, by omega⟩ : Fin 512) : S1x2048x512.Idx) ∈ (rO b.val g.val b.isLt g.isLt).set := by
  have hq := q.isLt
  have hl := l.isLt
  refine Rect.mem_set_unit.mpr fun a => ?_
  fin_cases a
  · exact ⟨Nat.le_refl 0, Nat.zero_lt_one⟩
  · show 128 * b.val ≤ 128 * b.val + q.val ∧ 128 * b.val + q.val < 128 * b.val + 128
    omega
  · show 128 * g.val ≤ 128 * g.val + l.val ∧ 128 * g.val + l.val < 128 * g.val + 128
    omega

/-- The body's output at an index. -/
theorem out_apply (F : Fits x0 x1 x2 x3 x4 x5 a0 a1 a2 a3 a4 a5 n) (b : Fin 16) (q : Fin 128) (g : Fin 4) (l : Fin 128) :
    out0_6 x0 x1 x2 x3 x4 x5 (ix3 0 (queryAt b q) ⟨128 * g.val + l.val, by omega⟩)
      = refAt a0 a1 a2 a3 a4 a5 n b q g ⟨l.val / 64, by omega⟩ ⟨l.val % 64, by omega⟩ := by
  rw [out_eq]
  obtain ⟨P, hP⟩ := tile_of (x0 := x0) (x1 := x1) (x2 := x2) (x3 := x3) (x4 := x4) (x5 := x5) b.val b.isLt g.val g.isLt
  refine (View.canon_apply_of_pieces (fun y => blockOf a0 a1 a2 a3 a4 a5 n (y 1) (y 2)) _
    (tilesTo_agree F 16 (Nat.le_refl 16)) _ ⟨_, mem_tilesTo b.val b.isLt _ hP 16 (Nat.le_refl 16) b.isLt, mem_rO b g q l⟩).trans ?_
  show refAt a0 a1 a2 a3 a4 a5 n ⟨(128 * b.val + q.val) / 128, _⟩ ⟨(128 * b.val + q.val) % 128, _⟩ ⟨(128 * g.val + l.val) / 128, _⟩
    ⟨(128 * g.val + l.val) % 128 / 64, _⟩ ⟨(128 * g.val + l.val) % 64, _⟩ = _
  congr 1 <;> apply Fin.ext <;> simp only <;> omega

end Value

end Cert.Attn

end
-- ==== Proof.Attn.Value.lean ====
/- The attention call's result is the reference's. -/
module

public import proofs.«01_k».proof.Proof.Attn.Host
public import proofs.«01_k».proof.Proof.Attn.Body
public import proofs.«01_k».proof.Defs
public import proofs.«01_k».proof.Proof.Gen.ReferenceIdeal.Run

@[expose] public section

set_option maxRecDepth 16384

noncomputable section

namespace Cert.Attn

open Cert.KernelIdeal Cert.KernelIdeal.Gen Idealize.ShloMosaic Idealize.ShloMosaic.TcCoe Idealize.SL.Sem
  Idealize.ShloMosaic.Pointwise

variable (m : (ℓ : Loc nD τ sig) → Buf (Elt Ideal) ℓ) (c : Dev nD)

/-- The reference's result on core `c`'s arguments. -/
abbrev refValue : FVec Ideal S8x2048x512 .bf16 :=
  ReferenceIdeal.Read.val_main_v90 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- At each point the body writes the reference's block. -/
theorem point (t : Fin cfg0.N) (p : Fin 2048) (l : Fin 512) :
    out0_6 (iblk m c 0 t) (iblk m c 1 t) (iblk m c 2 t) (iblk m c 3 t) (iblk m c 4 t) (iblk m c 5 t) (ix3 0 p l)
      = refValue m c (ix3 (batch t) p l) := by
  have hp := p.isLt
  have hl := l.isLt
  have e₁ : p = queryAt ⟨p.val / 128, by omega⟩ ⟨p.val % 128, by omega⟩ := Fin.ext (by simp only; omega)
  have e₂ : l = ⟨128 * (l.val / 128) + l.val % 128, by omega⟩ := Fin.ext (by simp only; omega)
  have e₃ : l = ⟨128 * (l.val / 128) + 64 * (l.val % 128 / 64) + l.val % 128 % 64, by omega⟩ := Fin.ext (by simp only; omega)
  have hk := out_apply (fits m c t) ⟨p.val / 128, by omega⟩ ⟨p.val % 128, by omega⟩ ⟨l.val / 128, by omega⟩ ⟨l.val % 128, by omega⟩
  have hr := ref_apply (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (batch t) ⟨p.val / 128, by omega⟩ ⟨p.val % 128, by omega⟩ ⟨l.val / 128, by omega⟩
    ⟨l.val % 128 / 64, by omega⟩ ⟨l.val % 128 % 64, by omega⟩
  rw [← e₁] at hk hr
  rw [← e₂] at hk
  rw [← e₃] at hr
  exact hk.trans hr.symm

/-- The result array after the run. -/
theorem final : (dats m 0 c).arrAt 6 cfg0.N = refValue m c := by
  refine (dats m 0 c).arrAt_eq_of_covers 6 _ (by decide +kernel) fun t hf y => ?_
  blk_simp
  rw [after0_6]
  have h0 : (y 0).val < 1 := (y 0).isLt
  have h1 : (y 1).val < 2048 := (y 1).isLt
  have h2 : (y 2).val < 512 := (y 2).isLt
  have hy : y = (ix3 (0 : Fin 1) (⟨(y 1).val, h1⟩ : Fin 2048) (⟨(y 2).val, h2⟩ : Fin 512) : S1x2048x512.Idx) := by
    funext a
    fin_cases a
    · exact Subsingleton.elim (α := Fin 1) _ _
    · rfl
    · rfl
  have he : ((cfg0.win 6).blk t).view.emb y
      = (ix3 (batch t) (⟨(y 1).val, h1⟩ : Fin 2048) (⟨(y 2).val, h2⟩ : Fin 512) : S8x2048x512.Idx) := by
    blk_ext [idx t]
  refine (congrArg _ hy).trans ((point m c t ⟨(y 1).val, h1⟩ ⟨(y 2).val, h2⟩).trans ?_)
  exact congrArg (refValue m c) he.symm

/-- The call and the reference compute the same function. -/
theorem algebraic : Cert.algebraic_KernelIdeal_ReferenceIdeal := by
  intro m g m' g' _ hagree
  refine ⟨fun c => refValue m c, ?_, ?_⟩
  · exact (θ_run _ _ _).mono (fun r h c => ⟨(h c).1.trans (final m c), (h c).2⟩) (Value.run_blocks m g)
  · refine (θ_run _ _ _).mono (fun r h c => ⟨(h c).1.trans ?_, (h c).2⟩) (ReferenceIdeal.Value.run m' g')
    rw [ReferenceIdeal.Read.val_main_v90_eq]
    obtain ⟨h0, h1, h2, h3, h4, h5⟩ := hagree c
    rw [h0, h1, h2, h3, h4, h5]

end Cert.Attn
-- ==== Proof.Ffn.Row.lean ====
/- One row of the layer's tail, as functions of the row. -/
module

public import proofs.«01_k».proof.Proof.Gen.Kernel2Ideal.Value
public import Idealize.ShloMosaic.PureOps.Ideal.Laws
public import Mathlib.Data.EReal.Operations
public import Mathlib.Data.EReal.Inv

@[expose] public section

set_option maxRecDepth 16384

noncomputable section

namespace Cert.Ffn

open Idealize.ShloMosaic

/-- A row over its root mean square, times the gain. -/
def rms (v g : Fin 1024 → EReal) (j : Fin 1024) : EReal :=
  v j * Ideal.rsqrt (Ideal.div (∑ k, v k * v k) (Ideal.ofBits FTy.f32 0x44800000#32) + Ideal.ofBits FTy.f32 0x358637BD#32) * g j

/-- The two mixers' rows through the output projection. -/
def mixRow (a b : Fin 512 → EReal) (wa wb : Fin 512 → Fin 1024 → EReal) (j : Fin 1024) : EReal :=
  ∑ k, a k * wa k j + ∑ k, b k * wb k j

/-- The residual after a normalised, gated branch. -/
def gated (x v gate g : Fin 1024 → EReal) (j : Fin 1024) : EReal :=
  x j + gate j * rms v g j

/-- The normalised and modulated row. -/
def modRow (v g sc sh : Fin 1024 → EReal) (j : Fin 1024) : EReal :=
  rms v g j * (1 + sc j) + sh j

/-- Gate and up projection in one. -/
def guRow (h : Fin 1024 → EReal) (w : Fin 1024 → Fin 5632 → EReal) (n : Fin 5632) : EReal :=
  ∑ k, h k * w k n

/-- The gated hidden row through the down projection. -/
def downRow (u : Fin 5632 → EReal) (w : Fin 2816 → Fin 1024 → EReal) (j : Fin 1024) : EReal :=
  ∑ k : Fin 2816, u ⟨k.val, by omega⟩ * Ideal.logistic (u ⟨k.val, by omega⟩) * u ⟨2816 + k.val, by omega⟩ * w k j

/-- The feed-forward branch's row. -/
def ffnRow (x1 gpf sc sh : Fin 1024 → EReal) (wi : Fin 1024 → Fin 5632 → EReal) (wo : Fin 2816 → Fin 1024 → EReal) :
    Fin 1024 → EReal :=
  downRow (guRow (modRow x1 gpf sc sh) wi) wo

/-- The row after the mixers' branch. -/
def midRow (x : Fin 1024 → EReal) (a b : Fin 512 → EReal) (gtm gpm : Fin 1024 → EReal) (wa wb : Fin 512 → Fin 1024 → EReal) :
    Fin 1024 → EReal :=
  gated x (mixRow a b wa wb) gtm gpm

/-- The row of the result. -/
def outRow (x : Fin 1024 → EReal) (a b : Fin 512 → EReal) (gtm sh sc gtf gpm gpf gpo : Fin 1024 → EReal)
    (wa wb : Fin 512 → Fin 1024 → EReal) (wi : Fin 1024 → Fin 5632 → EReal) (wo : Fin 2816 → Fin 1024 → EReal) :
    Fin 1024 → EReal :=
  gated (midRow x a b gtm gpm wa wb) (ffnRow (midRow x a b gtm gpm wa wb) gpf sc sh wi wo) gtf gpo

end Cert.Ffn

end
-- ==== Proof.Ffn.Unit.lean ====
/- What the kernel's values hold, row by row. -/
module

public import proofs.«01_k».proof.Proof.Ffn.Row
public import Idealize.ShloMosaic.Lib.Pipeline.ValueKit

@[expose] public section

set_option maxRecDepth 16384

noncomputable section

namespace Cert.Ffn

open Cert.Kernel2Ideal Cert.Kernel2Ideal.Gen Idealize.ShloMosaic Idealize.ShloMosaic.TcCoe Idealize.SL.Sem
  Idealize.ShloMosaic.Pointwise

/-- Row `p` of a matrix. -/
abbrev row {M N : Nat} (x : (⟨2, ![M, N]⟩ : Shape).Idx → EReal) (p : Fin M) (j : Fin N) : EReal := x (ix2 p j)

/-- The entries of a matrix. -/
abbrev mat {M N : Nat} (x : (⟨2, ![M, N]⟩ : Shape).Idx → EReal) (k : Fin M) (j : Fin N) : EReal := x (ix2 k j)

section Mid

variable (x : Vec Ideal S256x1024 .f32) (a b : Vec Ideal S256x512 .bf16) (gtm gpm : Vec Ideal S1x1024 .f32)
  (wa wb : Vec Ideal S512x1024 .bf16) (p : Fin 256) (j : Fin 1024)

theorem mid_0 : k0_pay5 gtm (k0_pay3 a) wa b wb x gpm (ix2 p j)
    = midRow (row x p) (row a p) (row b p) (row gtm 0) (row gpm 0) (mat wa) (mat wb) j := by
  pointwise [k0_pay5, k0_pay3]
  rfl

theorem mid_1 : k0_pay7 gtm (k0_pay4 a wa b wb) x gpm (ix2 p j)
    = midRow (row x p) (row a p) (row b p) (row gtm 0) (row gpm 0) (mat wa) (mat wb) j := by
  pointwise [k0_pay7, k0_pay4]
  rfl

theorem mid_2 : k0_pay16 gtm (k0_pay13 a wa) (k0_pay14 b) wb x gpm (ix2 p j)
    = midRow (row x p) (row a p) (row b p) (row gtm 0) (row gpm 0) (mat wa) (mat wb) j := by
  pointwise [k0_pay16, k0_pay13, k0_pay14]
  rfl

theorem mid_3 : k0_pay19 gtm (k0_pay15 a wa b wb) x gpm (ix2 p j)
    = midRow (row x p) (row a p) (row b p) (row gtm 0) (row gpm 0) (mat wa) (mat wb) j := by
  pointwise [k0_pay19, k0_pay15]
  rfl

end Mid

section Ffn

variable (gate sc sh gpf gpo : Vec Ideal S1x1024 .f32) (y : FVec Ideal S256x1024 .f32) (wi : Vec Ideal S1024x5632 .bf16)
  (wo : Vec Ideal S2816x1024 .bf16) (p : Fin 256) (j : Fin 1024)

theorem gu_0 (n : Fin 5632) : k0_pay6 sh sc y gpf wi (ix2 p n)
    = guRow (modRow (row y p) (row gpf 0) (row sc 0) (row sh 0)) (mat wi) n := by
  pointwise [k0_pay6]
  rfl

theorem down_0 (u : FVec Ideal S256x5632 .f32) : k0_pay8 u wo (ix2 p j) = downRow (row u p) (mat wo) j := by
  pointwise [k0_pay8]
  rfl

theorem last_0 (u : FVec Ideal S256x5632 .f32) : k0_pay11 gate y (k0_pay8 u wo) gpo (k0_pay10 u wo) (ix2 p j)
    = gated (row y p) (downRow (row u p) (mat wo)) (row gate 0) (row gpo 0) j := by
  pointwise [k0_pay11, k0_pay10, k0_pay8]
  rfl

theorem ffn_1 : k0_pay9 sh sc y gpf wi wo (ix2 p j)
    = ffnRow (row y p) (row gpf 0) (row sc 0) (row sh 0) (mat wi) (mat wo) j := by
  pointwise [k0_pay9]
  rfl

theorem last_1 (f : FVec Ideal S256x1024 .f32) : k0_pay12 gate y f gpo (ix2 p j)
    = gated (row y p) (row f p) (row gate 0) (row gpo 0) j := by
  pointwise [k0_pay12]
  rfl

theorem last_2 (u : FVec Ideal S256x5632 .f32) : k0_pay1 gate y (k0_pay22 u wo) (k0_pay23 gpo) (ix2 p j)
    = gated (row y p) (downRow (row u p) (mat wo)) (row gate 0) (row gpo 0) j := by
  pointwise [k0_pay1, k0_pay22, k0_pay23]
  rfl

theorem last_3 (f : FVec Ideal S256x1024 .f32) : k0_pay2 gate y f gpo (ix2 p j)
    = gated (row y p) (row f p) (row gate 0) (row gpo 0) j := by
  pointwise [k0_pay2]
  rfl

end Ffn

section Square

variable (x : Vec Ideal S256x1024 .f32) (a b : Vec Ideal S256x512 .bf16) (gtm gpm gpf sc sh : Vec Ideal S1x1024 .f32)
  (wa wb : Vec Ideal S512x1024 .bf16) (wi : Vec Ideal S1024x5632 .bf16) (wo : Vec Ideal S2816x1024 .bf16)
  (p : Fin 256) (j : Fin 1024)

/-- The mean square the second half of the third group is handed. -/
theorem mean_2 : k0_pay17 gtm (k0_pay13 a wa) (k0_pay14 b) wb x gpm (ix2 p 0)
    = Ideal.div (∑ k, midRow (row x p) (row a p) (row b p) (row gtm 0) (row gpm 0) (mat wa) (mat wb) k
        * midRow (row x p) (row a p) (row b p) (row gtm 0) (row gpm 0) (mat wa) (mat wb) k)
        (Ideal.ofBits FTy.f32 0x44800000#32) := by
  pointwise [k0_pay17, k0_pay16, k0_pay13, k0_pay14]
  rfl

theorem gu_2 (n : Fin 5632) :
    k0_pay18 sh sc (k0_pay16 gtm (k0_pay13 a wa) (k0_pay14 b) wb x gpm) gpf
        (k0_pay17 gtm (k0_pay13 a wa) (k0_pay14 b) wb x gpm) wi (ix2 p n)
      = guRow (modRow (midRow (row x p) (row a p) (row b p) (row gtm 0) (row gpm 0) (mat wa) (mat wb)) (row gpf 0) (row sc 0)
          (row sh 0)) (mat wi) n := by
  have h1 := mean_2 x a b gtm gpm wa wb p
  have h2 := mid_2 x a b gtm gpm wa wb p
  generalize k0_pay16 gtm (k0_pay13 a wa) (k0_pay14 b) wb x gpm = y at h2
  generalize k0_pay17 gtm (k0_pay13 a wa) (k0_pay14 b) wb x gpm = s at h1
  pointwise [k0_pay18]
  simp only [h1, h2]
  rfl

theorem mean_3 : k0_pay20 gtm (k0_pay15 a wa b wb) x gpm (ix2 p 0)
    = Ideal.div (∑ k, midRow (row x p) (row a p) (row b p) (row gtm 0) (row gpm 0) (mat wa) (mat wb) k
        * midRow (row x p) (row a p) (row b p) (row gtm 0) (row gpm 0) (mat wa) (mat wb) k)
        (Ideal.ofBits FTy.f32 0x44800000#32) + Ideal.ofBits FTy.f32 0x358637BD#32 := by
  pointwise [k0_pay20, k0_pay19, k0_pay15]
  rfl

theorem ffn_3 : k0_pay21 sh sc (k0_pay19 gtm (k0_pay15 a wa b wb) x gpm) gpf
        (k0_pay20 gtm (k0_pay15 a wa b wb) x gpm) wi wo (ix2 p j)
      = ffnRow (midRow (row x p) (row a p) (row b p) (row gtm 0) (row gpm 0) (mat wa) (mat wb)) (row gpf 0) (row sc 0)
          (row sh 0) (mat wi) (mat wo) j := by
  have h1 := mean_3 x a b gtm gpm wa wb p
  have h2 := mid_3 x a b gtm gpm wa wb p
  generalize k0_pay19 gtm (k0_pay15 a wa b wb) x gpm = y at h2
  generalize k0_pay20 gtm (k0_pay15 a wa b wb) x gpm = s at h1
  pointwise [k0_pay21]
  simp only [h1, h2]
  rfl

end Square

section Group

variable (x : Vec Ideal S256x1024 .f32) (a b : Vec Ideal S256x512 .bf16) (gtm sh sc gtf gpm gpf gpo : Vec Ideal S1x1024 .f32)
  (wa wb : Vec Ideal S512x1024 .bf16) (wi : Vec Ideal S1024x5632 .bf16) (wo : Vec Ideal S2816x1024 .bf16)
  (p : Fin 256) (j : Fin 1024)

theorem group_0 :
    k0_pay11 gtf (k0_pay5 gtm (k0_pay3 a) wa b wb x gpm) (k0_pay8 (k0_pay6 sh sc (k0_pay5 gtm (k0_pay3 a) wa b wb x gpm) gpf wi) wo) gpo
        (k0_pay10 (k0_pay6 sh sc (k0_pay5 gtm (k0_pay3 a) wa b wb x gpm) gpf wi) wo) (ix2 p j)
      = outRow (row x p) (row a p) (row b p) (row gtm 0) (row sh 0) (row sc 0) (row gtf 0) (row gpm 0) (row gpf 0) (row gpo 0)
        (mat wa) (mat wb) (mat wi) (mat wo) j := by
  have h1 := funext fun k => mid_0 x a b gtm gpm wa wb p k
  rw [last_0]
  generalize (k0_pay5 gtm (k0_pay3 a) wa b wb x gpm) = y at h1
  have h2 := funext fun n => gu_0 sc sh gpf y wi p n
  generalize k0_pay6 sh sc y gpf wi = u at h2
  show gated (fun j => y (ix2 p j)) (downRow (fun n => u (ix2 p n)) _) _ _ j = _
  rw [h2]
  show gated (fun j => y (ix2 p j)) (downRow (guRow (modRow (fun j => y (ix2 p j)) _ _ _) _) _) _ _ j = _
  rw [h1]
  rfl

theorem group_1 :
    k0_pay12 gtf (k0_pay7 gtm (k0_pay4 a wa b wb) x gpm) (k0_pay9 sh sc (k0_pay7 gtm (k0_pay4 a wa b wb) x gpm) gpf wi wo) gpo (ix2 p j)
      = outRow (row x p) (row a p) (row b p) (row gtm 0) (row sh 0) (row sc 0) (row gtf 0) (row gpm 0) (row gpf 0) (row gpo 0)
        (mat wa) (mat wb) (mat wi) (mat wo) j := by
  have h1 := funext fun k => mid_1 x a b gtm gpm wa wb p k
  rw [last_1]
  generalize (k0_pay7 gtm (k0_pay4 a wa b wb) x gpm) = y at h1
  have h2 := funext fun n => ffn_1 sc sh gpf y wi wo p n
  generalize k0_pay9 sh sc y gpf wi wo = f at h2
  show gated (fun j => y (ix2 p j)) (fun n => f (ix2 p n)) _ _ j = _
  rw [h2]
  show gated (fun j => y (ix2 p j)) (ffnRow (fun j => y (ix2 p j)) _ _ _ _ _) _ _ j = _
  rw [h1]
  rfl

theorem group_2 :
    k0_pay1 gtf (k0_pay16 gtm (k0_pay13 a wa) (k0_pay14 b) wb x gpm) (k0_pay22 (k0_pay18 sh sc (k0_pay16 gtm (k0_pay13 a wa) (k0_pay14 b) wb x gpm) gpf
        (k0_pay17 gtm (k0_pay13 a wa) (k0_pay14 b) wb x gpm) wi) wo) (k0_pay23 gpo) (ix2 p j)
      = outRow (row x p) (row a p) (row b p) (row gtm 0) (row sh 0) (row sc 0) (row gtf 0) (row gpm 0) (row gpf 0) (row gpo 0)
        (mat wa) (mat wb) (mat wi) (mat wo) j := by
  have h1 := funext fun k => mid_2 x a b gtm gpm wa wb p k
  have h2 := funext fun n => gu_2 x a b gtm gpm gpf sc sh wa wb wi p n
  rw [last_2]
  generalize (k0_pay18 sh sc (k0_pay16 gtm (k0_pay13 a wa) (k0_pay14 b) wb x gpm) gpf (k0_pay17 gtm (k0_pay13 a wa) (k0_pay14 b) wb x gpm) wi) = u at h2
  generalize (k0_pay16 gtm (k0_pay13 a wa) (k0_pay14 b) wb x gpm) = y at h1
  show gated (fun j => y (ix2 p j)) (downRow (fun n => u (ix2 p n)) _) _ _ j = _
  rw [h2, h1]
  rfl

theorem group_3 :
    k0_pay2 gtf (k0_pay19 gtm (k0_pay15 a wa b wb) x gpm) (k0_pay21 sh sc (k0_pay19 gtm (k0_pay15 a wa b wb) x gpm) gpf
        (k0_pay20 gtm (k0_pay15 a wa b wb) x gpm) wi wo) gpo (ix2 p j)
      = outRow (row x p) (row a p) (row b p) (row gtm 0) (row sh 0) (row sc 0) (row gtf 0) (row gpm 0) (row gpf 0) (row gpo 0)
        (mat wa) (mat wb) (mat wi) (mat wo) j := by
  have h1 := funext fun k => mid_3 x a b gtm gpm wa wb p k
  have h2 := funext fun n => ffn_3 x a b gtm gpm gpf sc sh wa wb wi wo p n
  rw [last_3]
  generalize (k0_pay21 sh sc (k0_pay19 gtm (k0_pay15 a wa b wb) x gpm) gpf (k0_pay20 gtm (k0_pay15 a wa b wb) x gpm) wi wo) = f at h2
  generalize (k0_pay19 gtm (k0_pay15 a wa b wb) x gpm) = y at h1
  show gated (fun j => y (ix2 p j)) (fun n => f (ix2 p n)) _ _ j = _
  rw [h2, h1]
  rfl

end Group

end Cert.Ffn

end
-- ==== Proof.Ffn.Ref.lean ====
/- The reference's stages, row by row. -/
module

public import proofs.«01_k».proof.Proof.Ffn.Row
public import proofs.«01_k».proof.Proof.Gen.Reference2Ideal.Read
public import Idealize.ShloMosaic.Lib.Pipeline.ValueKit

@[expose] public section

set_option maxRecDepth 16384

noncomputable section

namespace Cert.Ffn

open Cert.Reference2Ideal Cert.Reference2Ideal.Read Idealize.ShloMosaic Idealize.ShloMosaic.TcCoe Idealize.SL.Sem
  Idealize.ShloMosaic.Pointwise

/-- Where the output projection keeps the attention's feature `k`: heads in order, not group by group. -/
def place (k : Fin 512) : Fin 512 := ⟨256 * (k.val / 64 % 2) + 64 * (k.val / 128) + k.val % 64, by omega⟩

/-- The feature kept at row `n` of the output projection. -/
def unplace (n : Fin 512) : Fin 512 := ⟨128 * (n.val % 256 / 64) + 64 * (n.val / 256) + n.val % 64, by omega⟩

theorem unplace_place (k : Fin 512) : unplace (place k) = k := by
  revert k
  decide +kernel

theorem place_unplace (n : Fin 512) : place (unplace n) = n := by
  revert n
  decide +kernel

variable (x0 : FVec Ideal S8x2048x1024 .f32) (x1 x2 : FVec Ideal S8x2048x512 .bf16) (x3 : FVec Ideal S16x6144 .f32)
  (x4 x5 x6 : FVec Ideal S1x1024 .f32) (x7 : FVec Ideal S1x1024x1024 .f32) (x8 : FVec Ideal S1x1024x5632 .f32)
  (x9 : FVec Ideal S1x2816x1024 .f32) (b : Fin 8) (s : Fin 2048) (j : Fin 1024)

/-- The part of the modulation vector starting at column `o`. -/
abbrev modPart (o : Nat) (h : o + 1024 ≤ 6144) (j : Fin 1024) : EReal := x3 (ix2 ⟨b.val, by omega⟩ ⟨o + j.val, by omega⟩)

abbrev weightA (k : Fin 512) (j : Fin 1024) : EReal := x7 (ix3 0 ⟨(place k).val, by omega⟩ j)

abbrev weightB (k : Fin 512) (j : Fin 1024) : EReal := x7 (ix3 0 ⟨512 + k.val, by omega⟩ j)

theorem mix_att (n : Fin 512) : val_main_v13 (F := Ideal) x1 x2 (ix3 b s ⟨n.val, by omega⟩) = x1 (ix3 b s (unplace n)) := by
  pointwise [val_main_v13, val_main_v11, val_main_v10, val_main_v9, val_main_v8]
  refine congrArg x1 (congrArg (ix3 b s) (Fin.ext ?_))
  simp only [unplace]
  omega

theorem mix_ml (n : Fin 512) : val_main_v13 (F := Ideal) x1 x2 (ix3 b s ⟨512 + n.val, by omega⟩) = x2 (ix3 b s n) := by
  pointwise [val_main_v13, val_main_v12]

theorem mix_w (n : Fin 1024) : val_main_v14 (F := Ideal) x7 (ix2 n j) = x7 (ix3 0 n j) := by
  pointwise [val_main_v14]

theorem mix_ref : val_main_v15 (F := Ideal) x1 x2 x7 (ix3 b s j)
    = mixRow (fun k => x1 (ix3 b s k)) (fun k => x2 (ix3 b s k)) (weightA x7) (weightB x7) j := by
  have e : val_main_v15 (F := Ideal) x1 x2 x7 (ix3 b s j)
      = ∑ n : Fin (512 + 512), val_main_v13 (F := Ideal) x1 x2 (ix3 b s n) * val_main_v14 (F := Ideal) x7 (ix2 n j) := by
    generalize hy : val_main_v13 (F := Ideal) x1 x2 = y
    generalize hz : val_main_v14 (F := Ideal) x7 = z
    pointwise [val_main_v15]
    rw [hy, hz]
  refine e.trans ((Fin.sum_univ_add _).trans (congrArg₂ (· + ·) ?_ ?_))
  · refine Fintype.sum_equiv ⟨unplace, place, place_unplace, unplace_place⟩ _ _ fun n => ?_
    refine congrArg₂ (· * ·) (mix_att x1 x2 b s n) ((mix_w x7 j _).trans ?_)
    simp only [weightA, Equiv.coe_fn_mk, place_unplace]
    rfl
  · exact Finset.sum_congr rfl fun n _ => congrArg₂ (· * ·) (mix_ml x1 x2 b s n) (mix_w x7 j _)

theorem sq_mix : val_main_v18 (F := Ideal) x1 x2 x7 (ix2 b s)
    = ∑ k, val_main_v15 (F := Ideal) x1 x2 x7 (ix3 b s k) * val_main_v15 (F := Ideal) x1 x2 x7 (ix3 b s k) := by
  rw [val_main_v18_apply, val_main_cst_apply]
  refine (congrArg (· + _) Ideal.ofBits_zero_f32).trans ((zero_add _).trans ?_)
  refine Finset.sum_congr rfl fun k _ => ?_
  have hi : idx_main_v18 (ix2 b s) k = ix3 b s k := by funext a; fin_cases a <;> rfl
  rw [hi, val_main_v17_apply]
  rfl

theorem mid_ref : val_main_v32 (F := Ideal) x0 x1 x2 x3 x4 x7 (ix3 b s j)
    = midRow (fun k => x0 (ix3 b s k)) (fun k => x1 (ix3 b s k)) (fun k => x2 (ix3 b s k)) (modPart x3 b 2048 (by decide))
      (fun k => x4 (ix2 0 k)) (weightA x7) (weightB x7) j := by
  have h1 := sq_mix x1 x2 x7 b s
  have h2 := fun j => mix_ref x1 x2 x7 b s j
  pointwise [val_main_v32, val_main_v31, val_main_v30, val_main_v29, val_main_v28, val_main_v27, val_main_v26, val_main_v25,
    val_main_v24, val_main_v23, val_main_v22, val_main_v21, val_main_v20, val_main_v19, val_main_v16, val_main_v4, val_main_v1,
    val_main_v0, val_main_cst_0, val_main_cst_1]
  simp only [h1, h2]
  rfl

theorem sq_mid : val_main_v35 (F := Ideal) x0 x1 x2 x3 x4 x7 (ix2 b s)
    = ∑ k, val_main_v32 (F := Ideal) x0 x1 x2 x3 x4 x7 (ix3 b s k) * val_main_v32 (F := Ideal) x0 x1 x2 x3 x4 x7 (ix3 b s k) := by
  rw [val_main_v35_apply, val_main_cst_2_apply]
  refine (congrArg (· + _) Ideal.ofBits_zero_f32).trans ((zero_add _).trans ?_)
  refine Finset.sum_congr rfl fun k _ => ?_
  have hi : idx_main_v35 (ix2 b s) k = ix3 b s k := by funext a; fin_cases a <;> rfl
  rw [hi, val_main_v34_apply]
  rfl

theorem mod_ref : val_main_v52 (F := Ideal) x0 x1 x2 x3 x4 x5 x7 (ix3 b s j)
    = modRow (fun k => val_main_v32 (F := Ideal) x0 x1 x2 x3 x4 x7 (ix3 b s k)) (fun k => x5 (ix2 0 k))
        (modPart x3 b 4096 (by decide)) (modPart x3 b 3072 (by decide)) j := by
  have h1 := sq_mid x0 x1 x2 x3 x4 x7 b s
  pointwise [val_main_v52, val_main_v51, val_main_v50, val_main_v49, val_main_v48, val_main_v47, val_main_v46, val_main_v45,
    val_main_v44, val_main_v43, val_main_v42, val_main_v41, val_main_v40, val_main_v39, val_main_v38, val_main_v37, val_main_v36,
    val_main_v33, val_main_v6, val_main_v5, val_main_v1, val_main_v0, val_main_cst_3, val_main_cst_4, val_main_cst_5]
  simp only [h1]
  rfl

theorem gu_ref (n : Fin 5632) : val_main_v55 (F := Ideal) x0 x1 x2 x3 x4 x5 x7 x8 (ix3 b s n)
    = guRow (fun k => val_main_v52 (F := Ideal) x0 x1 x2 x3 x4 x5 x7 (ix3 b s k)) (fun k n => x8 (ix3 0 k n)) n := by
  generalize hy : val_main_v52 (F := Ideal) x0 x1 x2 x3 x4 x5 x7 = y
  pointwise [val_main_v55, val_main_v53]
  rw [hy]
  rfl

theorem down_ref : val_main_v60 (F := Ideal) x0 x1 x2 x3 x4 x5 x7 x8 x9 (ix3 b s j)
    = downRow (fun n => val_main_v55 (F := Ideal) x0 x1 x2 x3 x4 x5 x7 x8 (ix3 b s n)) (fun k j => x9 (ix3 0 k j)) j := by
  pointwise [val_main_v60, val_main_v59, val_main_v58, val_main_v57, val_main_v56, val_main_v54, val_main_call0_v5,
    val_main_call0_v4, val_main_call0_v3, val_main_call0_v2, val_main_call0_v1, val_main_call0_v0, val_main_call0_cst,
    val_main_call0_cst_0]
  rfl

theorem sq_ffn : val_main_v63 (F := Ideal) x0 x1 x2 x3 x4 x5 x7 x8 x9 (ix2 b s)
    = ∑ k, val_main_v60 (F := Ideal) x0 x1 x2 x3 x4 x5 x7 x8 x9 (ix3 b s k)
        * val_main_v60 (F := Ideal) x0 x1 x2 x3 x4 x5 x7 x8 x9 (ix3 b s k) := by
  rw [val_main_v63_apply, val_main_cst_6_apply]
  refine (congrArg (· + _) Ideal.ofBits_zero_f32).trans ((zero_add _).trans ?_)
  refine Finset.sum_congr rfl fun k _ => ?_
  have hi : idx_main_v63 (ix2 b s) k = ix3 b s k := by funext a; fin_cases a <;> rfl
  rw [hi, val_main_v62_apply]
  rfl

theorem last_ref : val_main_v77 (F := Ideal) x0 x1 x2 x3 x4 x5 x6 x7 x8 x9 (ix3 b s j)
    = gated (fun k => val_main_v32 (F := Ideal) x0 x1 x2 x3 x4 x7 (ix3 b s k))
        (fun k => val_main_v60 (F := Ideal) x0 x1 x2 x3 x4 x5 x7 x8 x9 (ix3 b s k))
        (modPart x3 b 5120 (by decide)) (fun k => x6 (ix2 0 k)) j := by
  have h1 := sq_ffn x0 x1 x2 x3 x4 x5 x7 x8 x9 b s
  pointwise [val_main_v77, val_main_v76, val_main_v75, val_main_v74, val_main_v73, val_main_v72, val_main_v71, val_main_v70,
    val_main_v69, val_main_v68, val_main_v67, val_main_v66, val_main_v65, val_main_v64, val_main_v61, val_main_v7, val_main_v1,
    val_main_v0, val_main_cst_7, val_main_cst_8]
  simp only [h1]
  rfl

/-- The reference's result at row `s` of batch `b`. -/
theorem ref_apply (r : Fin 16384) (hr : r.val = 2048 * b.val + s.val) :
    val_main_v78 (F := Ideal) x0 x1 x2 x3 x4 x5 x6 x7 x8 x9 (ix2 r j)
      = outRow (fun k => x0 (ix3 b s k)) (fun k => x1 (ix3 b s k)) (fun k => x2 (ix3 b s k)) (modPart x3 b 2048 (by decide))
          (modPart x3 b 3072 (by decide)) (modPart x3 b 4096 (by decide)) (modPart x3 b 5120 (by decide)) (fun k => x4 (ix2 0 k))
          (fun k => x5 (ix2 0 k)) (fun k => x6 (ix2 0 k)) (weightA x7) (weightB x7) (fun k n => x8 (ix3 0 k n))
          (fun k j => x9 (ix3 0 k j)) j := by
  have e : val_main_v78 (F := Ideal) x0 x1 x2 x3 x4 x5 x6 x7 x8 x9 (ix2 r j)
      = val_main_v77 (F := Ideal) x0 x1 x2 x3 x4 x5 x6 x7 x8 x9 (ix3 b s j) := by
    rw [val_main_v78_apply]
    refine congrArg _ ?_
    funext a
    have hb := b.isLt
    have hs := s.isLt
    have hj := j.isLt
    fin_cases a
    · refine Fin.ext ?_
      show (r.val * 1024 + j.val) / 2097152 = b.val
      omega
    · refine Fin.ext ?_
      show (r.val * 1024 + j.val) / 1024 % 2048 = s.val
      omega
    · refine Fin.ext ?_
      show (r.val * 1024 + j.val) % 1024 = j.val
      omega
  rw [e, last_ref]
  have h1 := funext fun k => mid_ref x0 x1 x2 x3 x4 x7 b s k
  have h2 := funext fun k => mod_ref x0 x1 x2 x3 x4 x5 x7 b s k
  have h3 := funext fun k => gu_ref x0 x1 x2 x3 x4 x5 x7 x8 b s k
  have h4 := funext fun k => down_ref x0 x1 x2 x3 x4 x5 x7 x8 x9 b s k
  rw [h4, h3, h2, h1]
  rfl

end Cert.Ffn

end
-- ==== Proof.Ffn.Host.lean ====
/- What each grid point's blocks hold of the arguments. -/
module

public import proofs.«01_k».proof.Proof.Ffn.Unit
public import proofs.«01_k».proof.Proof.Ffn.Ref
public import proofs.«01_k».proof.Proof.Gen.Kernel2Ideal.Value
public import Idealize.ShloMosaic.Lib.Pipeline.ValueKit

@[expose] public section

set_option maxRecDepth 16384

noncomputable section

namespace Cert.Ffn

open Cert.Kernel2Ideal Cert.Kernel2Ideal.Gen Idealize.ShloMosaic Idealize.ShloMosaic.TcCoe Idealize.SL.Sem
  Idealize.ShloMosaic.Pointwise

variable (m : (ℓ : Loc nD τ sig) → Buf (Elt Ideal) ℓ) (c : Dev nD)

/-- Every window's block index at each point. -/
theorem idx : ∀ t : Fin cfg0.N, win0_0.index t = ![t.val, 0] ∧ win0_1.index t = ![t.val, 0] ∧ win0_2.index t = ![t.val, 0]
    ∧ win0_3.index t = ![0, 2] ∧ win0_4.index t = ![0, 3] ∧ win0_5.index t = ![0, 4] ∧ win0_6.index t = ![0, 5]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val, 0] :=
  (by decide +kernel : ∀ t : Fin grid0.N, _)

/-- The row of the modulation block a point reads is its batch's. -/
theorem off_eq : ∀ t : Fin cfg0.N, k0_off1 (grid0.coords t) = ![t.val / 2, 0] :=
  (by decide +kernel : ∀ t : Fin grid0.N, _)

/-- The batch of a grid point. -/
abbrev batch (t : Fin cfg0.N) : Fin 8 := ⟨t.val / 2, by have h : t.val < 16 := t.isLt; omega⟩

/-- The position in its batch of a row of a grid point's tile. -/
abbrev pos (t : Fin cfg0.N) (p : Fin 1024) : Fin 2048 := ⟨1024 * (t.val % 2) + p.val, by omega⟩

theorem fit_x (t : Fin cfg0.N) (p j : Fin 1024) :
    iblk m c 0 t (ix2 p j) = m ((c : Thread nD τ).loc main_arg0) (ix3 (batch t) (pos t p) j) := by
  have ht : t.val < 16 := t.isLt
  blk_ext! [iblk, V, idx t]

theorem fit_att (t : Fin cfg0.N) (p : Fin 1024) (k : Fin 512) :
    iblk m c 1 t (ix2 p k) = m ((c : Thread nD τ).loc main_arg1) (ix3 (batch t) (pos t p) k) := by
  have ht : t.val < 16 := t.isLt
  blk_ext! [iblk, V, idx t]

theorem fit_ml (t : Fin cfg0.N) (p : Fin 1024) (k : Fin 512) :
    iblk m c 2 t (ix2 p k) = m ((c : Thread nD τ).loc main_arg2) (ix3 (batch t) (pos t p) k) := by
  have ht : t.val < 16 := t.isLt
  blk_ext! [iblk, V, idx t]

theorem fit_gtm (t : Fin cfg0.N) (r : Fin 8) (j : Fin 1024) :
    iblk m c 3 t (ix2 r j) = m ((c : Thread nD τ).loc main_arg3) (ix2 ⟨r.val, by omega⟩ ⟨2048 + j.val, by omega⟩) := by
  have ht : t.val < 16 := t.isLt
  blk_ext! [iblk, V, idx t]

theorem fit_sh (t : Fin cfg0.N) (r : Fin 8) (j : Fin 1024) :
    iblk m c 4 t (ix2 r j) = m ((c : Thread nD τ).loc main_arg3) (ix2 ⟨r.val, by omega⟩ ⟨3072 + j.val, by omega⟩) := by
  have ht : t.val < 16 := t.isLt
  blk_ext! [iblk, V, idx t]

theorem fit_sc (t : Fin cfg0.N) (r : Fin 8) (j : Fin 1024) :
    iblk m c 5 t (ix2 r j) = m ((c : Thread nD τ).loc main_arg3) (ix2 ⟨r.val, by omega⟩ ⟨4096 + j.val, by omega⟩) := by
  have ht : t.val < 16 := t.isLt
  blk_ext! [iblk, V, idx t]

theorem fit_gtf (t : Fin cfg0.N) (r : Fin 8) (j : Fin 1024) :
    iblk m c 6 t (ix2 r j) = m ((c : Thread nD τ).loc main_arg3) (ix2 ⟨r.val, by omega⟩ ⟨5120 + j.val, by omega⟩) := by
  have ht : t.val < 16 := t.isLt
  blk_ext! [iblk, V, idx t]

theorem fit_gpm (t : Fin cfg0.N) (j : Fin 1024) :
    iblk m c 7 t (ix2 0 j) = m ((c : Thread nD τ).loc main_arg4) (ix2 0 j) := by
  have ht : t.val < 16 := t.isLt
  blk_ext! [iblk, V, idx t]

theorem fit_gpf (t : Fin cfg0.N) (j : Fin 1024) :
    iblk m c 8 t (ix2 0 j) = m ((c : Thread nD τ).loc main_arg5) (ix2 0 j) := by
  have ht : t.val < 16 := t.isLt
  blk_ext! [iblk, V, idx t]

theorem fit_gpo (t : Fin cfg0.N) (j : Fin 1024) :
    iblk m c 9 t (ix2 0 j) = m ((c : Thread nD τ).loc main_arg6) (ix2 0 j) := by
  have ht : t.val < 16 := t.isLt
  blk_ext! [iblk, V, idx t]

set_option maxHeartbeats 1600000 in
theorem fit_wa (t : Fin cfg0.N) (k : Fin 512) (j : Fin 1024) :
    iblk m c 10 t (ix2 k j) = weightA (m ((c : Thread nD τ).loc main_arg7)) k j := by
  have ht : t.val < 16 := t.isLt
  blk_ext! [iblk, V, idx t]
  simp only [place]
  omega

set_option maxHeartbeats 1600000 in
theorem fit_wb (t : Fin cfg0.N) (k : Fin 512) (j : Fin 1024) :
    iblk m c 11 t (ix2 k j) = weightB (m ((c : Thread nD τ).loc main_arg7)) k j := by
  have ht : t.val < 16 := t.isLt
  blk_ext! [iblk, V, idx t]

theorem fit_wi (t : Fin cfg0.N) (k : Fin 1024) (n : Fin 5632) :
    iblk m c 12 t (ix2 k n) = m ((c : Thread nD τ).loc main_arg8) (ix3 0 k n) := by
  have ht : t.val < 16 := t.isLt
  blk_ext! [iblk, V, idx t]

theorem fit_wo (t : Fin cfg0.N) (k : Fin 2816) (j : Fin 1024) :
    iblk m c 13 t (ix2 k j) = m ((c : Thread nD τ).loc main_arg9) (ix3 0 k j) := by
  have ht : t.val < 16 := t.isLt
  blk_ext! [iblk, V, idx t]

end Cert.Ffn

end
-- ==== Proof.Ffn.Body.lean ====
/- What the body leaves in a grid point's output block. -/
module

public import proofs.«01_k».proof.Proof.Ffn.Host

@[expose] public section

set_option maxRecDepth 16384

noncomputable section

namespace Cert.Ffn

open Cert.Kernel2Ideal Cert.Kernel2Ideal.Gen Idealize.ShloMosaic Idealize.ShloMosaic.TcCoe Idealize.SL.Sem
  Idealize.ShloMosaic.Pointwise

variable (m : (ℓ : Loc nD τ sig) → Buf (Elt Ideal) ℓ) (c : Dev nD)

/-- The result's rows of a grid point's tile, from its input blocks. -/
def tile (t : Fin cfg0.N) (p : Fin 1024) : Fin 1024 → EReal :=
  outRow (row (M := 1024) (N := 1024) (iblk m c 0 t) p) (row (M := 1024) (N := 512) (iblk m c 1 t) p)
    (row (M := 1024) (N := 512) (iblk m c 2 t) p)
    (row (M := 8) (N := 1024) (iblk m c 3 t) (batch t)) (row (M := 8) (N := 1024) (iblk m c 4 t) (batch t))
    (row (M := 8) (N := 1024) (iblk m c 5 t) (batch t)) (row (M := 8) (N := 1024) (iblk m c 6 t) (batch t))
    (row (M := 1) (N := 1024) (iblk m c 7 t) 0) (row (M := 1) (N := 1024) (iblk m c 8 t) 0)
    (row (M := 1) (N := 1024) (iblk m c 9 t) 0)
    (mat (M := 512) (N := 1024) (iblk m c 10 t)) (mat (M := 512) (N := 1024) (iblk m c 11 t))
    (mat (M := 1024) (N := 5632) (iblk m c 12 t)) (mat (M := 2816) (N := 1024) (iblk m c 13 t))

/-- The load of one modulation row. -/
theorem ld_mod (t : Fin cfg0.N) (x : Vec Ideal S8x1024 .f32)
    (inb : ∀ a, k0_off1 (grid0.coords t) a + (![1, 1024] : Fin 2 → Nat) a ≤ S8x1024.size a) :
    row (M := 1) (N := 1024) (View.ld x (Rect.unit (k0_off1 (grid0.coords t)) ![1, 1024] inb)) 0 = row (M := 8) (N := 1024) x (batch t) := by
  funext j
  refine congrArg x ?_
  funext a
  fin_cases a
  · refine Fin.ext ?_
    show k0_off1 (grid0.coords t) 0 + 1 * 0 = t.val / 2
    rw [off_eq t]
    rfl
  · refine Fin.ext ?_
    show k0_off1 (grid0.coords t) 1 + 1 * j.val = j.val
    rw [off_eq t]
    show 0 + 1 * j.val = j.val
    omega

/-- A row of the residual's group of 256 rows. -/
theorem ld_x (o : Nat) (ho : o + 256 ≤ 1024) (x : Vec Ideal S1024x1024 .f32)
    (inb : ∀ a, (![o, 0] : Fin 2 → Nat) a + (![256, 1024] : Fin 2 → Nat) a ≤ S1024x1024.size a) (q : Fin 256) :
    row (M := 256) (N := 1024) (View.ld x (Rect.unit ![o, 0] ![256, 1024] inb)) q
      = row (M := 1024) (N := 1024) x ⟨o + q.val, by omega⟩ := by
  funext j
  refine congrArg x ?_
  funext a
  fin_cases a
  · refine Fin.ext ?_
    show o + 1 * q.val = o + q.val
    omega
  · refine Fin.ext ?_
    show 0 + 1 * j.val = j.val
    omega

/-- A row of a mixer's group of 256 rows. -/
theorem ld_a (o : Nat) (ho : o + 256 ≤ 1024) (x : Vec Ideal S1024x512 .bf16)
    (inb : ∀ a, (![o, 0] : Fin 2 → Nat) a + (![256, 512] : Fin 2 → Nat) a ≤ S1024x512.size a) (q : Fin 256) :
    row (M := 256) (N := 512) (View.ld x (Rect.unit ![o, 0] ![256, 512] inb)) q
      = row (M := 1024) (N := 512) x ⟨o + q.val, by omega⟩ := by
  funext j
  refine congrArg x ?_
  funext a
  fin_cases a
  · refine Fin.ext ?_
    show o + 1 * q.val = o + q.val
    omega
  · refine Fin.ext ?_
    show 0 + 1 * j.val = j.val
    omega

/-- Which rows a store of 256 rows covers. -/
theorem mem_rows (o : Nat) (p j : Fin 1024)
    (inb : ∀ a, (![o, 0] : Fin 2 → Nat) a + (![256, 1024] : Fin 2 → Nat) a ≤ S1024x1024.size a)
    (h : o ≤ p.val ∧ p.val < o + 256) : (ix2 p j : S1024x1024.Idx) ∈ (Rect.unit (s := S1024x1024) ![o, 0] ![256, 1024] inb).set := by
  have hj := j.isLt
  refine Rect.mem_set_unit.mpr fun a => ?_
  fin_cases a
  · exact h
  · show 0 ≤ j.val ∧ j.val < 0 + 1024
    omega

theorem point (t : Fin cfg0.N) (p j : Fin 1024) : (dats m 0 c).after 14 t (ix2 p j) = tile m c t p j := by
  rw [after0_14]
  unfold outsAt0
  frame_out
  refine View.canon_apply_of_pieces (Val := Elt Ideal) (S := S1024x1024) (e := .f32) (fun y => tile m c t (y 0) (y 1)) _ ?_ _ ?_
  · refine List.forall_mem_cons.mpr ⟨?_, List.forall_mem_cons.mpr ⟨?_, List.forall_mem_cons.mpr ⟨?_, List.forall_mem_cons.mpr ⟨?_, ?_⟩⟩⟩⟩
    · intro y
      obtain ⟨q, k, rfl⟩ : ∃ (q : Fin 256) (k : Fin 1024), y = ix2 q k :=
        ⟨y 0, y 1, by funext a; fin_cases a <;> rfl⟩
      refine (group_3 _ _ _ _ _ _ _ _ _ _ _ _ _ _ q k).trans ?_
      rw [ld_x 768 (by decide), ld_a 768 (by decide), ld_a 768 (by decide), ld_mod, ld_mod, ld_mod, ld_mod]
      show tile m c t ⟨768 + q.val, by omega⟩ k = tile m c t ⟨768 + 1 * q.val, _⟩ ⟨0 + 1 * k.val, _⟩
      exact congrArg₂ (tile m c t) (Fin.ext (by simp only [Nat.one_mul])) (Fin.ext (by simp only [Nat.one_mul, Nat.zero_add]))
    · intro y
      obtain ⟨q, k, rfl⟩ : ∃ (q : Fin 256) (k : Fin 1024), y = ix2 q k :=
        ⟨y 0, y 1, by funext a; fin_cases a <;> rfl⟩
      refine (group_2 _ _ _ _ _ _ _ _ _ _ _ _ _ _ q k).trans ?_
      rw [ld_x 512 (by decide), ld_a 512 (by decide), ld_a 512 (by decide), ld_mod, ld_mod, ld_mod, ld_mod]
      show tile m c t ⟨512 + q.val, by omega⟩ k = tile m c t ⟨512 + 1 * q.val, _⟩ ⟨0 + 1 * k.val, _⟩
      exact congrArg₂ (tile m c t) (Fin.ext (by simp only [Nat.one_mul])) (Fin.ext (by simp only [Nat.one_mul, Nat.zero_add]))
    · intro y
      obtain ⟨q, k, rfl⟩ : ∃ (q : Fin 256) (k : Fin 1024), y = ix2 q k :=
        ⟨y 0, y 1, by funext a; fin_cases a <;> rfl⟩
      refine (group_1 _ _ _ _ _ _ _ _ _ _ _ _ _ _ q k).trans ?_
      rw [ld_x 256 (by decide), ld_a 256 (by decide), ld_a 256 (by decide), ld_mod, ld_mod, ld_mod, ld_mod]
      show tile m c t ⟨256 + q.val, by omega⟩ k = tile m c t ⟨256 + 1 * q.val, _⟩ ⟨0 + 1 * k.val, _⟩
      exact congrArg₂ (tile m c t) (Fin.ext (by simp only [Nat.one_mul])) (Fin.ext (by simp only [Nat.one_mul, Nat.zero_add]))
    · intro y
      obtain ⟨q, k, rfl⟩ : ∃ (q : Fin 256) (k : Fin 1024), y = ix2 q k :=
        ⟨y 0, y 1, by funext a; fin_cases a <;> rfl⟩
      refine (group_0 _ _ _ _ _ _ _ _ _ _ _ _ _ _ q k).trans ?_
      rw [ld_x 0 (by decide), ld_a 0 (by decide), ld_a 0 (by decide), ld_mod, ld_mod, ld_mod, ld_mod]
      show tile m c t ⟨0 + q.val, by omega⟩ k = tile m c t ⟨0 + 1 * q.val, _⟩ ⟨0 + 1 * k.val, _⟩
      exact congrArg₂ (tile m c t) (Fin.ext (by simp only [Nat.one_mul])) (Fin.ext (by simp only [Nat.one_mul, Nat.zero_add]))
    · intro q hq
      exact absurd hq List.not_mem_nil
  · have hp := p.isLt
    by_cases h3 : 768 ≤ p.val
    · exact ⟨_, List.mem_cons_self, mem_rows 768 p j inb_S1024x1024_S256x1024_768_0 (by omega)⟩
    by_cases h2 : 512 ≤ p.val
    · exact ⟨_, List.mem_cons_of_mem _ List.mem_cons_self, mem_rows 512 p j inb_S1024x1024_S256x1024_512_0 (by omega)⟩
    by_cases h1 : 256 ≤ p.val
    · exact ⟨_, List.mem_cons_of_mem _ (List.mem_cons_of_mem _ List.mem_cons_self),
        mem_rows 256 p j inb_S1024x1024_S256x1024_256_0 (by omega)⟩
    · exact ⟨_, List.mem_cons_of_mem _ (List.mem_cons_of_mem _ (List.mem_cons_of_mem _ List.mem_cons_self)),
        mem_rows 0 p j inb_S1024x1024_S256x1024_0_0 (by omega)⟩

end Cert.Ffn

end
-- ==== Proof.Ffn.Value.lean ====
/- The feed-forward call's result is the reference's. -/
module

public import proofs.«01_k».proof.Proof.Ffn.Body
public import proofs.«01_k».proof.Defs
public import proofs.«01_k».proof.Proof.Gen.Reference2Ideal.Run

@[expose] public section

set_option maxRecDepth 16384

noncomputable section

namespace Cert.Ffn

open Cert.Kernel2Ideal Cert.Kernel2Ideal.Gen Idealize.ShloMosaic Idealize.ShloMosaic.TcCoe Idealize.SL.Sem
  Idealize.ShloMosaic.Pointwise

variable (m : (ℓ : Loc nD τ sig) → Buf (Elt Ideal) ℓ) (c : Dev nD)

/-- The reference's result on core `c`'s arguments. -/
abbrev refValue : FVec Ideal S16384x1024 .f32 :=
  Reference2Ideal.Read.val_main_v78 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- A row of the tile is the reference's row. -/
theorem tile_eq (t : Fin cfg0.N) (p j : Fin 1024) (r : Fin 16384) (hr : r.val = 1024 * t.val + p.val) :
    tile m c t p j = refValue m c (ix2 r j) := by
  have ht : t.val < 16 := t.isLt
  refine Eq.trans ?_ (ref_apply _ _ _ _ _ _ _ _ _ _ (batch t) (pos t p) j r (by simp only; omega)).symm
  unfold tile row mat
  simp only [fit_x, fit_att, fit_ml, fit_gtm, fit_sh, fit_sc, fit_gtf, fit_gpm, fit_gpf, fit_gpo, fit_wa, fit_wb, fit_wi, fit_wo]

/-- The result array after the run. -/
theorem final : (dats m 0 c).arrAt 14 cfg0.N = refValue m c := by
  refine (dats m 0 c).arrAt_eq_of_covers 14 _ (by decide +kernel) fun t hf y => ?_
  blk_simp
  have ht : t.val < 16 := t.isLt
  have h0 : (y 0).val < 1024 := (y 0).isLt
  have h1 : (y 1).val < 1024 := (y 1).isLt
  have hy : y = (ix2 (⟨(y 0).val, h0⟩ : Fin 1024) (⟨(y 1).val, h1⟩ : Fin 1024) : S1024x1024.Idx) := by
    funext a
    fin_cases a <;> rfl
  have he : ((cfg0.win 14).blk t).view.emb y
      = (ix2 (⟨1024 * t.val + (y 0).val, by omega⟩ : Fin 16384) (⟨(y 1).val, h1⟩ : Fin 1024) : S16384x1024.Idx) := by
    blk_ext [idx t]
  refine (congrArg _ hy).trans ((point m c t ⟨(y 0).val, h0⟩ ⟨(y 1).val, h1⟩).trans
    ((tile_eq m c t _ _ ⟨1024 * t.val + (y 0).val, by omega⟩ rfl).trans ?_))
  exact congrArg (refValue m c) he.symm

/-- The call and the reference compute the same function. -/
theorem algebraic : Cert.algebraic_Kernel2Ideal_Reference2Ideal := by
  intro m g m' g' _ hagree
  refine ⟨fun c => refValue m c, ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Reference2Ideal.Value.run m' g')
    rw [Reference2Ideal.Read.val_main_v78_eq]
    obtain ⟨h0, h1, h2, h3, h4, h5, h6, h7, h8, h9⟩ := hagree c
    rw [h0, h1, h2, h3, h4, h5, h6, h7, h8, h9]

end Cert.Ffn

end
-- ==== Proof.Inp.Frame.lean ====
/- The frame of the input projection's program, over any float values. It is the generated one with room for the 23 windows of
   the call: the generated text stops at the default limit of one step, the body's obligation. -/
module

public import proofs.«01_k».proof.Proof.Gen.Kernel3Ideal.Frame.RunA
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces the run stores to output 15 cover its block. -/
theorem cover0_A_15 (c : Dev nD) (i : grid0.Coords) (arg2 : Memref sig .tc .vmem S1x2048x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S656x1024 .bf16) (harg9 : arg9.IsWhole) (arg10 : Memref sig .tc .vmem S1x128 .f32) (harg10 : arg10.IsWhole) (arg11 : Memref sig .tc .vmem S16x1 .f32) (harg11 : arg11.IsWhole) (arg12 : Memref sig .tc .vmem S3x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S1x512 .f32) (harg16 : arg16.IsWhole) (arg17 : Memref sig .tc .vmem S1x2048x512 .bf16) (harg17 : arg17.IsWhole) (arg18 : Memref sig .tc .vmem S1x2048x128 .bf16) (harg18 : arg18.IsWhole) (arg19 : Memref sig .tc .vmem S1x128x2048 .bf16) (harg19 : arg19.IsWhole) (arg20 : Memref sig .tc .vmem S1x2048x512 .bf16) (harg20 : arg20.IsWhole) (arg21 : Memref sig .tc .vmem S1x16x512x128 .bf16) (harg21 : arg21.IsWhole) (arg22 : Memref sig .tc .vmem S1x2048x512 .bf16) (harg22 : arg22.IsWhole) (arg23 : Memref sig .tc .vmem S1x2048x128 .f32) (harg23 : arg23.IsWhole) (arg24 : Memref sig .tc .vmem S1x16x16x128 .f32) (harg24 : arg24.IsWhole)
    (x0 : Vec F S1x2048x1024 .f32) (x1 : Vec F S1x8x1024 .f32) (x2 : Vec F S1x8x1024 .f32) (x3 : Vec F S8x1024 .f32) (x4 : Vec F S8x1024 .f32) (x5 : Vec F S1x1024 .f32) (x6 : Vec F S1024x1792 .bf16) (x7 : Vec F S656x1024 .bf16) (x8 : Vec F S1x128 .f32) (x9 : Vec F S16x1 .f32) (x10 : Vec F S3x512 .f32) (x11 : Vec F S2048x128 .f32) (x12 : Vec F S2048x128 .f32) (x13 : Vec F S2048x128 .f32) (x14 : Vec F S1x512 .f32) (y : S1x2048x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).1 S1x256x128.size (by sl_kernel_rfl) y

/-- What the run leaves in output 15's staging buffer: its pieces read back over junk. -/
def out0_A_15 (c : Dev nD) (i : grid0.Coords) (arg2 : Memref sig .tc .vmem S1x2048x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S656x1024 .bf16) (harg9 : arg9.IsWhole) (arg10 : Memref sig .tc .vmem S1x128 .f32) (harg10 : arg10.IsWhole) (arg11 : Memref sig .tc .vmem S16x1 .f32) (harg11 : arg11.IsWhole) (arg12 : Memref sig .tc .vmem S3x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S1x512 .f32) (harg16 : arg16.IsWhole) (arg17 : Memref sig .tc .vmem S1x2048x512 .bf16) (harg17 : arg17.IsWhole) (arg18 : Memref sig .tc .vmem S1x2048x128 .bf16) (harg18 : arg18.IsWhole) (arg19 : Memref sig .tc .vmem S1x128x2048 .bf16) (harg19 : arg19.IsWhole) (arg20 : Memref sig .tc .vmem S1x2048x512 .bf16) (harg20 : arg20.IsWhole) (arg21 : Memref sig .tc .vmem S1x16x512x128 .bf16) (harg21 : arg21.IsWhole) (arg22 : Memref sig .tc .vmem S1x2048x512 .bf16) (harg22 : arg22.IsWhole) (arg23 : Memref sig .tc .vmem S1x2048x128 .f32) (harg23 : arg23.IsWhole) (arg24 : Memref sig .tc .vmem S1x16x16x128 .f32) (harg24 : arg24.IsWhole)
    (x0 : Vec F S1x2048x1024 .f32) (x1 : Vec F S1x8x1024 .f32) (x2 : Vec F S1x8x1024 .f32) (x3 : Vec F S8x1024 .f32) (x4 : Vec F S8x1024 .f32) (x5 : Vec F S1x1024 .f32) (x6 : Vec F S1024x1792 .bf16) (x7 : Vec F S656x1024 .bf16) (x8 : Vec F S1x128 .f32) (x9 : Vec F S16x1 .f32) (x10 : Vec F S3x512 .f32) (x11 : Vec F S2048x128 .f32) (x12 : Vec F S2048x128 .f32) (x13 : Vec F S2048x128 .f32) (x14 : Vec F S1x512 .f32) : Vec F S1x2048x512 .bf16 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).1)

/-- The pieces the run stores to output 16 cover its block. -/
theorem cover0_A_16 (c : Dev nD) (i : grid0.Coords) (arg2 : Memref sig .tc .vmem S1x2048x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S656x1024 .bf16) (harg9 : arg9.IsWhole) (arg10 : Memref sig .tc .vmem S1x128 .f32) (harg10 : arg10.IsWhole) (arg11 : Memref sig .tc .vmem S16x1 .f32) (harg11 : arg11.IsWhole) (arg12 : Memref sig .tc .vmem S3x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S1x512 .f32) (harg16 : arg16.IsWhole) (arg17 : Memref sig .tc .vmem S1x2048x512 .bf16) (harg17 : arg17.IsWhole) (arg18 : Memref sig .tc .vmem S1x2048x128 .bf16) (harg18 : arg18.IsWhole) (arg19 : Memref sig .tc .vmem S1x128x2048 .bf16) (harg19 : arg19.IsWhole) (arg20 : Memref sig .tc .vmem S1x2048x512 .bf16) (harg20 : arg20.IsWhole) (arg21 : Memref sig .tc .vmem S1x16x512x128 .bf16) (harg21 : arg21.IsWhole) (arg22 : Memref sig .tc .vmem S1x2048x512 .bf16) (harg22 : arg22.IsWhole) (arg23 : Memref sig .tc .vmem S1x2048x128 .f32) (harg23 : arg23.IsWhole) (arg24 : Memref sig .tc .vmem S1x16x16x128 .f32) (harg24 : arg24.IsWhole)
    (x0 : Vec F S1x2048x1024 .f32) (x1 : Vec F S1x8x1024 .f32) (x2 : Vec F S1x8x1024 .f32) (x3 : Vec F S8x1024 .f32) (x4 : Vec F S8x1024 .f32) (x5 : Vec F S1x1024 .f32) (x6 : Vec F S1024x1792 .bf16) (x7 : Vec F S656x1024 .bf16) (x8 : Vec F S1x128 .f32) (x9 : Vec F S16x1 .f32) (x10 : Vec F S3x512 .f32) (x11 : Vec F S2048x128 .f32) (x12 : Vec F S2048x128 .f32) (x13 : Vec F S2048x128 .f32) (x14 : Vec F S1x512 .f32) (y : S1x2048x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.1 S1x256x128.size (by sl_kernel_rfl) y

/-- What the run leaves in output 16's staging buffer: its pieces read back over junk. -/
def out0_A_16 (c : Dev nD) (i : grid0.Coords) (arg2 : Memref sig .tc .vmem S1x2048x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S656x1024 .bf16) (harg9 : arg9.IsWhole) (arg10 : Memref sig .tc .vmem S1x128 .f32) (harg10 : arg10.IsWhole) (arg11 : Memref sig .tc .vmem S16x1 .f32) (harg11 : arg11.IsWhole) (arg12 : Memref sig .tc .vmem S3x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S1x512 .f32) (harg16 : arg16.IsWhole) (arg17 : Memref sig .tc .vmem S1x2048x512 .bf16) (harg17 : arg17.IsWhole) (arg18 : Memref sig .tc .vmem S1x2048x128 .bf16) (harg18 : arg18.IsWhole) (arg19 : Memref sig .tc .vmem S1x128x2048 .bf16) (harg19 : arg19.IsWhole) (arg20 : Memref sig .tc .vmem S1x2048x512 .bf16) (harg20 : arg20.IsWhole) (arg21 : Memref sig .tc .vmem S1x16x512x128 .bf16) (harg21 : arg21.IsWhole) (arg22 : Memref sig .tc .vmem S1x2048x512 .bf16) (harg22 : arg22.IsWhole) (arg23 : Memref sig .tc .vmem S1x2048x128 .f32) (harg23 : arg23.IsWhole) (arg24 : Memref sig .tc .vmem S1x16x16x128 .f32) (harg24 : arg24.IsWhole)
    (x0 : Vec F S1x2048x1024 .f32) (x1 : Vec F S1x8x1024 .f32) (x2 : Vec F S1x8x1024 .f32) (x3 : Vec F S8x1024 .f32) (x4 : Vec F S8x1024 .f32) (x5 : Vec F S1x1024 .f32) (x6 : Vec F S1024x1792 .bf16) (x7 : Vec F S656x1024 .bf16) (x8 : Vec F S1x128 .f32) (x9 : Vec F S16x1 .f32) (x10 : Vec F S3x512 .f32) (x11 : Vec F S2048x128 .f32) (x12 : Vec F S2048x128 .f32) (x13 : Vec F S2048x128 .f32) (x14 : Vec F S1x512 .f32) : Vec F S1x2048x128 .bf16 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.1)

/-- The pieces the run stores to output 17 cover its block. -/
theorem cover0_A_17 (c : Dev nD) (i : grid0.Coords) (arg2 : Memref sig .tc .vmem S1x2048x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S656x1024 .bf16) (harg9 : arg9.IsWhole) (arg10 : Memref sig .tc .vmem S1x128 .f32) (harg10 : arg10.IsWhole) (arg11 : Memref sig .tc .vmem S16x1 .f32) (harg11 : arg11.IsWhole) (arg12 : Memref sig .tc .vmem S3x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S1x512 .f32) (harg16 : arg16.IsWhole) (arg17 : Memref sig .tc .vmem S1x2048x512 .bf16) (harg17 : arg17.IsWhole) (arg18 : Memref sig .tc .vmem S1x2048x128 .bf16) (harg18 : arg18.IsWhole) (arg19 : Memref sig .tc .vmem S1x128x2048 .bf16) (harg19 : arg19.IsWhole) (arg20 : Memref sig .tc .vmem S1x2048x512 .bf16) (harg20 : arg20.IsWhole) (arg21 : Memref sig .tc .vmem S1x16x512x128 .bf16) (harg21 : arg21.IsWhole) (arg22 : Memref sig .tc .vmem S1x2048x512 .bf16) (harg22 : arg22.IsWhole) (arg23 : Memref sig .tc .vmem S1x2048x128 .f32) (harg23 : arg23.IsWhole) (arg24 : Memref sig .tc .vmem S1x16x16x128 .f32) (harg24 : arg24.IsWhole)
    (x0 : Vec F S1x2048x1024 .f32) (x1 : Vec F S1x8x1024 .f32) (x2 : Vec F S1x8x1024 .f32) (x3 : Vec F S8x1024 .f32) (x4 : Vec F S8x1024 .f32) (x5 : Vec F S1x1024 .f32) (x6 : Vec F S1024x1792 .bf16) (x7 : Vec F S656x1024 .bf16) (x8 : Vec F S1x128 .f32) (x9 : Vec F S16x1 .f32) (x10 : Vec F S3x512 .f32) (x11 : Vec F S2048x128 .f32) (x12 : Vec F S2048x128 .f32) (x13 : Vec F S2048x128 .f32) (x14 : Vec F S1x512 .f32) (y : S1x128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.1 S1x128x256.size (by sl_kernel_rfl) y

/-- What the run leaves in output 17's staging buffer: its pieces read back over junk. -/
def out0_A_17 (c : Dev nD) (i : grid0.Coords) (arg2 : Memref sig .tc .vmem S1x2048x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S656x1024 .bf16) (harg9 : arg9.IsWhole) (arg10 : Memref sig .tc .vmem S1x128 .f32) (harg10 : arg10.IsWhole) (arg11 : Memref sig .tc .vmem S16x1 .f32) (harg11 : arg11.IsWhole) (arg12 : Memref sig .tc .vmem S3x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S1x512 .f32) (harg16 : arg16.IsWhole) (arg17 : Memref sig .tc .vmem S1x2048x512 .bf16) (harg17 : arg17.IsWhole) (arg18 : Memref sig .tc .vmem S1x2048x128 .bf16) (harg18 : arg18.IsWhole) (arg19 : Memref sig .tc .vmem S1x128x2048 .bf16) (harg19 : arg19.IsWhole) (arg20 : Memref sig .tc .vmem S1x2048x512 .bf16) (harg20 : arg20.IsWhole) (arg21 : Memref sig .tc .vmem S1x16x512x128 .bf16) (harg21 : arg21.IsWhole) (arg22 : Memref sig .tc .vmem S1x2048x512 .bf16) (harg22 : arg22.IsWhole) (arg23 : Memref sig .tc .vmem S1x2048x128 .f32) (harg23 : arg23.IsWhole) (arg24 : Memref sig .tc .vmem S1x16x16x128 .f32) (harg24 : arg24.IsWhole)
    (x0 : Vec F S1x2048x1024 .f32) (x1 : Vec F S1x8x1024 .f32) (x2 : Vec F S1x8x1024 .f32) (x3 : Vec F S8x1024 .f32) (x4 : Vec F S8x1024 .f32) (x5 : Vec F S1x1024 .f32) (x6 : Vec F S1024x1792 .bf16) (x7 : Vec F S656x1024 .bf16) (x8 : Vec F S1x128 .f32) (x9 : Vec F S16x1 .f32) (x10 : Vec F S3x512 .f32) (x11 : Vec F S2048x128 .f32) (x12 : Vec F S2048x128 .f32) (x13 : Vec F S2048x128 .f32) (x14 : Vec F S1x512 .f32) : Vec F S1x128x2048 .bf16 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.1)

/-- The pieces the run stores to output 18 cover its block. -/
theorem cover0_A_18 (c : Dev nD) (i : grid0.Coords) (arg2 : Memref sig .tc .vmem S1x2048x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S656x1024 .bf16) (harg9 : arg9.IsWhole) (arg10 : Memref sig .tc .vmem S1x128 .f32) (harg10 : arg10.IsWhole) (arg11 : Memref sig .tc .vmem S16x1 .f32) (harg11 : arg11.IsWhole) (arg12 : Memref sig .tc .vmem S3x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S1x512 .f32) (harg16 : arg16.IsWhole) (arg17 : Memref sig .tc .vmem S1x2048x512 .bf16) (harg17 : arg17.IsWhole) (arg18 : Memref sig .tc .vmem S1x2048x128 .bf16) (harg18 : arg18.IsWhole) (arg19 : Memref sig .tc .vmem S1x128x2048 .bf16) (harg19 : arg19.IsWhole) (arg20 : Memref sig .tc .vmem S1x2048x512 .bf16) (harg20 : arg20.IsWhole) (arg21 : Memref sig .tc .vmem S1x16x512x128 .bf16) (harg21 : arg21.IsWhole) (arg22 : Memref sig .tc .vmem S1x2048x512 .bf16) (harg22 : arg22.IsWhole) (arg23 : Memref sig .tc .vmem S1x2048x128 .f32) (harg23 : arg23.IsWhole) (arg24 : Memref sig .tc .vmem S1x16x16x128 .f32) (harg24 : arg24.IsWhole)
    (x0 : Vec F S1x2048x1024 .f32) (x1 : Vec F S1x8x1024 .f32) (x2 : Vec F S1x8x1024 .f32) (x3 : Vec F S8x1024 .f32) (x4 : Vec F S8x1024 .f32) (x5 : Vec F S1x1024 .f32) (x6 : Vec F S1024x1792 .bf16) (x7 : Vec F S656x1024 .bf16) (x8 : Vec F S1x128 .f32) (x9 : Vec F S16x1 .f32) (x10 : Vec F S3x512 .f32) (x11 : Vec F S2048x128 .f32) (x12 : Vec F S2048x128 .f32) (x13 : Vec F S2048x128 .f32) (x14 : Vec F S1x512 .f32) (y : S1x2048x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.1 S1x256x256.size (by sl_kernel_rfl) y

/-- What the run leaves in output 18's staging buffer: its pieces read back over junk. -/
def out0_A_18 (c : Dev nD) (i : grid0.Coords) (arg2 : Memref sig .tc .vmem S1x2048x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S656x1024 .bf16) (harg9 : arg9.IsWhole) (arg10 : Memref sig .tc .vmem S1x128 .f32) (harg10 : arg10.IsWhole) (arg11 : Memref sig .tc .vmem S16x1 .f32) (harg11 : arg11.IsWhole) (arg12 : Memref sig .tc .vmem S3x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S1x512 .f32) (harg16 : arg16.IsWhole) (arg17 : Memref sig .tc .vmem S1x2048x512 .bf16) (harg17 : arg17.IsWhole) (arg18 : Memref sig .tc .vmem S1x2048x128 .bf16) (harg18 : arg18.IsWhole) (arg19 : Memref sig .tc .vmem S1x128x2048 .bf16) (harg19 : arg19.IsWhole) (arg20 : Memref sig .tc .vmem S1x2048x512 .bf16) (harg20 : arg20.IsWhole) (arg21 : Memref sig .tc .vmem S1x16x512x128 .bf16) (harg21 : arg21.IsWhole) (arg22 : Memref sig .tc .vmem S1x2048x512 .bf16) (harg22 : arg22.IsWhole) (arg23 : Memref sig .tc .vmem S1x2048x128 .f32) (harg23 : arg23.IsWhole) (arg24 : Memref sig .tc .vmem S1x16x16x128 .f32) (harg24 : arg24.IsWhole)
    (x0 : Vec F S1x2048x1024 .f32) (x1 : Vec F S1x8x1024 .f32) (x2 : Vec F S1x8x1024 .f32) (x3 : Vec F S8x1024 .f32) (x4 : Vec F S8x1024 .f32) (x5 : Vec F S1x1024 .f32) (x6 : Vec F S1024x1792 .bf16) (x7 : Vec F S656x1024 .bf16) (x8 : Vec F S1x128 .f32) (x9 : Vec F S16x1 .f32) (x10 : Vec F S3x512 .f32) (x11 : Vec F S2048x128 .f32) (x12 : Vec F S2048x128 .f32) (x13 : Vec F S2048x128 .f32) (x14 : Vec F S1x512 .f32) : Vec F S1x2048x512 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.1)

/-- The pieces the run stores to output 19 cover its block. -/
theorem cover0_A_19 (c : Dev nD) (i : grid0.Coords) (arg2 : Memref sig .tc .vmem S1x2048x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S656x1024 .bf16) (harg9 : arg9.IsWhole) (arg10 : Memref sig .tc .vmem S1x128 .f32) (harg10 : arg10.IsWhole) (arg11 : Memref sig .tc .vmem S16x1 .f32) (harg11 : arg11.IsWhole) (arg12 : Memref sig .tc .vmem S3x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S1x512 .f32) (harg16 : arg16.IsWhole) (arg17 : Memref sig .tc .vmem S1x2048x512 .bf16) (harg17 : arg17.IsWhole) (arg18 : Memref sig .tc .vmem S1x2048x128 .bf16) (harg18 : arg18.IsWhole) (arg19 : Memref sig .tc .vmem S1x128x2048 .bf16) (harg19 : arg19.IsWhole) (arg20 : Memref sig .tc .vmem S1x2048x512 .bf16) (harg20 : arg20.IsWhole) (arg21 : Memref sig .tc .vmem S1x16x512x128 .bf16) (harg21 : arg21.IsWhole) (arg22 : Memref sig .tc .vmem S1x2048x512 .bf16) (harg22 : arg22.IsWhole) (arg23 : Memref sig .tc .vmem S1x2048x128 .f32) (harg23 : arg23.IsWhole) (arg24 : Memref sig .tc .vmem S1x16x16x128 .f32) (harg24 : arg24.IsWhole)
    (x0 : Vec F S1x2048x1024 .f32) (x1 : Vec F S1x8x1024 .f32) (x2 : Vec F S1x8x1024 .f32) (x3 : Vec F S8x1024 .f32) (x4 : Vec F S8x1024 .f32) (x5 : Vec F S1x1024 .f32) (x6 : Vec F S1024x1792 .bf16) (x7 : Vec F S656x1024 .bf16) (x8 : Vec F S1x128 .f32) (x9 : Vec F S16x1 .f32) (x10 : Vec F S3x512 .f32) (x11 : Vec F S2048x128 .f32) (x12 : Vec F S2048x128 .f32) (x13 : Vec F S2048x128 .f32) (x14 : Vec F S1x512 .f32) (y : S1x16x512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.1 S1x1x512x128.size (by sl_kernel_rfl) y

/-- What the run leaves in output 19's staging buffer: its pieces read back over junk. -/
def out0_A_19 (c : Dev nD) (i : grid0.Coords) (arg2 : Memref sig .tc .vmem S1x2048x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S656x1024 .bf16) (harg9 : arg9.IsWhole) (arg10 : Memref sig .tc .vmem S1x128 .f32) (harg10 : arg10.IsWhole) (arg11 : Memref sig .tc .vmem S16x1 .f32) (harg11 : arg11.IsWhole) (arg12 : Memref sig .tc .vmem S3x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S1x512 .f32) (harg16 : arg16.IsWhole) (arg17 : Memref sig .tc .vmem S1x2048x512 .bf16) (harg17 : arg17.IsWhole) (arg18 : Memref sig .tc .vmem S1x2048x128 .bf16) (harg18 : arg18.IsWhole) (arg19 : Memref sig .tc .vmem S1x128x2048 .bf16) (harg19 : arg19.IsWhole) (arg20 : Memref sig .tc .vmem S1x2048x512 .bf16) (harg20 : arg20.IsWhole) (arg21 : Memref sig .tc .vmem S1x16x512x128 .bf16) (harg21 : arg21.IsWhole) (arg22 : Memref sig .tc .vmem S1x2048x512 .bf16) (harg22 : arg22.IsWhole) (arg23 : Memref sig .tc .vmem S1x2048x128 .f32) (harg23 : arg23.IsWhole) (arg24 : Memref sig .tc .vmem S1x16x16x128 .f32) (harg24 : arg24.IsWhole)
    (x0 : Vec F S1x2048x1024 .f32) (x1 : Vec F S1x8x1024 .f32) (x2 : Vec F S1x8x1024 .f32) (x3 : Vec F S8x1024 .f32) (x4 : Vec F S8x1024 .f32) (x5 : Vec F S1x1024 .f32) (x6 : Vec F S1024x1792 .bf16) (x7 : Vec F S656x1024 .bf16) (x8 : Vec F S1x128 .f32) (x9 : Vec F S16x1 .f32) (x10 : Vec F S3x512 .f32) (x11 : Vec F S2048x128 .f32) (x12 : Vec F S2048x128 .f32) (x13 : Vec F S2048x128 .f32) (x14 : Vec F S1x512 .f32) : Vec F S1x16x512x128 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.1)

/-- The pieces the run stores to output 20 cover its block. -/
theorem cover0_A_20 (c : Dev nD) (i : grid0.Coords) (arg2 : Memref sig .tc .vmem S1x2048x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S656x1024 .bf16) (harg9 : arg9.IsWhole) (arg10 : Memref sig .tc .vmem S1x128 .f32) (harg10 : arg10.IsWhole) (arg11 : Memref sig .tc .vmem S16x1 .f32) (harg11 : arg11.IsWhole) (arg12 : Memref sig .tc .vmem S3x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S1x512 .f32) (harg16 : arg16.IsWhole) (arg17 : Memref sig .tc .vmem S1x2048x512 .bf16) (harg17 : arg17.IsWhole) (arg18 : Memref sig .tc .vmem S1x2048x128 .bf16) (harg18 : arg18.IsWhole) (arg19 : Memref sig .tc .vmem S1x128x2048 .bf16) (harg19 : arg19.IsWhole) (arg20 : Memref sig .tc .vmem S1x2048x512 .bf16) (harg20 : arg20.IsWhole) (arg21 : Memref sig .tc .vmem S1x16x512x128 .bf16) (harg21 : arg21.IsWhole) (arg22 : Memref sig .tc .vmem S1x2048x512 .bf16) (harg22 : arg22.IsWhole) (arg23 : Memref sig .tc .vmem S1x2048x128 .f32) (harg23 : arg23.IsWhole) (arg24 : Memref sig .tc .vmem S1x16x16x128 .f32) (harg24 : arg24.IsWhole)
    (x0 : Vec F S1x2048x1024 .f32) (x1 : Vec F S1x8x1024 .f32) (x2 : Vec F S1x8x1024 .f32) (x3 : Vec F S8x1024 .f32) (x4 : Vec F S8x1024 .f32) (x5 : Vec F S1x1024 .f32) (x6 : Vec F S1024x1792 .bf16) (x7 : Vec F S656x1024 .bf16) (x8 : Vec F S1x128 .f32) (x9 : Vec F S16x1 .f32) (x10 : Vec F S3x512 .f32) (x11 : Vec F S2048x128 .f32) (x12 : Vec F S2048x128 .f32) (x13 : Vec F S2048x128 .f32) (x14 : Vec F S1x512 .f32) (y : S1x2048x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.2.1 S1x256x512.size (by sl_kernel_rfl) y

/-- What the run leaves in output 20's staging buffer: its pieces read back over junk. -/
def out0_A_20 (c : Dev nD) (i : grid0.Coords) (arg2 : Memref sig .tc .vmem S1x2048x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S656x1024 .bf16) (harg9 : arg9.IsWhole) (arg10 : Memref sig .tc .vmem S1x128 .f32) (harg10 : arg10.IsWhole) (arg11 : Memref sig .tc .vmem S16x1 .f32) (harg11 : arg11.IsWhole) (arg12 : Memref sig .tc .vmem S3x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S1x512 .f32) (harg16 : arg16.IsWhole) (arg17 : Memref sig .tc .vmem S1x2048x512 .bf16) (harg17 : arg17.IsWhole) (arg18 : Memref sig .tc .vmem S1x2048x128 .bf16) (harg18 : arg18.IsWhole) (arg19 : Memref sig .tc .vmem S1x128x2048 .bf16) (harg19 : arg19.IsWhole) (arg20 : Memref sig .tc .vmem S1x2048x512 .bf16) (harg20 : arg20.IsWhole) (arg21 : Memref sig .tc .vmem S1x16x512x128 .bf16) (harg21 : arg21.IsWhole) (arg22 : Memref sig .tc .vmem S1x2048x512 .bf16) (harg22 : arg22.IsWhole) (arg23 : Memref sig .tc .vmem S1x2048x128 .f32) (harg23 : arg23.IsWhole) (arg24 : Memref sig .tc .vmem S1x16x16x128 .f32) (harg24 : arg24.IsWhole)
    (x0 : Vec F S1x2048x1024 .f32) (x1 : Vec F S1x8x1024 .f32) (x2 : Vec F S1x8x1024 .f32) (x3 : Vec F S8x1024 .f32) (x4 : Vec F S8x1024 .f32) (x5 : Vec F S1x1024 .f32) (x6 : Vec F S1024x1792 .bf16) (x7 : Vec F S656x1024 .bf16) (x8 : Vec F S1x128 .f32) (x9 : Vec F S16x1 .f32) (x10 : Vec F S3x512 .f32) (x11 : Vec F S2048x128 .f32) (x12 : Vec F S2048x128 .f32) (x13 : Vec F S2048x128 .f32) (x14 : Vec F S1x512 .f32) : Vec F S1x2048x512 .bf16 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.2.1)

/-- The pieces the run stores to output 21 cover its block. -/
theorem cover0_A_21 (c : Dev nD) (i : grid0.Coords) (arg2 : Memref sig .tc .vmem S1x2048x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S656x1024 .bf16) (harg9 : arg9.IsWhole) (arg10 : Memref sig .tc .vmem S1x128 .f32) (harg10 : arg10.IsWhole) (arg11 : Memref sig .tc .vmem S16x1 .f32) (harg11 : arg11.IsWhole) (arg12 : Memref sig .tc .vmem S3x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S1x512 .f32) (harg16 : arg16.IsWhole) (arg17 : Memref sig .tc .vmem S1x2048x512 .bf16) (harg17 : arg17.IsWhole) (arg18 : Memref sig .tc .vmem S1x2048x128 .bf16) (harg18 : arg18.IsWhole) (arg19 : Memref sig .tc .vmem S1x128x2048 .bf16) (harg19 : arg19.IsWhole) (arg20 : Memref sig .tc .vmem S1x2048x512 .bf16) (harg20 : arg20.IsWhole) (arg21 : Memref sig .tc .vmem S1x16x512x128 .bf16) (harg21 : arg21.IsWhole) (arg22 : Memref sig .tc .vmem S1x2048x512 .bf16) (harg22 : arg22.IsWhole) (arg23 : Memref sig .tc .vmem S1x2048x128 .f32) (harg23 : arg23.IsWhole) (arg24 : Memref sig .tc .vmem S1x16x16x128 .f32) (harg24 : arg24.IsWhole)
    (x0 : Vec F S1x2048x1024 .f32) (x1 : Vec F S1x8x1024 .f32) (x2 : Vec F S1x8x1024 .f32) (x3 : Vec F S8x1024 .f32) (x4 : Vec F S8x1024 .f32) (x5 : Vec F S1x1024 .f32) (x6 : Vec F S1024x1792 .bf16) (x7 : Vec F S656x1024 .bf16) (x8 : Vec F S1x128 .f32) (x9 : Vec F S16x1 .f32) (x10 : Vec F S3x512 .f32) (x11 : Vec F S2048x128 .f32) (x12 : Vec F S2048x128 .f32) (x13 : Vec F S2048x128 .f32) (x14 : Vec F S1x512 .f32) (y : S1x2048x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.2.2.1 S1x256x128.size (by sl_kernel_rfl) y

/-- What the run leaves in output 21's staging buffer: its pieces read back over junk. -/
def out0_A_21 (c : Dev nD) (i : grid0.Coords) (arg2 : Memref sig .tc .vmem S1x2048x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S656x1024 .bf16) (harg9 : arg9.IsWhole) (arg10 : Memref sig .tc .vmem S1x128 .f32) (harg10 : arg10.IsWhole) (arg11 : Memref sig .tc .vmem S16x1 .f32) (harg11 : arg11.IsWhole) (arg12 : Memref sig .tc .vmem S3x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S1x512 .f32) (harg16 : arg16.IsWhole) (arg17 : Memref sig .tc .vmem S1x2048x512 .bf16) (harg17 : arg17.IsWhole) (arg18 : Memref sig .tc .vmem S1x2048x128 .bf16) (harg18 : arg18.IsWhole) (arg19 : Memref sig .tc .vmem S1x128x2048 .bf16) (harg19 : arg19.IsWhole) (arg20 : Memref sig .tc .vmem S1x2048x512 .bf16) (harg20 : arg20.IsWhole) (arg21 : Memref sig .tc .vmem S1x16x512x128 .bf16) (harg21 : arg21.IsWhole) (arg22 : Memref sig .tc .vmem S1x2048x512 .bf16) (harg22 : arg22.IsWhole) (arg23 : Memref sig .tc .vmem S1x2048x128 .f32) (harg23 : arg23.IsWhole) (arg24 : Memref sig .tc .vmem S1x16x16x128 .f32) (harg24 : arg24.IsWhole)
    (x0 : Vec F S1x2048x1024 .f32) (x1 : Vec F S1x8x1024 .f32) (x2 : Vec F S1x8x1024 .f32) (x3 : Vec F S8x1024 .f32) (x4 : Vec F S8x1024 .f32) (x5 : Vec F S1x1024 .f32) (x6 : Vec F S1024x1792 .bf16) (x7 : Vec F S656x1024 .bf16) (x8 : Vec F S1x128 .f32) (x9 : Vec F S16x1 .f32) (x10 : Vec F S3x512 .f32) (x11 : Vec F S2048x128 .f32) (x12 : Vec F S2048x128 .f32) (x13 : Vec F S2048x128 .f32) (x14 : Vec F S1x512 .f32) : Vec F S1x2048x128 .f32 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.2.2.1)

/-- The pieces the run stores to output 22 cover its block. -/
theorem cover0_A_22 (c : Dev nD) (i : grid0.Coords) (arg2 : Memref sig .tc .vmem S1x2048x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S656x1024 .bf16) (harg9 : arg9.IsWhole) (arg10 : Memref sig .tc .vmem S1x128 .f32) (harg10 : arg10.IsWhole) (arg11 : Memref sig .tc .vmem S16x1 .f32) (harg11 : arg11.IsWhole) (arg12 : Memref sig .tc .vmem S3x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S1x512 .f32) (harg16 : arg16.IsWhole) (arg17 : Memref sig .tc .vmem S1x2048x512 .bf16) (harg17 : arg17.IsWhole) (arg18 : Memref sig .tc .vmem S1x2048x128 .bf16) (harg18 : arg18.IsWhole) (arg19 : Memref sig .tc .vmem S1x128x2048 .bf16) (harg19 : arg19.IsWhole) (arg20 : Memref sig .tc .vmem S1x2048x512 .bf16) (harg20 : arg20.IsWhole) (arg21 : Memref sig .tc .vmem S1x16x512x128 .bf16) (harg21 : arg21.IsWhole) (arg22 : Memref sig .tc .vmem S1x2048x512 .bf16) (harg22 : arg22.IsWhole) (arg23 : Memref sig .tc .vmem S1x2048x128 .f32) (harg23 : arg23.IsWhole) (arg24 : Memref sig .tc .vmem S1x16x16x128 .f32) (harg24 : arg24.IsWhole)
    (x0 : Vec F S1x2048x1024 .f32) (x1 : Vec F S1x8x1024 .f32) (x2 : Vec F S1x8x1024 .f32) (x3 : Vec F S8x1024 .f32) (x4 : Vec F S8x1024 .f32) (x5 : Vec F S1x1024 .f32) (x6 : Vec F S1024x1792 .bf16) (x7 : Vec F S656x1024 .bf16) (x8 : Vec F S1x128 .f32) (x9 : Vec F S16x1 .f32) (x10 : Vec F S3x512 .f32) (x11 : Vec F S2048x128 .f32) (x12 : Vec F S2048x128 .f32) (x13 : Vec F S2048x128 .f32) (x14 : Vec F S1x512 .f32) (y : S1x16x16x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.2.2.2.1 S1x1x16x128.size (by sl_kernel_rfl) y

/-- What the run leaves in output 22's staging buffer: its pieces read back over junk. -/
def out0_A_22 (c : Dev nD) (i : grid0.Coords) (arg2 : Memref sig .tc .vmem S1x2048x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S656x1024 .bf16) (harg9 : arg9.IsWhole) (arg10 : Memref sig .tc .vmem S1x128 .f32) (harg10 : arg10.IsWhole) (arg11 : Memref sig .tc .vmem S16x1 .f32) (harg11 : arg11.IsWhole) (arg12 : Memref sig .tc .vmem S3x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S1x512 .f32) (harg16 : arg16.IsWhole) (arg17 : Memref sig .tc .vmem S1x2048x512 .bf16) (harg17 : arg17.IsWhole) (arg18 : Memref sig .tc .vmem S1x2048x128 .bf16) (harg18 : arg18.IsWhole) (arg19 : Memref sig .tc .vmem S1x128x2048 .bf16) (harg19 : arg19.IsWhole) (arg20 : Memref sig .tc .vmem S1x2048x512 .bf16) (harg20 : arg20.IsWhole) (arg21 : Memref sig .tc .vmem S1x16x512x128 .bf16) (harg21 : arg21.IsWhole) (arg22 : Memref sig .tc .vmem S1x2048x512 .bf16) (harg22 : arg22.IsWhole) (arg23 : Memref sig .tc .vmem S1x2048x128 .f32) (harg23 : arg23.IsWhole) (arg24 : Memref sig .tc .vmem S1x16x16x128 .f32) (harg24 : arg24.IsWhole)
    (x0 : Vec F S1x2048x1024 .f32) (x1 : Vec F S1x8x1024 .f32) (x2 : Vec F S1x8x1024 .f32) (x3 : Vec F S8x1024 .f32) (x4 : Vec F S8x1024 .f32) (x5 : Vec F S1x1024 .f32) (x6 : Vec F S1024x1792 .bf16) (x7 : Vec F S656x1024 .bf16) (x8 : Vec F S1x128 .f32) (x9 : Vec F S16x1 .f32) (x10 : Vec F S3x512 .f32) (x11 : Vec F S2048x128 .f32) (x12 : Vec F S2048x128 .f32) (x13 : Vec F S2048x128 .f32) (x14 : Vec F S1x512 .f32) : Vec F S1x16x16x128 .f32 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x2048x512 .bf16 × Vec F S1x2048x128 .bf16 × Vec F S1x128x2048 .bf16 × Vec F S1x2048x512 .bf16 × Vec F S1x16x512x128 .bf16 × Vec F S1x2048x512 .bf16 × Vec F S1x2048x128 .f32 × Vec F S1x16x16x128 .f32 :=
  (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))

/-! ## The pipeline's proof data -/

/-- The pipeline's data: the arrays as the region finds them, and what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t).1
    | ⟨16, _⟩ => (outsAt0 m c t).2.1
    | ⟨17, _⟩ => (outsAt0 m c t).2.2.1
    | ⟨18, _⟩ => (outsAt0 m c t).2.2.2.1
    | ⟨19, _⟩ => (outsAt0 m c t).2.2.2.2.1
    | ⟨20, _⟩ => (outsAt0 m c t).2.2.2.2.2.1
    | ⟨21, _⟩ => (outsAt0 m c t).2.2.2.2.2.2.1
    | ⟨22, _⟩ => (outsAt0 m c t).2.2.2.2.2.2.2
    | ⟨_ + 23, h⟩ => absurd h (Nat.not_lt.2 (Nat.le_add_left _ _))
  Φ _ := Pipeline.ΦA spec0 c
  q w := Pipeline.shareOf spec0 w
  owed _ := 0

/-- The arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt0 m c t).1 := by dsimp only [dats]
theorem after0_16 (c : Dev nD) (t : Fin cfg0.N) : (dats m 0 c).after 16 t = (outsAt0 m c t).2.1 := by dsimp only [dats]
theorem after0_17 (c : Dev nD) (t : Fin cfg0.N) : (dats m 0 c).after 17 t = (outsAt0 m c t).2.2.1 := by dsimp only [dats]
theorem after0_18 (c : Dev nD) (t : Fin cfg0.N) : (dats m 0 c).after 18 t = (outsAt0 m c t).2.2.2.1 := by dsimp only [dats]
theorem after0_19 (c : Dev nD) (t : Fin cfg0.N) : (dats m 0 c).after 19 t = (outsAt0 m c t).2.2.2.2.1 := by dsimp only [dats]
theorem after0_20 (c : Dev nD) (t : Fin cfg0.N) : (dats m 0 c).after 20 t = (outsAt0 m c t).2.2.2.2.2.1 := by dsimp only [dats]
theorem after0_21 (c : Dev nD) (t : Fin cfg0.N) : (dats m 0 c).after 21 t = (outsAt0 m c t).2.2.2.2.2.2.1 := by dsimp only [dats]
theorem after0_22 (c : Dev nD) (t : Fin cfg0.N) : (dats m 0 c).after 22 t = (outsAt0 m c t).2.2.2.2.2.2.2 := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2000000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  unfold outsAt0
  unfold out0_A_15 out0_A_16 out0_A_17 out0_A_18 out0_A_19 out0_A_20 out0_A_21 out0_A_22; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%e22, H22⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every run ends, with the pipeline's arrays at what its data say and everything else as it was. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- Every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel3Ideal.Gen

end
-- ==== Proof.Inp.Same.lean ====
/- The input projection's kernel is, word for word, the program whose run Frame.lean gives, so its frame is that run at bits. -/
module

public import proofs.«01_k».proof.Defs
public import proofs.«01_k».proof.Proof.Gen.Kernel3
public import proofs.«01_k».proof.Proof.Inp.Frame

@[expose] public section

set_option maxRecDepth 100000

noncomputable section

namespace Cert.Inp

open Idealize.ShloMosaic Idealize.SL.Sem

set_option maxHeartbeats 4000000 in
/-- The two programs' bodies are the same text. -/
theorem body_eq : Cert.Kernel3.cc0_inproj_latent (F := Bits) = Cert.Kernel3Ideal.cc0_inproj_latent (F := Bits) := rfl

set_option maxHeartbeats 4000000 in
/-- So are their tables of bodies. -/
theorem bodies_eq : Cert.Kernel3.defs₀ (F := Bits) = Cert.Kernel3Ideal.defs₀ (F := Bits) := by
  unfold Cert.Kernel3.defs₀ Cert.Kernel3Ideal.defs₀
  rw [body_eq]
  refine congrArg Defs.onTc ?_
  funext l a
  match l, a with
  | 0, (t, s) => rfl

set_option maxHeartbeats 4000000 in
/-- And what their launches run. -/
theorem defs_eq : Cert.Kernel3.defs (F := Bits) = Cert.Kernel3Ideal.defs (F := Bits) :=
  (congrArg (Pipeline.defs Cert.Kernel3.pcfgs) bodies_eq).trans rfl

set_option maxHeartbeats 4000000 in
/-- The first part of the host's code. -/
theorem part0_eq : Cert.Kernel3.main_part0 (F := Bits) = Cert.Kernel3Ideal.main_part0 (F := Bits) := rfl

set_option maxHeartbeats 4000000 in
/-- The rest of the host's code. -/
theorem part1_eq : Cert.Kernel3.main_part1 (F := Bits) = Cert.Kernel3Ideal.main_part1 (F := Bits) := rfl

set_option maxHeartbeats 4000000 in
/-- The host's code. -/
theorem main_eq : Cert.Kernel3.main (F := Bits) = Cert.Kernel3Ideal.main (F := Bits) := by
  unfold Cert.Kernel3.main Cert.Kernel3Ideal.main
  rw [part0_eq, part1_eq]
  rfl

set_option maxHeartbeats 4000000 in
/-- The kernel at bits ends with its arguments as they were and its counters at zero. -/
theorem frame_kernel : Cert.quiescent_Kernel3 := by
  intro m ρ _
  have h := Cert.Kernel3Ideal.Gen.frame (F := Bits) m ρ
  rw [← defs_eq, ← main_eq] at h
  exact h

end Cert.Inp

end
-- ==== Proof.Inp.Blocks.lean ====
/- What the input projection's run leaves in its eight results, block by block. -/
module

public import proofs.«01_k».proof.Proof.Inp.Frame
public import Idealize.ShloMosaic.Lib.Pipeline.Value

@[expose] public section

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What point `t` writes back to output 15's array. -/
theorem flushed15 (c : Dev nD) (t : Fin cfg0.N) :
    (dats m 0 c).flushed 15 t = (cfg0.win 15).cut (grid0.coords t) ((outsAt0 m c t).1) := by
  show (cfg0.win 15).cut (grid0.coords t) ((dats m 0 c).after 15 t) = _
  rw [after0_15]

/-- What point `t` writes back to output 16's array. -/
theorem flushed16 (c : Dev nD) (t : Fin cfg0.N) :
    (dats m 0 c).flushed 16 t = (cfg0.win 16).cut (grid0.coords t) ((outsAt0 m c t).2.1) := by
  show (cfg0.win 16).cut (grid0.coords t) ((dats m 0 c).after 16 t) = _
  rw [after0_16]

/-- What point `t` writes back to output 17's array. -/
theorem flushed17 (c : Dev nD) (t : Fin cfg0.N) :
    (dats m 0 c).flushed 17 t = (cfg0.win 17).cut (grid0.coords t) ((outsAt0 m c t).2.2.1) := by
  show (cfg0.win 17).cut (grid0.coords t) ((dats m 0 c).after 17 t) = _
  rw [after0_17]

/-- What point `t` writes back to output 18's array. -/
theorem flushed18 (c : Dev nD) (t : Fin cfg0.N) :
    (dats m 0 c).flushed 18 t = (cfg0.win 18).cut (grid0.coords t) ((outsAt0 m c t).2.2.2.1) := by
  show (cfg0.win 18).cut (grid0.coords t) ((dats m 0 c).after 18 t) = _
  rw [after0_18]

/-- What point `t` writes back to output 19's array. -/
theorem flushed19 (c : Dev nD) (t : Fin cfg0.N) :
    (dats m 0 c).flushed 19 t = (cfg0.win 19).cut (grid0.coords t) ((outsAt0 m c t).2.2.2.2.1) := by
  show (cfg0.win 19).cut (grid0.coords t) ((dats m 0 c).after 19 t) = _
  rw [after0_19]

/-- What point `t` writes back to output 20's array. -/
theorem flushed20 (c : Dev nD) (t : Fin cfg0.N) :
    (dats m 0 c).flushed 20 t = (cfg0.win 20).cut (grid0.coords t) ((outsAt0 m c t).2.2.2.2.2.1) := by
  show (cfg0.win 20).cut (grid0.coords t) ((dats m 0 c).after 20 t) = _
  rw [after0_20]

/-- What point `t` writes back to output 21's array. -/
theorem flushed21 (c : Dev nD) (t : Fin cfg0.N) :
    (dats m 0 c).flushed 21 t = (cfg0.win 21).cut (grid0.coords t) ((outsAt0 m c t).2.2.2.2.2.2.1) := by
  show (cfg0.win 21).cut (grid0.coords t) ((dats m 0 c).after 21 t) = _
  rw [after0_21]

/-- What point `t` writes back to output 22's array. -/
theorem flushed22 (c : Dev nD) (t : Fin cfg0.N) :
    (dats m 0 c).flushed 22 t = (cfg0.win 22).cut (grid0.coords t) ((outsAt0 m c t).2.2.2.2.2.2.2) := by
  show (cfg0.win 22).cut (grid0.coords t) ((dats m 0 c).after 22 t) = _
  rw [after0_22]

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v63_0) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v63_1) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v63_2) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v63_3) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v63_4) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v63_5) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v63_6) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v63_7) = (dats m 0 c).arrAt 22 cfg0.N :=
  (h c).1 22

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 4 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))

/-- After the frame run, argument `main_arg2` is as launched: input window 5 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 5).trans (((dats m 0 c).arrAt_in 5 rfl _).trans ((A_eq m c 5).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 14 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 14).trans (((dats m 0 c).arrAt_in 14 rfl _).trans ((A_eq m c 14).trans (V_main_arg6 m c)))

set_option maxHeartbeats 2000000 in
/-- Every run ends with the eight results at the pipeline's arrays and the arguments unchanged. -/
theorem run_blocks : θ_run defs (onTc (τ := τ) (main (F := F))) ⟨m, fun _ => 0, ρ⟩ fun r => ∀ c : Dev nD,
      r.2.mem ((c : Thread nD τ).loc main_v63_0) = (dats m 0 c).arrAt 15 cfg0.N
      ∧ r.2.mem ((c : Thread nD τ).loc main_v63_1) = (dats m 0 c).arrAt 16 cfg0.N
      ∧ r.2.mem ((c : Thread nD τ).loc main_v63_2) = (dats m 0 c).arrAt 17 cfg0.N
      ∧ r.2.mem ((c : Thread nD τ).loc main_v63_3) = (dats m 0 c).arrAt 18 cfg0.N
      ∧ r.2.mem ((c : Thread nD τ).loc main_v63_4) = (dats m 0 c).arrAt 19 cfg0.N
      ∧ r.2.mem ((c : Thread nD τ).loc main_v63_5) = (dats m 0 c).arrAt 20 cfg0.N
      ∧ r.2.mem ((c : Thread nD τ).loc main_v63_6) = (dats m 0 c).arrAt 21 cfg0.N
      ∧ r.2.mem ((c : Thread nD τ).loc main_v63_7) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post15 m r h c,
      post16 m r h c,
      post17 m r h c,
      post18 m r h c,
      post19 m r h c,
      post20 m r h c,
      post21 m r h c,
      post22 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.Kernel3Ideal.Value

end
-- ==== Proof.Inp.Core.lean ====
/- One group of the input projection's body — 256 tokens and the eight before and after them — written once for every
   group, over any float values, and the tiles that the groups store. -/
module

public import proofs.«01_k».proof.Proof.Gen.Kernel3Ideal.Frame.Runs

@[expose] public section

set_option maxRecDepth 16384

noncomputable section

namespace Cert.Inp

open Cert.Kernel3Ideal Cert.Kernel3Ideal.Gen Idealize.ShloMosaic Idealize.SL.Sem

variable {F : FTy → Type} [FloatOps F]

/-- A group's rows, and below them the eight rows before it and the eight after it. -/
def stacked (x : Vec F S1x256x1024 .f32) (b a : Vec F S1x8x1024 .f32) : FVec F S272x1024 .f32 :=
  concatenate S272x1024 0 [⟨S256x1024, shapeCast S256x1024 x shapeCasts_S1x256x1024_S256x1024⟩,
    ⟨S8x1024, shapeCast S8x1024 b shapeCasts_S1x8x1024_S8x1024⟩,
    ⟨S8x1024, shapeCast S8x1024 a shapeCasts_S1x8x1024_S8x1024⟩] concatenates_S256x1024_S8x1024_S8x1024_S272x1024_d0

/-- The norm's gain times one plus the modulation's scale. -/
def gain (g sc : Vec F S1x1024 .f32) : FVec F S1x1024 .f32 :=
  mulf g (addf (broadcast S1x1024 (Scalar.ofBits .f32 0x3F800000#32)) sc)

/-- The reciprocal root of each row's mean square. -/
def invRms (x : FVec F S272x1024 .f32) : FVec F S272x1 .f32 :=
  rsqrt (addf (divf (shapeCast S272x1 (multiReduction .add [1] S272 (mulf x x) 0x00000000#32 reduces_S272x1024_S272
      (.inl rfl) rfl) shapeCasts_S272_S272x1) (broadcast S272x1 (Scalar.ofBits .f32 0x44800000#32)))
    (broadcast S272x1 (Scalar.ofBits .f32 0x358637BD#32)))

/-- The normed and modulated rows. -/
def modded (s : FVec F S1x1024 .f32) (sh : Vec F S1x1024 .f32) (x : FVec F S272x1024 .f32) : FVec F S272x1024 .bf16 :=
  truncf .bf16 (addf (mulf (mulf x (broadcastTo S272x1024 (invRms x) broadcasts_S272x1_S272x1024))
      (broadcastTo S272x1024 s broadcasts_S1x1024_S272x1024))
    (broadcastTo S272x1024 sh broadcasts_S1x1024_S272x1024)) bitsLt_bf16_f32

/-- The group's own rows of them. -/
def own (h : FVec F S272x1024 .bf16) : FVec F S256x1024 .bf16 :=
  extractStridedSlice S256x1024 ![0, 0] h slices_S272x1024_o0_0_S256x1024

/-- Rows times 512 columns of the weights, -/
def proj512 (h : FVec F S256x1024 .bf16) (w : Vec F S1024x512 .bf16) : FVec F S256x512 .f32 :=
  matmul dot_S256x1024_S1024x512_S256x512_1_0_0_1_n_n none h (shapeCast S1024x512 w shapeCasts_S1024x512_S1024x512)
    (constant S256x512 .f32 0x00000000#32)

/-- rows times 256 columns, -/
def proj256 (h : FVec F S256x1024 .bf16) (w : Vec F S1024x256 .bf16) : FVec F S256x256 .f32 :=
  matmul dot_S256x1024_S1024x256_S256x256_1_0_0_1_n_n none h (shapeCast S1024x256 w shapeCasts_S1024x256_S1024x256)
    (constant S256x256 .f32 0x00000000#32)

/-- all 272 rows times 512 columns, -/
def projAll (h : FVec F S272x1024 .bf16) (w : Vec F S1024x512 .bf16) : FVec F S272x512 .f32 :=
  matmul dot_S272x1024_S1024x512_S272x512_1_0_0_1_n_n none h (shapeCast S1024x512 w shapeCasts_S1024x512_S1024x512)
    (constant S272x512 .f32 0x00000000#32)

/-- and the products of the turned weights with the rows, one column per token. -/
def projT (w : Vec F S656x1024 .bf16) (h : FVec F S256x1024 .bf16) : FVec F S656x256 .f32 :=
  matmul dot_S656x1024_S256x1024_S656x256_1_1_0_0_n_n none (shapeCast S656x1024 w shapeCasts_S656x1024_S656x1024) h
    (constant S656x256 .f32 0x00000000#32)

/-- Two heads' lanes rotated by their tokens' angles. -/
def roped (v : FVec F S256x128 .f32) (cs lo hi : Vec F S256x128 .f32) : FVec F S1x256x128 .bf16 :=
  shapeCast S1x256x128 (truncf .bf16
    (addf (addf (mulf v (shapeCast S256x128 cs shapeCasts_S256x128_S256x128))
        (mulf (dynamicRotate 1 112#32 none v rotates_S256x128_d1) (shapeCast S256x128 lo shapeCasts_S256x128_S256x128)))
      (mulf (dynamicRotate 1 16#32 none v rotates_S256x128_d1) (shapeCast S256x128 hi shapeCasts_S256x128_S256x128)))
    bitsLt_bf16_f32) shapeCasts_S256x128_S1x256x128

/-- The queries of the head groups 0 to 3. -/
def q0 (v : FVec F S256x512 .f32) : FVec F S256x128 .f32 := extractStridedSlice S256x128 ![0, 0] v slices_S256x512_o0_0_S256x128
def q1 (v : FVec F S256x512 .f32) : FVec F S256x128 .f32 := extractStridedSlice S256x128 ![0, 128] v slices_S256x512_o0_128_S256x128
def q2 (v : FVec F S256x512 .f32) : FVec F S256x128 .f32 := extractStridedSlice S256x128 ![0, 256] v slices_S256x512_o0_256_S256x128
def q3 (v : FVec F S256x512 .f32) : FVec F S256x128 .f32 := extractStridedSlice S256x128 ![0, 384] v slices_S256x512_o0_384_S256x128

/-- The keys' lanes of their product. -/
def keys (v : FVec F S256x256 .f32) : FVec F S256x128 .f32 := extractStridedSlice S256x128 ![0, 0] v slices_S256x256_o0_0_S256x128

/-- The gates by token. -/
def gates (v : FVec F S256x256 .f32) (bg : Vec F S1x128 .f32) : FVec F S1x256x128 .f32 :=
  shapeCast S1x256x128 (addf (extractStridedSlice S256x128 ![0, 128] v slices_S256x256_o0_128_S256x128)
    (broadcastTo S256x128 (shapeCast S1x128 bg shapeCasts_S1x128_S1x128) broadcasts_S1x128_S256x128))
    shapeCasts_S256x128_S1x256x128

/-- The row of each token of a group. -/
def row : IVec S256x1 32 := iota .tc S256x1 32 [0] iota_S256x1_d0_w32

/-- The first row of `e` (times `k`) put in place of row `at'` of the rows `v`. -/
def patched (pos : BitVec 32) (e : FVec F S1x512 .f32) (k : F .f32) (v : FVec F S256x512 .f32) : FVec F S256x512 .f32 :=
  select (broadcastTo S256x512 (shapeCast S256x1 (cmpi .eq row (broadcast S256x1 pos)) shapeCasts_S256x1_S256x1)
      broadcasts_S256x1_S256x512)
    (broadcastTo S256x512 (shapeCast S1x512 (mulf e (broadcast S1x512 k)) shapeCasts_S1x512_S1x512)
      broadcasts_S1x512_S256x512) v

/-- The group's own rows of the product that is convolved. -/
def mid (y : FVec F S272x512 .f32) : FVec F S256x512 .f32 :=
  extractStridedSlice S256x512 ![0, 0] y slices_S272x512_o0_0_S256x512

/-- The row before each, -/
def prev (k : F .f32) (y : FVec F S272x512 .f32) : FVec F S256x512 .f32 :=
  patched 0#32 (extractStridedSlice S1x512 ![263, 0] y slices_S272x512_o263_0_S1x512) k
    (dynamicRotate 0 1#32 none (mid y) rotates_S256x512_d0)

/-- and the row after it. -/
def next (k : F .f32) (y : FVec F S272x512 .f32) : FVec F S256x512 .f32 :=
  patched 255#32 (extractStridedSlice S1x512 ![264, 0] y slices_S272x512_o264_0_S1x512) k
    (dynamicRotate 0 255#32 none (mid y) rotates_S256x512_d0)

/-- The convolution over three neighbouring tokens. -/
def conv (w : Vec F S3x512 .f32) (kp kn : F .f32) (y : FVec F S272x512 .f32) : FVec F S256x512 .f32 :=
  addf (addf (mulf (prev kp y) (broadcastTo S256x512 (extractStridedSlice S1x512 ![0, 0]
          (shapeCast S3x512 w shapeCasts_S3x512_S3x512) slices_S3x512_o0_0_S1x512) broadcasts_S1x512_S256x512))
      (mulf (mid y) (broadcastTo S256x512 (extractStridedSlice S1x512 ![1, 0]
          (shapeCast S3x512 w shapeCasts_S3x512_S3x512) slices_S3x512_o1_0_S1x512) broadcasts_S1x512_S256x512)))
    (mulf (next kn y) (broadcastTo S256x512 (extractStridedSlice S1x512 ![2, 0]
          (shapeCast S3x512 w shapeCasts_S3x512_S3x512) slices_S3x512_o2_0_S1x512) broadcasts_S1x512_S256x512))

/-- A value times its logistic. -/
def silu (v : FVec F S256x512 .f32) : FVec F S256x512 .f32 := mulf v (logistic v)

/-- The mLSTM's queries, scaled, -/
def mlQ (v : FVec F S256x512 .f32) : FVec F S1x256x256 .bf16 :=
  shapeCast S1x256x256 (truncf .bf16 (mulf (extractStridedSlice S256x256 ![0, 0] v slices_S256x512_o0_0_S256x256)
    (broadcast S256x256 (Scalar.ofBits .f32 0x3E000000#32))) bitsLt_bf16_f32) shapeCasts_S256x256_S1x256x256

/-- and its keys. -/
def mlK (v : FVec F S256x512 .f32) : FVec F S1x256x256 .bf16 :=
  shapeCast S1x256x256 (truncf .bf16 (extractStridedSlice S256x256 ![0, 256] v slices_S256x512_o0_256_S256x256)
    bitsLt_bf16_f32) shapeCasts_S256x256_S1x256x256

/-- The attention's values, one column per token. -/
def vals (v : FVec F S656x256 .f32) : FVec F S1x128x256 .bf16 :=
  shapeCast S1x128x256 (truncf .bf16 (extractStridedSlice S128x256 ![0, 0] v slices_S656x256_o0_0_S128x256)
    bitsLt_bf16_f32) shapeCasts_S128x256_S1x128x256

/-- The mLSTM's values of the first and of the last 128 tokens, one column per token, -/
def mlV0 (v : FVec F S656x256 .f32) : FVec F S1x1x512x128 .bf16 :=
  shapeCast S1x1x512x128 (truncf .bf16 (extractStridedSlice S512x128 ![128, 0] v slices_S656x256_o128_0_S512x128)
    bitsLt_bf16_f32) shapeCasts_S512x128_S1x1x512x128
def mlV1 (v : FVec F S656x256 .f32) : FVec F S1x1x512x128 .bf16 :=
  shapeCast S1x1x512x128 (truncf .bf16 (extractStridedSlice S512x128 ![128, 128] v slices_S656x256_o128_128_S512x128)
    bitsLt_bf16_f32) shapeCasts_S512x128_S1x1x512x128

/-- the gates, one column per token, -/
def gatesT (v : FVec F S656x256 .f32) (b : Vec F S16x1 .f32) : FVec F S16x256 .f32 :=
  addf (extractStridedSlice S16x256 ![640, 0] v slices_S656x256_o640_0_S16x256)
    (broadcastTo S16x256 (shapeCast S16x1 b shapeCasts_S16x1_S16x1) broadcasts_S16x1_S16x256)

/-- and those of the first and of the last 128 tokens. -/
def gates0 (g : FVec F S16x256 .f32) : FVec F S1x1x16x128 .f32 :=
  shapeCast S1x1x16x128 (extractStridedSlice S16x128 ![0, 0] g slices_S16x256_o0_0_S16x128) shapeCasts_S16x128_S1x1x16x128
def gates1 (g : FVec F S16x256 .f32) : FVec F S1x1x16x128 .f32 :=
  shapeCast S1x1x16x128 (extractStridedSlice S16x128 ![0, 128] g slices_S16x256_o0_128_S16x128) shapeCasts_S16x128_S1x1x16x128

/-- The output gate. -/
def outGate (v : FVec F S256x512 .f32) (g : Vec F S1x512 .f32) : FVec F S1x256x512 .bf16 :=
  shapeCast S1x256x512 (truncf .bf16 (mulf (logistic v) (broadcastTo S256x512 g broadcasts_S1x512_S256x512))
    bitsLt_bf16_f32) shapeCasts_S256x512_S1x256x512

/-- What the row beyond a grid point's first or last is multiplied by. -/
def edge (z : BitVec 32) (i : grid0.Coords) : F .f32 :=
  Scalar.select (Scalar.cmpi .eq (BitVec.ofNat 32 (i 0).val) z) (Scalar.ofBits .f32 0x00000000#32)
    (Scalar.ofBits .f32 0x3F800000#32)

/-- The rows of group `r`, -/
abbrev rX (r : Nat) (h : r < 8) : Rect S1x2048x1024 :=
  Rect.unit (s := S1x2048x1024) ![0, 256 * r, 0] S1x256x1024.size (fun a => match a with
    | ⟨0, _⟩ => by show 0 + 1 ≤ 1; omega
    | ⟨1, _⟩ => by show 256 * r + 256 ≤ 2048; omega
    | ⟨2, _⟩ => by show 0 + 1024 ≤ 1024; omega)

/-- the eight rows before it, -/
abbrev rB (r : Nat) (h : r < 8) : Rect S1x2048x1024 :=
  Rect.unit (s := S1x2048x1024) ![0, 256 * r - 8, 0] S1x8x1024.size (fun a => match a with
    | ⟨0, _⟩ => by show 0 + 1 ≤ 1; omega
    | ⟨1, _⟩ => by show 256 * r - 8 + 8 ≤ 2048; omega
    | ⟨2, _⟩ => by show 0 + 1024 ≤ 1024; omega)

/-- the eight rows from `o` on, -/
abbrev rA (o : Nat) (h : o + 8 ≤ 2048) : Rect S1x2048x1024 :=
  Rect.unit (s := S1x2048x1024) ![0, o, 0] S1x8x1024.size (fun a => match a with
    | ⟨0, _⟩ => by show 0 + 1 ≤ 1; omega
    | ⟨1, _⟩ => h
    | ⟨2, _⟩ => by show 0 + 1024 ≤ 1024; omega)

/-- the rows of the rotary tables, -/
abbrev rR (r : Nat) (h : r < 8) : Rect S2048x128 :=
  Rect.unit (s := S2048x128) ![256 * r, 0] S256x128.size (fun a => match a with
    | ⟨0, _⟩ => by show 256 * r + 256 ≤ 2048; omega
    | ⟨1, _⟩ => by show 0 + 128 ≤ 128; omega)

/-- and `n` columns of the weights from column `o` on. -/
abbrev rW (o n : Nat) (h : o + n ≤ 1792) : Rect S1024x1792 :=
  Rect.unit (s := S1024x1792) ![0, o] ![1024, n] (fun a => match a with
    | ⟨0, _⟩ => by show 0 + 1024 ≤ 1024; omega
    | ⟨1, _⟩ => by show o + n ≤ 1792; omega)

/-- The row of the modulation that grid point `i` reads. -/
abbrev rM (i : grid0.Coords) : Rect S8x1024 := Rect.unit (s := S8x1024) (k0_off1 i) S1x1024.size (k0_off1_inb i)

section Body
variable (i : grid0.Coords) (x0 : Vec F S1x2048x1024 .f32) (x1 x2 : Vec F S1x8x1024 .f32) (x3 x4 : Vec F S8x1024 .f32)
  (x5 : Vec F S1x1024 .f32) (x6 : Vec F S1024x1792 .bf16) (x7 : Vec F S656x1024 .bf16) (x8 : Vec F S1x128 .f32)
  (x9 : Vec F S16x1 .f32) (x10 : Vec F S3x512 .f32) (x11 x12 x13 : Vec F S2048x128 .f32) (x14 : Vec F S1x512 .f32)

/-- The eight rows before group `r`. -/
def before : (r : Nat) → r < 8 → Vec F S1x8x1024 .f32
  | 0, _ => x1
  | r + 1, h => View.ld x0 (rB (r + 1) h)

/-- The eight rows after it. -/
def after : (r : Nat) → r < 8 → Vec F S1x8x1024 .f32 := fun r _ =>
  if h : r < 7 then View.ld x0 (rA (256 * (r + 1)) (by omega)) else x2

/-- Group `r`'s normed and modulated rows. -/
def normed (r : Nat) (h : r < 8) : FVec F S272x1024 .bf16 :=
  modded (gain x5 (View.ld x4 (rM i))) (View.ld x3 (rM i))
    (stacked (View.ld x0 (rX r h)) (before x0 x1 r h) (after x0 x2 r h))

/-- Group `r`'s products: the queries', -/
def uQ (r : Nat) (h : r < 8) : FVec F S256x512 .f32 :=
  proj512 (own (normed i x0 x1 x2 x3 x4 x5 r h)) (View.ld x6 (rW 0 512 (by omega)))

/-- the keys' and the gates', -/
def uKg (r : Nat) (h : r < 8) : FVec F S256x256 .f32 :=
  proj256 (own (normed i x0 x1 x2 x3 x4 x5 r h)) (View.ld x6 (rW 512 256 (by omega)))

/-- the one that is convolved, -/
def uQk (r : Nat) (h : r < 8) : FVec F S272x512 .f32 :=
  projAll (normed i x0 x1 x2 x3 x4 x5 r h) (View.ld x6 (rW 768 512 (by omega)))

/-- the output gate's, -/
def uO (r : Nat) (h : r < 8) : FVec F S256x512 .f32 :=
  proj512 (own (normed i x0 x1 x2 x3 x4 x5 r h)) (View.ld x6 (rW 1280 512 (by omega)))

/-- and the one with a column per token. -/
def uT (r : Nat) (h : r < 8) : FVec F S656x256 .f32 :=
  projT x7 (own (normed i x0 x1 x2 x3 x4 x5 r h))

/-- Zero before the first token, -/
def kPrev (r : Nat) : F .f32 := if r = 0 then edge 0#32 i else Scalar.ofBits .f32 0x3F800000#32

/-- and after the last. -/
def kNext (r : Nat) : F .f32 := if r = 7 then edge 0#32 i else Scalar.ofBits .f32 0x3F800000#32

/-- The convolved and activated rows of group `r`. -/
def uAct (r : Nat) (h : r < 8) : FVec F S256x512 .f32 :=
  silu (conv x10 (kPrev i r) (kNext i r) (uQk i x0 x1 x2 x3 x4 x5 x6 r h))

/-- The rotation of group `r`. -/
def uRope (r : Nat) (h : r < 8) (v : FVec F S256x128 .f32) : FVec F S1x256x128 .bf16 :=
  roped v (View.ld x11 (rR r h)) (View.ld x12 (rR r h)) (View.ld x13 (rR r h))

/-- Where a group's tiles go: 128 of 512 columns, -/
abbrev tQ (r g : Nat) (h : r < 8) (hg : g < 4) : Rect S1x2048x512 :=
  Rect.unit (s := S1x2048x512) ![0, 256 * r, 128 * g] S1x256x128.size (fun a => match a with
    | ⟨0, _⟩ => by show 0 + 1 ≤ 1; omega
    | ⟨1, _⟩ => by show 256 * r + 256 ≤ 2048; omega
    | ⟨2, _⟩ => by show 128 * g + 128 ≤ 512; omega)

/-- all of 128 columns, -/
abbrev tK (r : Nat) (h : r < 8) : Rect S1x2048x128 :=
  Rect.unit (s := S1x2048x128) ![0, 256 * r, 0] S1x256x128.size (fun a => match a with
    | ⟨0, _⟩ => by show 0 + 1 ≤ 1; omega
    | ⟨1, _⟩ => by show 256 * r + 256 ≤ 2048; omega
    | ⟨2, _⟩ => by show 0 + 128 ≤ 128; omega)

/-- half of 512 columns, -/
abbrev tH (r g : Nat) (h : r < 8) (hg : g < 2) : Rect S1x2048x512 :=
  Rect.unit (s := S1x2048x512) ![0, 256 * r, 256 * g] S1x256x256.size (fun a => match a with
    | ⟨0, _⟩ => by show 0 + 1 ≤ 1; omega
    | ⟨1, _⟩ => by show 256 * r + 256 ≤ 2048; omega
    | ⟨2, _⟩ => by show 256 * g + 256 ≤ 512; omega)

/-- all of 512 columns, -/
abbrev tO (r : Nat) (h : r < 8) : Rect S1x2048x512 :=
  Rect.unit (s := S1x2048x512) ![0, 256 * r, 0] S1x256x512.size (fun a => match a with
    | ⟨0, _⟩ => by show 0 + 1 ≤ 1; omega
    | ⟨1, _⟩ => by show 256 * r + 256 ≤ 2048; omega
    | ⟨2, _⟩ => by show 0 + 512 ≤ 512; omega)

/-- one column per token, -/
abbrev tV (r : Nat) (h : r < 8) : Rect S1x128x2048 :=
  Rect.unit (s := S1x128x2048) ![0, 0, 256 * r] S1x128x256.size (fun a => match a with
    | ⟨0, _⟩ => by show 0 + 1 ≤ 1; omega
    | ⟨1, _⟩ => by show 0 + 128 ≤ 128; omega
    | ⟨2, _⟩ => by show 256 * r + 256 ≤ 2048; omega)

/-- and blocks of 128 tokens. -/
abbrev tM (n b : Nat) (h : b < 16) : Rect ⟨4, ![1, 16, n, 128]⟩ :=
  Rect.unit (s := ⟨4, ![1, 16, n, 128]⟩) ![0, b, 0, 0] ![1, 1, n, 128] (fun a => match a with
    | ⟨0, _⟩ => by show 0 + 1 ≤ 1; omega
    | ⟨1, _⟩ => by show b + 1 ≤ 16; omega
    | ⟨2, _⟩ => by show 0 + n ≤ n; omega
    | ⟨3, _⟩ => by show 0 + 128 ≤ 128; omega)

/-- The tiles of the first `n` groups, the last stored first: the queries', -/
def tilesQ : (n : Nat) → n ≤ 8 → List (View.Piece (Elt F) S1x2048x512 .bf16)
  | 0, _ => []
  | n + 1, h =>
    ⟨tQ n 3 h (by omega), uRope x11 x12 x13 n h (q3 (uQ i x0 x1 x2 x3 x4 x5 x6 n h))⟩ ::
    ⟨tQ n 2 h (by omega), uRope x11 x12 x13 n h (q2 (uQ i x0 x1 x2 x3 x4 x5 x6 n h))⟩ ::
    ⟨tQ n 1 h (by omega), uRope x11 x12 x13 n h (q1 (uQ i x0 x1 x2 x3 x4 x5 x6 n h))⟩ ::
    ⟨tQ n 0 h (by omega), uRope x11 x12 x13 n h (q0 (uQ i x0 x1 x2 x3 x4 x5 x6 n h))⟩ ::
    tilesQ n (by omega)

/-- the keys', -/
def tilesK : (n : Nat) → n ≤ 8 → List (View.Piece (Elt F) S1x2048x128 .bf16)
  | 0, _ => []
  | n + 1, h => ⟨tK n h, uRope x11 x12 x13 n h (keys (uKg i x0 x1 x2 x3 x4 x5 x6 n h))⟩ :: tilesK n (by omega)

/-- the values', -/
def tilesV : (n : Nat) → n ≤ 8 → List (View.Piece (Elt F) S1x128x2048 .bf16)
  | 0, _ => []
  | n + 1, h => ⟨tV n h, vals (uT i x0 x1 x2 x3 x4 x5 x7 n h)⟩ :: tilesV n (by omega)

/-- the mLSTM's queries' and keys', -/
def tilesQk : (n : Nat) → n ≤ 8 → List (View.Piece (Elt F) S1x2048x512 .bf16)
  | 0, _ => []
  | n + 1, h =>
    ⟨tH n 1 h (by omega), mlK (uAct i x0 x1 x2 x3 x4 x5 x6 x10 n h)⟩ ::
    ⟨tH n 0 h (by omega), mlQ (uAct i x0 x1 x2 x3 x4 x5 x6 x10 n h)⟩ :: tilesQk n (by omega)

/-- its values', -/
def tilesM : (n : Nat) → n ≤ 8 → List (View.Piece (Elt F) S1x16x512x128 .bf16)
  | 0, _ => []
  | n + 1, h =>
    ⟨tM 512 (2 * n + 1) (by omega), mlV1 (uT i x0 x1 x2 x3 x4 x5 x7 n h)⟩ ::
    ⟨tM 512 (2 * n) (by omega), mlV0 (uT i x0 x1 x2 x3 x4 x5 x7 n h)⟩ :: tilesM n (by omega)

/-- the output gate's, -/
def tilesO : (n : Nat) → n ≤ 8 → List (View.Piece (Elt F) S1x2048x512 .bf16)
  | 0, _ => []
  | n + 1, h => ⟨tO n h, outGate (uO i x0 x1 x2 x3 x4 x5 x6 n h) x14⟩ :: tilesO n (by omega)

/-- the gates' by token, -/
def tilesG : (n : Nat) → n ≤ 8 → List (View.Piece (Elt F) S1x2048x128 .f32)
  | 0, _ => []
  | n + 1, h => ⟨tK n h, gates (uKg i x0 x1 x2 x3 x4 x5 x6 n h) x8⟩ :: tilesG n (by omega)

/-- and the gates' by block. -/
def tilesB : (n : Nat) → n ≤ 8 → List (View.Piece (Elt F) S1x16x16x128 .f32)
  | 0, _ => []
  | n + 1, h =>
    ⟨tM 16 (2 * n + 1) (by omega), gates1 (gatesT (uT i x0 x1 x2 x3 x4 x5 x7 n h) x9)⟩ ::
    ⟨tM 16 (2 * n) (by omega), gates0 (gatesT (uT i x0 x1 x2 x3 x4 x5 x7 n h) x9)⟩ ::
    tilesB n (by omega)

end Body

end Cert.Inp

end
-- ==== Proof.Inp.Out.lean ====
/- What the body leaves in each result's buffer, as the groups' tiles. -/
module

public import proofs.«01_k».proof.Proof.Inp.Core
public import proofs.«01_k».proof.Proof.Inp.Frame
public import Idealize.ShloMosaic.Lib.Pipeline.ValueKit

@[expose] public section

set_option maxRecDepth 16384

noncomputable section

namespace Cert.Inp

open Cert.Kernel3Ideal Cert.Kernel3Ideal.Gen Idealize.ShloMosaic Idealize.ShloMosaic.TcCoe Idealize.SL.Sem

variable {F : FTy → Type} [FloatOps F] (m : (ℓ : Loc nD τ sig) → Buf (Elt F) ℓ) (c : Dev nD)

set_option maxHeartbeats 4000000 in
theorem out_q (t : Fin cfg0.N) : (dats m 0 c).after 15 t
    = View.canon (tilesQ (grid0.coords t) (iblk m c 0 t) (iblk m c 1 t) (iblk m c 2 t) (iblk m c 3 t) (iblk m c 4 t) (iblk m c 5 t)
        (iblk m c 6 t) (iblk m c 11 t) (iblk m c 12 t) (iblk m c 13 t) 8 (Nat.le_refl 8)) := by
  rw [after0_15]
  unfold outsAt0
  frame_out
  rfl

set_option maxHeartbeats 4000000 in
theorem out_k (t : Fin cfg0.N) : (dats m 0 c).after 16 t
    = View.canon (tilesK (grid0.coords t) (iblk m c 0 t) (iblk m c 1 t) (iblk m c 2 t) (iblk m c 3 t) (iblk m c 4 t) (iblk m c 5 t)
        (iblk m c 6 t) (iblk m c 11 t) (iblk m c 12 t) (iblk m c 13 t) 8 (Nat.le_refl 8)) := by
  rw [after0_16]
  unfold outsAt0
  frame_out
  rfl

set_option maxHeartbeats 4000000 in
theorem out_v (t : Fin cfg0.N) : (dats m 0 c).after 17 t
    = View.canon (tilesV (grid0.coords t) (iblk m c 0 t) (iblk m c 1 t) (iblk m c 2 t) (iblk m c 3 t) (iblk m c 4 t) (iblk m c 5 t)
        (iblk m c 7 t) 8 (Nat.le_refl 8)) := by
  rw [after0_17]
  unfold outsAt0
  frame_out
  rfl

set_option maxHeartbeats 4000000 in
theorem out_qk (t : Fin cfg0.N) : (dats m 0 c).after 18 t
    = View.canon (tilesQk (grid0.coords t) (iblk m c 0 t) (iblk m c 1 t) (iblk m c 2 t) (iblk m c 3 t) (iblk m c 4 t) (iblk m c 5 t)
        (iblk m c 6 t) (iblk m c 10 t) 8 (Nat.le_refl 8)) := by
  rw [after0_18]
  unfold outsAt0
  frame_out
  rfl

set_option maxHeartbeats 4000000 in
theorem out_m (t : Fin cfg0.N) : (dats m 0 c).after 19 t
    = View.canon (tilesM (grid0.coords t) (iblk m c 0 t) (iblk m c 1 t) (iblk m c 2 t) (iblk m c 3 t) (iblk m c 4 t) (iblk m c 5 t)
        (iblk m c 7 t) 8 (Nat.le_refl 8)) := by
  rw [after0_19]
  unfold outsAt0
  frame_out
  rfl

set_option maxHeartbeats 4000000 in
theorem out_o (t : Fin cfg0.N) : (dats m 0 c).after 20 t
    = View.canon (tilesO (grid0.coords t) (iblk m c 0 t) (iblk m c 1 t) (iblk m c 2 t) (iblk m c 3 t) (iblk m c 4 t) (iblk m c 5 t)
        (iblk m c 6 t) (iblk m c 14 t) 8 (Nat.le_refl 8)) := by
  rw [after0_20]
  unfold outsAt0
  frame_out
  rfl

set_option maxHeartbeats 4000000 in
theorem out_g (t : Fin cfg0.N) : (dats m 0 c).after 21 t
    = View.canon (tilesG (grid0.coords t) (iblk m c 0 t) (iblk m c 1 t) (iblk m c 2 t) (iblk m c 3 t) (iblk m c 4 t) (iblk m c 5 t)
        (iblk m c 6 t) (iblk m c 8 t) 8 (Nat.le_refl 8)) := by
  rw [after0_21]
  unfold outsAt0
  frame_out
  rfl

set_option maxHeartbeats 4000000 in
theorem out_b (t : Fin cfg0.N) : (dats m 0 c).after 22 t
    = View.canon (tilesB (grid0.coords t) (iblk m c 0 t) (iblk m c 1 t) (iblk m c 2 t) (iblk m c 3 t) (iblk m c 4 t) (iblk m c 5 t)
        (iblk m c 7 t) (iblk m c 9 t) 8 (Nat.le_refl 8)) := by
  rw [after0_22]
  unfold outsAt0
  frame_out
  rfl

end Cert.Inp

end
-- ==== Proof.Inp.Tile.lean ====
/- What one group's values hold, entry by entry. -/
module

public import proofs.«01_k».proof.Proof.Inp.Core
public import Idealize.ShloMosaic.Lib.Pipeline.ValueKit
public import Idealize.ShloMosaic.PureOps.Ideal.Laws
public import Mathlib.Data.EReal.Operations
public import Mathlib.Data.EReal.Inv

@[expose] public section

set_option maxRecDepth 16384

noncomputable section

namespace Cert.Inp

open Cert.Kernel3Ideal Cert.Kernel3Ideal.Gen Idealize.ShloMosaic Idealize.ShloMosaic.TcCoe Idealize.SL.Sem
  Idealize.ShloMosaic.Pointwise

/-- A row over its root mean square, times the gain, modulated. -/
def normRow (v g sc sh : Fin 1024 → EReal) (j : Fin 1024) : EReal :=
  v j * Ideal.rsqrt (Ideal.div (∑ k, v k * v k) (Ideal.ofBits FTy.f32 0x44800000#32) + Ideal.ofBits FTy.f32 0x358637BD#32) * g j
    * (1 + sc j) + sh j

theorem modded_apply (g sc sh : Vec Ideal S1x1024 .f32) (x : FVec Ideal S272x1024 .f32) (p : Fin 272) (j : Fin 1024) :
    modded (gain g sc) sh x (ix2 p j)
      = normRow (fun k => x (ix2 p k)) (fun k => g (ix2 0 k)) (fun k => sc (ix2 0 k)) (fun k => sh (ix2 0 k)) j := by
  pointwise [modded, gain, invRms]
  rw [← mul_assoc]
  rfl

theorem stacked_own (x : Vec Ideal S1x256x1024 .f32) (b a : Vec Ideal S1x8x1024 .f32) (p : Fin 256) (j : Fin 1024) :
    stacked x b a (ix2 ⟨p.val, by omega⟩ j) = x (ix3 0 p j) := by
  pointwise [stacked]

theorem stacked_before (x : Vec Ideal S1x256x1024 .f32) (b a : Vec Ideal S1x8x1024 .f32) (j : Fin 1024) :
    stacked x b a (ix2 263 j) = b (ix3 0 7 j) := by
  pointwise [stacked]

theorem stacked_after (x : Vec Ideal S1x256x1024 .f32) (b a : Vec Ideal S1x8x1024 .f32) (j : Fin 1024) :
    stacked x b a (ix2 264 j) = a (ix3 0 0 j) := by
  pointwise [stacked]

theorem own_apply (h : FVec Ideal S272x1024 .bf16) (p : Fin 256) (j : Fin 1024) :
    own h (ix2 p j) = h (ix2 ⟨p.val, by omega⟩ j) := by
  pointwise [own]

theorem proj512_apply (h : FVec Ideal S256x1024 .bf16) (w : Vec Ideal S1024x512 .bf16) (p : Fin 256) (n : Fin 512) :
    proj512 h w (ix2 p n) = ∑ k, h (ix2 p k) * w (ix2 k n) := by
  pointwise [proj512]

theorem proj256_apply (h : FVec Ideal S256x1024 .bf16) (w : Vec Ideal S1024x256 .bf16) (p : Fin 256) (n : Fin 256) :
    proj256 h w (ix2 p n) = ∑ k, h (ix2 p k) * w (ix2 k n) := by
  pointwise [proj256]

theorem projAll_apply (h : FVec Ideal S272x1024 .bf16) (w : Vec Ideal S1024x512 .bf16) (p : Fin 272) (n : Fin 512) :
    projAll h w (ix2 p n) = ∑ k, h (ix2 p k) * w (ix2 k n) := by
  pointwise [projAll]

theorem projT_apply (w : Vec Ideal S656x1024 .bf16) (h : FVec Ideal S256x1024 .bf16) (n : Fin 656) (p : Fin 256) :
    projT w h (ix2 n p) = ∑ k, h (ix2 p k) * w (ix2 n k) := by
  pointwise [projT]
  exact Finset.sum_congr rfl fun k _ => mul_comm _ _

theorem roped_apply (v : FVec Ideal S256x128 .f32) (cs lo hi : Vec Ideal S256x128 .f32) (p : Fin 256) (l : Fin 128) :
    roped v cs lo hi (ix3 0 p l) = v (ix2 p l) * cs (ix2 p l) + v (ix2 p ⟨(l.val + 128 - 112) % 128, by omega⟩) * lo (ix2 p l)
      + v (ix2 p ⟨(l.val + 128 - 16) % 128, by omega⟩) * hi (ix2 p l) := by
  pointwise [roped]

theorem q0_apply (v : FVec Ideal S256x512 .f32) (p : Fin 256) (l : Fin 128) : q0 v (ix2 p l) = v (ix2 p ⟨128 * 0 + l.val, by omega⟩) := by
  pointwise [q0]
theorem q1_apply (v : FVec Ideal S256x512 .f32) (p : Fin 256) (l : Fin 128) : q1 v (ix2 p l) = v (ix2 p ⟨128 * 1 + l.val, by omega⟩) := by
  pointwise [q1]
theorem q2_apply (v : FVec Ideal S256x512 .f32) (p : Fin 256) (l : Fin 128) : q2 v (ix2 p l) = v (ix2 p ⟨128 * 2 + l.val, by omega⟩) := by
  pointwise [q2]
theorem q3_apply (v : FVec Ideal S256x512 .f32) (p : Fin 256) (l : Fin 128) : q3 v (ix2 p l) = v (ix2 p ⟨128 * 3 + l.val, by omega⟩) := by
  pointwise [q3]

theorem keys_apply (v : FVec Ideal S256x256 .f32) (p : Fin 256) (l : Fin 128) : keys v (ix2 p l) = v (ix2 p ⟨l.val, by omega⟩) := by
  pointwise [keys]

theorem gates_apply (v : FVec Ideal S256x256 .f32) (bg : Vec Ideal S1x128 .f32) (p : Fin 256) (l : Fin 128) :
    gates v bg (ix3 0 p l) = v (ix2 p ⟨128 + l.val, by omega⟩) + bg (ix2 0 l) := by
  pointwise [gates]

theorem vals_apply (v : FVec Ideal S656x256 .f32) (n : Fin 128) (p : Fin 256) :
    vals v (ix3 0 n p) = v (ix2 ⟨n.val, by omega⟩ p) := by
  pointwise [vals]

theorem mlV0_apply (v : FVec Ideal S656x256 .f32) (n : Fin 512) (p : Fin 128) :
    mlV0 v (ix4 0 0 n p) = v (ix2 ⟨128 + n.val, by omega⟩ ⟨128 * 0 + p.val, by omega⟩) := by
  pointwise [mlV0]
theorem mlV1_apply (v : FVec Ideal S656x256 .f32) (n : Fin 512) (p : Fin 128) :
    mlV1 v (ix4 0 0 n p) = v (ix2 ⟨128 + n.val, by omega⟩ ⟨128 * 1 + p.val, by omega⟩) := by
  pointwise [mlV1]

theorem gates0_apply (v : FVec Ideal S656x256 .f32) (b : Vec Ideal S16x1 .f32) (n : Fin 16) (p : Fin 128) :
    gates0 (gatesT v b) (ix4 0 0 n p) = v (ix2 ⟨640 + n.val, by omega⟩ ⟨128 * 0 + p.val, by omega⟩) + b (ix2 n 0) := by
  pointwise [gates0, gatesT]
theorem gates1_apply (v : FVec Ideal S656x256 .f32) (b : Vec Ideal S16x1 .f32) (n : Fin 16) (p : Fin 128) :
    gates1 (gatesT v b) (ix4 0 0 n p) = v (ix2 ⟨640 + n.val, by omega⟩ ⟨128 * 1 + p.val, by omega⟩) + b (ix2 n 0) := by
  pointwise [gates1, gatesT]

theorem outGate_apply (v : FVec Ideal S256x512 .f32) (g : Vec Ideal S1x512 .f32) (p : Fin 256) (n : Fin 512) :
    outGate v g (ix3 0 p n) = Ideal.logistic (v (ix2 p n)) * g (ix2 0 n) := by
  pointwise [outGate]

theorem mlQ_apply (v : FVec Ideal S256x512 .f32) (p : Fin 256) (n : Fin 256) :
    mlQ (silu v) (ix3 0 p n) = v (ix2 p ⟨n.val, by omega⟩) * Ideal.logistic (v (ix2 p ⟨n.val, by omega⟩))
      * Ideal.ofBits FTy.f32 0x3E000000#32 := by
  pointwise [mlQ, silu]

theorem mlK_apply (v : FVec Ideal S256x512 .f32) (p : Fin 256) (n : Fin 256) :
    mlK (silu v) (ix3 0 p n) = v (ix2 p ⟨256 + n.val, by omega⟩) * Ideal.logistic (v (ix2 p ⟨256 + n.val, by omega⟩)) := by
  pointwise [mlK, silu]

/-- A row taken where the row number is `z`. -/
theorem at_pos {α : Type} (p : Fin 256) (z : Nat) (hz : z < 256) (x y : α) :
    Scalar.select (IntOp.cmpi .eq (BitVec.ofNat 32 p.val) (BitVec.ofNat 32 z)) x y = if p.val = z then x else y := by
  have hp := p.isLt
  rw [WordCmp.cmpi_eq_ofNat (by omega) (by omega), WordCmp.select_decide]

theorem conv_apply (w : Vec Ideal S3x512 .f32) (kp kn : EReal) (y : FVec Ideal S272x512 .f32) (p : Fin 256) (n : Fin 512) :
    conv (F := Ideal) w kp kn y (ix2 p n)
      = (if p.val = 0 then y (ix2 263 n) * kp else y (ix2 ⟨(p.val + 256 - 1) % 256, by omega⟩ n)) * w (ix2 0 n)
        + y (ix2 ⟨p.val, by omega⟩ n) * w (ix2 1 n)
        + (if p.val = 255 then y (ix2 264 n) * kn else y (ix2 ⟨(p.val + 256 - 255) % 256, by omega⟩ n)) * w (ix2 2 n) := by
  rw [← at_pos p 0 (by decide), ← at_pos p 255 (by decide)]
  pointwise [conv, prev, next, mid, patched, row]

end Cert.Inp

end
-- ==== Proof.Inp.Spec.lean ====
/- The input projection's eight results at an index, as functions of its arguments. -/
module

public import proofs.«01_k».proof.Proof.Inp.Tile

@[expose] public section

set_option maxRecDepth 16384

noncomputable section

namespace Cert.Inp

open Cert.Kernel3Ideal Cert.Kernel3Ideal.Gen Idealize.ShloMosaic Idealize.ShloMosaic.TcCoe Idealize.SL.Sem
  Idealize.ShloMosaic.Pointwise

/-- A rotary frequency. -/
def freq (d : Nat) : EReal :=
  Ideal.pow (Ideal.ofBits .f32 0x461C4000#32)
    (Ideal.div (-(FloatOps.sitofp (F := Ideal) .f32 (BitVec.ofNat 32 d) : EReal)) (Ideal.ofBits .f32 0x41800000#32))

/-- The angle of feature `l` of a head at token `s`: by row for the first 32 features, by column for the others. -/
def angle (s l : Nat) : EReal :=
  (FloatOps.sitofp (F := Ideal) .f32 (BitVec.ofNat 32 (if l < 32 then s / 64 else s % 64)) : EReal) * freq (l % 16)

theorem angle_row (s l d : Nat) (h : l < 32) (hd : d = l % 16) :
    (FloatOps.sitofp (F := Ideal) .f32 (BitVec.ofNat 32 (s / 64)) : EReal) * freq d = angle s l := by
  subst hd
  rw [angle, if_pos h]

theorem angle_col (s l d : Nat) (h : ¬ l < 32) (hd : d = l % 16) :
    (FloatOps.sitofp (F := Ideal) .f32 (BitVec.ofNat 32 (s % 64)) : EReal) * freq d = angle s l := by
  subst hd
  rw [angle, if_neg h]

/-- Two heads' features rotated by token `s`'s angles. -/
def turned (v : Fin 128 → EReal) (s : Nat) (l : Fin 128) : EReal :=
  if l.val % 32 < 16 then
    v l * Ideal.cos (angle s (l.val % 64)) - v ⟨(l.val + 16) % 128, by omega⟩ * Ideal.sin (angle s (l.val % 64))
  else v l * Ideal.cos (angle s (l.val % 64)) + v ⟨(l.val + 112) % 128, by omega⟩ * Ideal.sin (angle s (l.val % 64))

section
variable (a0 : FVec Ideal S8x2048x1024 .f32) (a1 : FVec Ideal S16x6144 .f32) (a2 : FVec Ideal S1x1024 .f32)
  (a3 : FVec Ideal S1x1024x2320 .f32) (a4 : FVec Ideal S1x3x512 .f32) (a5 : FVec Ideal S1x16 .f32) (a6 : FVec Ideal S1x512 .f32)
  (b : Fin 8)

/-- Token `s`'s normed and modulated row. -/
def hrow (s : Fin 2048) : Fin 1024 → EReal :=
  normRow (fun k => a0 (ix3 b s k)) (fun k => a2 (ix2 0 k)) (fun k => a1 (ix2 ⟨b.val, by omega⟩ ⟨1024 + k.val, by omega⟩))
    (fun k => a1 (ix2 ⟨b.val, by omega⟩ ⟨k.val, by omega⟩))

/-- Its product with column `n` of the weights. -/
def prod (s : Fin 2048) (n : Fin 2320) : EReal := ∑ k, hrow a0 a1 a2 b s k * a3 (ix3 0 k n)

/-- The queries, -/
def resQ (s : Fin 2048) (l : Fin 512) : EReal :=
  turned (fun j => prod a0 a1 a2 a3 b s ⟨256 * (j.val / 64) + 64 * (l.val / 128) + j.val % 64, by omega⟩) s.val
    ⟨l.val % 128, by omega⟩

/-- the keys, -/
def resK (s : Fin 2048) (l : Fin 128) : EReal := turned (fun j => prod a0 a1 a2 a3 b s ⟨512 + j.val, by omega⟩) s.val l

/-- the values, -/
def resV (n : Fin 128) (s : Fin 2048) : EReal := prod a0 a1 a2 a3 b s ⟨640 + n.val, by omega⟩

/-- the convolution over a token and its two neighbours, -/
def convAt (s : Fin 2048) (n : Fin 512) : EReal :=
  (if h : s.val = 0 then 0 else prod a0 a1 a2 a3 b ⟨s.val - 1, by omega⟩ ⟨768 + n.val, by omega⟩) * a4 (ix3 0 0 n)
    + prod a0 a1 a2 a3 b s ⟨768 + n.val, by omega⟩ * a4 (ix3 0 1 n)
    + (if h : s.val = 2047 then 0 else prod a0 a1 a2 a3 b ⟨s.val + 1, by omega⟩ ⟨768 + n.val, by omega⟩) * a4 (ix3 0 2 n)

/-- the mLSTM's queries and keys, -/
def resQk (s : Fin 2048) (n : Fin 512) : EReal :=
  if n.val < 256 then
    convAt a0 a1 a2 a3 a4 b s n * Ideal.logistic (convAt a0 a1 a2 a3 a4 b s n) * Ideal.ofBits .f32 0x3E000000#32
  else convAt a0 a1 a2 a3 a4 b s n * Ideal.logistic (convAt a0 a1 a2 a3 a4 b s n)

/-- its values, -/
def resM (k : Fin 16) (n : Fin 512) (p : Fin 128) : EReal :=
  prod a0 a1 a2 a3 b ⟨128 * k.val + p.val, by omega⟩ ⟨1280 + n.val, by omega⟩

/-- the output gate, -/
def resO (s : Fin 2048) (n : Fin 512) : EReal :=
  Ideal.logistic (prod a0 a1 a2 a3 b s ⟨1792 + n.val, by omega⟩) * a6 (ix2 0 n)

/-- the gates by token, -/
def resG (s : Fin 2048) (l : Fin 128) : EReal :=
  if h : l.val < 16 then prod a0 a1 a2 a3 b s ⟨2304 + l.val, by omega⟩ + a5 (ix2 0 ⟨l.val, h⟩) else 0

/-- and the gates by block. -/
def resB (k : Fin 16) (n : Fin 16) (p : Fin 128) : EReal :=
  prod a0 a1 a2 a3 b ⟨128 * k.val + p.val, by omega⟩ ⟨2304 + n.val, by omega⟩ + a5 (ix2 0 n)

end

end Cert.Inp

end
-- ==== Proof.Inp.Body.lean ====
/- What the groups of the input projection's body store, entry by entry, from the arguments. -/
module

public import proofs.«01_k».proof.Proof.Inp.Spec

@[expose] public section

set_option maxRecDepth 16384

noncomputable section

namespace Cert.Inp

open Cert.Kernel3Ideal Cert.Kernel3Ideal.Gen Idealize.ShloMosaic Idealize.ShloMosaic.TcCoe Idealize.SL.Sem
  Idealize.ShloMosaic.Pointwise

/-- The blocks of grid point `i` hold batch `b` of the arguments. -/
structure Fits (i : grid0.Coords) (x0 : Vec Ideal S1x2048x1024 .f32) (x3 x4 : Vec Ideal S8x1024 .f32)
    (x5 : Vec Ideal S1x1024 .f32) (x6 : Vec Ideal S1024x1792 .bf16) (x7 : Vec Ideal S656x1024 .bf16) (x8 : Vec Ideal S1x128 .f32)
    (x9 : Vec Ideal S16x1 .f32) (x10 : Vec Ideal S3x512 .f32) (x11 x12 x13 : Vec Ideal S2048x128 .f32) (x14 : Vec Ideal S1x512 .f32)
    (a0 : FVec Ideal S8x2048x1024 .f32) (a1 : FVec Ideal S16x6144 .f32) (a2 : FVec Ideal S1x1024 .f32)
    (a3 : FVec Ideal S1x1024x2320 .f32) (a4 : FVec Ideal S1x3x512 .f32) (a5 : FVec Ideal S1x16 .f32)
    (a6 : FVec Ideal S1x512 .f32) (b : Fin 8) : Prop where
  off : k0_off1 i = ![b.val, 0]
  x : ∀ p j, x0 (ix3 0 p j) = a0 (ix3 b p j)
  sh : ∀ (r : Fin 8) (j : Fin 1024), x3 (ix2 r j) = a1 (ix2 ⟨r.val, by omega⟩ ⟨j.val, by omega⟩)
  sc : ∀ (r : Fin 8) (j : Fin 1024), x4 (ix2 r j) = a1 (ix2 ⟨r.val, by omega⟩ ⟨1024 + j.val, by omega⟩)
  g : ∀ j, x5 (ix2 0 j) = a2 (ix2 0 j)
  wq : ∀ k (n : Fin 512), x6 (ix2 k ⟨n.val, by omega⟩)
    = a3 (ix3 0 k ⟨n.val / 64 % 2 * 256 + n.val / 128 * 64 + n.val % 64, by omega⟩)
  wk : ∀ k (n : Fin 128), x6 (ix2 k ⟨512 + n.val, by omega⟩) = a3 (ix3 0 k ⟨512 + n.val, by omega⟩)
  wg : ∀ k (n : Fin 16), x6 (ix2 k ⟨640 + n.val, by omega⟩) = a3 (ix3 0 k ⟨2304 + n.val, by omega⟩)
  wz : ∀ k (n : Fin 112), x6 (ix2 k ⟨640 + (16 + n.val), by omega⟩) = (0 : EReal)
  wqk : ∀ k (n : Fin 512), x6 (ix2 k ⟨768 + n.val, by omega⟩) = a3 (ix3 0 k ⟨768 + n.val, by omega⟩)
  wo : ∀ k (n : Fin 512), x6 (ix2 k ⟨1280 + n.val, by omega⟩) = a3 (ix3 0 k ⟨1792 + n.val, by omega⟩)
  tv : ∀ k (n : Fin 128), x7 (ix2 ⟨n.val, by omega⟩ k) = a3 (ix3 0 k ⟨640 + n.val, by omega⟩)
  tm : ∀ k (n : Fin 512), x7 (ix2 ⟨128 + n.val, by omega⟩ k) = a3 (ix3 0 k ⟨1280 + n.val, by omega⟩)
  tg : ∀ k (n : Fin 16), x7 (ix2 ⟨640 + n.val, by omega⟩ k) = a3 (ix3 0 k ⟨2304 + n.val, by omega⟩)
  br : ∀ n : Fin 16, x8 (ix2 0 ⟨n.val, by omega⟩) = a5 (ix2 0 n)
  bz : ∀ n : Fin 112, x8 (ix2 0 ⟨16 + n.val, by omega⟩) = (0 : EReal)
  bc : ∀ n : Fin 16, x9 (ix2 n 0) = a5 (ix2 0 n)
  wc : ∀ (r : Fin 3) (n : Fin 512), x10 (ix2 r n) = a4 (ix3 0 r n)
  cs : ∀ (s : Fin 2048) (l : Fin 128), x11 (ix2 s l) = Ideal.cos (angle s.val (l.val % 64))
  lo : ∀ (s : Fin 2048) (l : Fin 128), x12 (ix2 s l) = if l.val % 32 < 16 then -Ideal.sin (angle s.val (l.val % 64)) else 0
  hi : ∀ (s : Fin 2048) (l : Fin 128), x13 (ix2 s l) = if l.val % 32 < 16 then 0 else Ideal.sin (angle s.val (l.val % 64))
  gn : ∀ n, x14 (ix2 0 n) = a6 (ix2 0 n)

/- Loads of parts of the blocks. -/

theorem ld_own (x : Vec Ideal S1x2048x1024 .f32) (r : Nat) (h : r < 8) (p : Fin 256) (j : Fin 1024) :
    View.ld x (rX r h) (ix3 0 p j) = x (ix3 0 ⟨256 * r + p.val, by omega⟩ j) := by
  pointwise [rX]

theorem ld_rows (x : Vec Ideal S1x2048x1024 .f32) (o : Nat) (h : o + 8 ≤ 2048) (p : Fin 8) (j : Fin 1024) :
    View.ld x (rA o h) (ix3 0 p j) = x (ix3 0 ⟨o + p.val, by omega⟩ j) := by
  pointwise [rA]

theorem ld_above (x : Vec Ideal S1x2048x1024 .f32) (r : Nat) (h : r < 8) (p : Fin 8) (j : Fin 1024) :
    View.ld x (rB r h) (ix3 0 p j) = x (ix3 0 ⟨256 * r - 8 + p.val, by omega⟩ j) := by
  pointwise [rB]

theorem ld_table (x : Vec Ideal S2048x128 .f32) (r : Nat) (h : r < 8) (p : Fin 256) (l : Fin 128) :
    View.ld x (rR r h) (ix2 p l) = x (ix2 ⟨256 * r + p.val, by omega⟩ l) := by
  pointwise [rR]

theorem ld_cols (x : Vec Ideal S1024x1792 .bf16) (o n : Nat) (h : o + n ≤ 1792) (k : Fin 1024) (l : Fin n) :
    View.ld x (rW o n h) (ix2 k l) = x (ix2 k ⟨o + l.val, by omega⟩) := by
  pointwise [rW]

theorem ld_mod (x : Vec Ideal S8x1024 .f32) (i : grid0.Coords) (b : Fin 8) (hi : k0_off1 i = ![b.val, 0]) (j : Fin 1024) :
    View.ld x (rM i) (ix2 0 j) = x (ix2 b j) := by
  refine congrArg x ?_
  funext a
  fin_cases a
  · refine Fin.ext ?_
    show k0_off1 i 0 + 1 * 0 = b.val
    rw [hi]
    rfl
  · refine Fin.ext ?_
    show k0_off1 i 1 + 1 * j.val = j.val
    rw [hi]
    show 0 + 1 * j.val = j.val
    omega

/-- The one row of grid points is both the first and the last. -/
theorem edge_zero (i : grid0.Coords) : edge (F := Ideal) 0#32 i = (0 : EReal) := by
  have h : (i 0).val = 0 := by
    have := (i 0).isLt
    exact Nat.lt_one_iff.mp this
  unfold edge
  rw [h]
  exact Ideal.ofBits_zero_f32

section
variable {i : grid0.Coords} {x0 : Vec Ideal S1x2048x1024 .f32} (x1 x2 : Vec Ideal S1x8x1024 .f32) {x3 x4 : Vec Ideal S8x1024 .f32}
  {x5 : Vec Ideal S1x1024 .f32} {x6 : Vec Ideal S1024x1792 .bf16} {x7 : Vec Ideal S656x1024 .bf16} {x8 : Vec Ideal S1x128 .f32}
  {x9 : Vec Ideal S16x1 .f32} {x10 : Vec Ideal S3x512 .f32} {x11 x12 x13 : Vec Ideal S2048x128 .f32} {x14 : Vec Ideal S1x512 .f32}
  {a0 : FVec Ideal S8x2048x1024 .f32} {a1 : FVec Ideal S16x6144 .f32} {a2 : FVec Ideal S1x1024 .f32}
  {a3 : FVec Ideal S1x1024x2320 .f32} {a4 : FVec Ideal S1x3x512 .f32} {a5 : FVec Ideal S1x16 .f32} {a6 : FVec Ideal S1x512 .f32}
  {b : Fin 8} (f : Fits i x0 x3 x4 x5 x6 x7 x8 x9 x10 x11 x12 x13 x14 a0 a1 a2 a3 a4 a5 a6 b) (r : Nat) (h : r < 8)
include f

/-- A normed row, from the row that is normed. -/
theorem normed_of (q : Fin 272) (s : Fin 2048) (j : Fin 1024)
    (hs : ∀ k, stacked (View.ld x0 (rX r h)) (before x0 x1 r h) (after x0 x2 r h) (ix2 q k) = x0 (ix3 0 s k)) :
    normed i x0 x1 x2 x3 x4 x5 r h (ix2 q j) = hrow a0 a1 a2 b s j := by
  unfold normed
  rw [modded_apply]
  unfold hrow
  simp only [hs, f.x, f.g, ld_mod x4 i b f.off, ld_mod x3 i b f.off, f.sh, f.sc]

theorem normed_own (p : Fin 256) (j : Fin 1024) :
    normed i x0 x1 x2 x3 x4 x5 r h (ix2 ⟨p.val, by omega⟩ j) = hrow a0 a1 a2 b ⟨256 * r + p.val, by omega⟩ j :=
  normed_of x1 x2 f r h _ _ j fun k => (stacked_own _ _ _ p k).trans (ld_own x0 r h p k)

theorem normed_before (hr : 0 < r) (j : Fin 1024) :
    normed i x0 x1 x2 x3 x4 x5 r h (ix2 263 j) = hrow a0 a1 a2 b ⟨256 * r - 1, by omega⟩ j := by
  refine normed_of x1 x2 f r h _ _ j fun k => (stacked_before _ _ _ k).trans ?_
  obtain ⟨r, rfl⟩ := Nat.exists_eq_succ_of_ne_zero (Nat.pos_iff_ne_zero.mp hr)
  refine (ld_above x0 (r + 1) h 7 k).trans ?_
  exact congrArg (fun s => x0 (ix3 0 s k)) (Fin.ext (by simp only; omega))

theorem normed_after (hr : r < 7) (j : Fin 1024) :
    normed i x0 x1 x2 x3 x4 x5 r h (ix2 264 j) = hrow a0 a1 a2 b ⟨256 * (r + 1), by omega⟩ j := by
  refine normed_of x1 x2 f r h _ _ j fun k => (stacked_after _ _ _ k).trans ?_
  unfold after
  rw [dif_pos hr]
  exact ld_rows x0 (256 * (r + 1)) (by omega) 0 k

theorem uQ_apply (p : Fin 256) (n : Fin 512) : uQ i x0 x1 x2 x3 x4 x5 x6 r h (ix2 p n)
    = prod a0 a1 a2 a3 b ⟨256 * r + p.val, by omega⟩ ⟨n.val / 64 % 2 * 256 + n.val / 128 * 64 + n.val % 64, by omega⟩ := by
  unfold uQ
  rw [proj512_apply]
  refine Finset.sum_congr rfl fun k _ => congrArg₂ (· * ·) ?_ ?_
  · exact (own_apply _ p k).trans (normed_own x1 x2 f r h p k)
  · refine (ld_cols x6 0 512 (by omega) k n).trans ((congrArg (fun l => x6 (ix2 k l)) (Fin.ext ?_)).trans (f.wq k n))
    exact Nat.zero_add _

theorem uK_apply (p : Fin 256) (n : Fin 128) : uKg i x0 x1 x2 x3 x4 x5 x6 r h (ix2 p ⟨n.val, by omega⟩)
    = prod a0 a1 a2 a3 b ⟨256 * r + p.val, by omega⟩ ⟨512 + n.val, by omega⟩ := by
  unfold uKg
  rw [proj256_apply]
  refine Finset.sum_congr rfl fun k _ => congrArg₂ (· * ·) ?_ ?_
  · exact (own_apply _ p k).trans (normed_own x1 x2 f r h p k)
  · exact (ld_cols x6 512 256 (by omega) k ⟨n.val, by omega⟩).trans (f.wk k n)

theorem uG_apply (p : Fin 256) (n : Fin 16) : uKg i x0 x1 x2 x3 x4 x5 x6 r h (ix2 p ⟨128 + n.val, by omega⟩)
    = prod a0 a1 a2 a3 b ⟨256 * r + p.val, by omega⟩ ⟨2304 + n.val, by omega⟩ := by
  unfold uKg
  rw [proj256_apply]
  refine Finset.sum_congr rfl fun k _ => congrArg₂ (· * ·) ?_ ?_
  · exact (own_apply _ p k).trans (normed_own x1 x2 f r h p k)
  · refine (ld_cols x6 512 256 (by omega) k ⟨128 + n.val, by omega⟩).trans ((congrArg (fun l => x6 (ix2 k l)) (Fin.ext ?_)).trans (f.wg k n))
    show 512 + (128 + n.val) = 640 + n.val
    omega

theorem uZ_apply (p : Fin 256) (n : Fin 112) : uKg i x0 x1 x2 x3 x4 x5 x6 r h (ix2 p ⟨128 + (16 + n.val), by omega⟩) = (0 : EReal) := by
  unfold uKg
  rw [proj256_apply]
  refine Finset.sum_eq_zero fun k _ => ?_
  refine mul_eq_zero_of_right (M₀ := EReal) _ ?_
  refine (ld_cols x6 512 256 (by omega) k ⟨128 + (16 + n.val), by omega⟩).trans ((congrArg (fun l => x6 (ix2 k l)) (Fin.ext ?_)).trans (f.wz k n))
  show 512 + (128 + (16 + n.val)) = 640 + (16 + n.val)
  omega

theorem uO_apply (p : Fin 256) (n : Fin 512) : uO i x0 x1 x2 x3 x4 x5 x6 r h (ix2 p n)
    = prod a0 a1 a2 a3 b ⟨256 * r + p.val, by omega⟩ ⟨1792 + n.val, by omega⟩ := by
  unfold uO
  rw [proj512_apply]
  refine Finset.sum_congr rfl fun k _ => congrArg₂ (· * ·) ?_ ?_
  · exact (own_apply _ p k).trans (normed_own x1 x2 f r h p k)
  · exact (ld_cols x6 1280 512 (by omega) k n).trans (f.wo k n)

/-- The convolved product at a row, from that row normed. -/
theorem uQk_of (q : Fin 272) (s : Fin 2048) (n : Fin 512)
    (hq : ∀ k, normed i x0 x1 x2 x3 x4 x5 r h (ix2 q k) = hrow a0 a1 a2 b s k) :
    uQk i x0 x1 x2 x3 x4 x5 x6 r h (ix2 q n) = prod a0 a1 a2 a3 b s ⟨768 + n.val, by omega⟩ := by
  unfold uQk
  rw [projAll_apply]
  exact Finset.sum_congr rfl fun k _ => congrArg₂ (· * ·) (hq k) ((ld_cols x6 768 512 (by omega) k n).trans (f.wqk k n))

/-- The product with a row of the turned weights, from that row. -/
theorem uT_of (p : Fin 256) (q : Fin 656) (n : Fin 2320) (hq : ∀ k, x7 (ix2 q k) = a3 (ix3 0 k n)) :
    uT i x0 x1 x2 x3 x4 x5 x7 r h (ix2 q p) = prod a0 a1 a2 a3 b ⟨256 * r + p.val, by omega⟩ n := by
  unfold uT
  rw [projT_apply]
  exact Finset.sum_congr rfl fun k _ => congrArg₂ (· * ·) ((own_apply _ p k).trans (normed_own x1 x2 f r h p k)) (hq k)

/- The tiles. -/

theorem rope_value (v : FVec Ideal S256x128 .f32) (p : Fin 256) (l : Fin 128) :
    uRope x11 x12 x13 r h v (ix3 0 p l) = turned (fun j => v (ix2 p j)) (256 * r + p.val) l := by
  unfold uRope
  rw [roped_apply, ld_table, ld_table, ld_table, f.cs, f.lo, f.hi]
  unfold turned
  have e : (l.val + 128 - 112) % 128 = (l.val + 16) % 128 := by omega
  have e' : (l.val + 128 - 16) % 128 = (l.val + 112) % 128 := by omega
  simp only [e, e']
  split
  · rw [mul_zero, add_zero, mul_neg, sub_eq_add_neg]
  · rw [mul_zero, add_zero]

theorem conv_value (p : Fin 256) (n : Fin 512) :
    conv x10 (kPrev i r) (kNext i r) (uQk i x0 x1 x2 x3 x4 x5 x6 r h) (ix2 p n)
      = convAt a0 a1 a2 a3 a4 b ⟨256 * r + p.val, by omega⟩ n := by
  have hp := p.isLt
  rw [conv_apply, f.wc, f.wc, f.wc]
  unfold convAt
  congr 1
  · congr 1
    · refine congrArg (· * _) ?_
      by_cases h0 : p.val = 0
      · rw [if_pos h0]
        by_cases hr : r = 0
        · rw [dif_pos (by simp only; omega)]
          unfold kPrev
          rw [if_pos hr, edge_zero, mul_zero]
        · rw [dif_neg (by simp only; omega)]
          unfold kPrev
          rw [if_neg hr]
          refine (congrArg₂ (· * ·) (uQk_of x1 x2 f r h _ ⟨256 * r - 1, by omega⟩ n
            (normed_before x1 x2 f r h (Nat.pos_of_ne_zero hr))) Ideal.ofBits_one_f32).trans ((mul_one _).trans ?_)
          exact congrArg (fun s => prod a0 a1 a2 a3 b s _) (Fin.ext (by simp only; omega))
      · rw [if_neg h0, dif_neg (by simp only; omega)]
        refine (congrArg (fun s : Fin 272 => uQk i x0 x1 x2 x3 x4 x5 x6 r h (ix2 s n)) (Fin.ext ?_)).trans
          ((uQk_of x1 x2 f r h ⟨p.val - 1, by omega⟩ _ n (normed_own x1 x2 f r h ⟨p.val - 1, by omega⟩)).trans ?_)
        · simp only
          omega
        · exact congrArg (fun s => prod a0 a1 a2 a3 b s _) (Fin.ext (by simp only; omega))
    · exact congrArg (· * _) (uQk_of x1 x2 f r h _ _ n (normed_own x1 x2 f r h p))
  · refine congrArg (· * _) ?_
    by_cases h0 : p.val = 255
    · rw [if_pos h0]
      by_cases hr : r = 7
      · rw [dif_pos (by simp only; omega)]
        unfold kNext
        rw [if_pos hr, edge_zero, mul_zero]
      · rw [dif_neg (by simp only; omega)]
        unfold kNext
        rw [if_neg hr]
        refine (congrArg₂ (· * ·) (uQk_of x1 x2 f r h _ ⟨256 * (r + 1), by omega⟩ n
          (normed_after x1 x2 f r h (by omega))) Ideal.ofBits_one_f32).trans ((mul_one _).trans ?_)
        exact congrArg (fun s => prod a0 a1 a2 a3 b s _) (Fin.ext (by simp only; omega))
    · rw [if_neg h0, dif_neg (by simp only; omega)]
      refine (congrArg (fun s : Fin 272 => uQk i x0 x1 x2 x3 x4 x5 x6 r h (ix2 s n)) (Fin.ext ?_)).trans
        ((uQk_of x1 x2 f r h ⟨p.val + 1, by omega⟩ _ n (normed_own x1 x2 f r h ⟨p.val + 1, by omega⟩)).trans ?_)
      · simp only
        omega
      · exact congrArg (fun s => prod a0 a1 a2 a3 b s _) (Fin.ext (by simp only; omega))

theorem mlQ_value (p n : Fin 256) : mlQ (uAct i x0 x1 x2 x3 x4 x5 x6 x10 r h) (ix3 0 p n)
    = resQk a0 a1 a2 a3 a4 b ⟨256 * r + p.val, by omega⟩ ⟨256 * 0 + n.val, by omega⟩ := by
  unfold uAct
  rw [mlQ_apply, conv_value x1 x2 f r h]
  unfold resQk
  rw [if_pos (by simp only; omega)]
  have e : (⟨n.val, by omega⟩ : Fin 512) = ⟨256 * 0 + n.val, by omega⟩ := Fin.ext (by simp only; omega)
  rw [e]

theorem mlK_value (p n : Fin 256) : mlK (uAct i x0 x1 x2 x3 x4 x5 x6 x10 r h) (ix3 0 p n)
    = resQk a0 a1 a2 a3 a4 b ⟨256 * r + p.val, by omega⟩ ⟨256 * 1 + n.val, by omega⟩ := by
  unfold uAct
  rw [mlK_apply, conv_value x1 x2 f r h]
  unfold resQk
  rw [if_neg (by simp only; omega)]

theorem vals_value (n : Fin 128) (p : Fin 256) : vals (uT i x0 x1 x2 x3 x4 x5 x7 r h) (ix3 0 n p)
    = resV a0 a1 a2 a3 b n ⟨256 * r + p.val, by omega⟩ :=
  (vals_apply _ n p).trans (uT_of x1 x2 f r h p _ _ fun k => f.tv k n)

theorem mlV0_value (n : Fin 512) (p : Fin 128) : mlV0 (uT i x0 x1 x2 x3 x4 x5 x7 r h) (ix4 0 0 n p)
    = resM a0 a1 a2 a3 b ⟨2 * r, by omega⟩ n p :=
  (mlV0_apply _ n p).trans <| (uT_of x1 x2 f r h _ _ _ fun k => f.tm k n).trans <|
    congrArg (fun s => prod a0 a1 a2 a3 b s _) (Fin.ext (by simp only; omega))

theorem mlV1_value (n : Fin 512) (p : Fin 128) : mlV1 (uT i x0 x1 x2 x3 x4 x5 x7 r h) (ix4 0 0 n p)
    = resM a0 a1 a2 a3 b ⟨2 * r + 1, by omega⟩ n p :=
  (mlV1_apply _ n p).trans <| (uT_of x1 x2 f r h _ _ _ fun k => f.tm k n).trans <|
    congrArg (fun s => prod a0 a1 a2 a3 b s _) (Fin.ext (by simp only; omega))

theorem gates0_value (n : Fin 16) (p : Fin 128) : gates0 (gatesT (uT i x0 x1 x2 x3 x4 x5 x7 r h) x9) (ix4 0 0 n p)
    = resB a0 a1 a2 a3 a5 b ⟨2 * r, by omega⟩ n p :=
  (gates0_apply _ _ n p).trans <| congrArg₂ (· + ·) ((uT_of x1 x2 f r h _ _ _ fun k => f.tg k n).trans
    (congrArg (fun s => prod a0 a1 a2 a3 b s _) (Fin.ext (by simp only; omega)))) (f.bc n)

theorem gates1_value (n : Fin 16) (p : Fin 128) : gates1 (gatesT (uT i x0 x1 x2 x3 x4 x5 x7 r h) x9) (ix4 0 0 n p)
    = resB a0 a1 a2 a3 a5 b ⟨2 * r + 1, by omega⟩ n p :=
  (gates1_apply _ _ n p).trans <| congrArg₂ (· + ·) ((uT_of x1 x2 f r h _ _ _ fun k => f.tg k n).trans
    (congrArg (fun s => prod a0 a1 a2 a3 b s _) (Fin.ext (by simp only; omega)))) (f.bc n)

theorem outGate_value (p : Fin 256) (n : Fin 512) : outGate (uO i x0 x1 x2 x3 x4 x5 x6 r h) x14 (ix3 0 p n)
    = resO a0 a1 a2 a3 a6 b ⟨256 * r + p.val, by omega⟩ n :=
  (outGate_apply _ _ p n).trans (congrArg₂ (· * ·) (congrArg Ideal.logistic (uO_apply x1 x2 f r h p n)) (f.gn n))

theorem keys_value (p : Fin 256) (l : Fin 128) : uRope x11 x12 x13 r h (keys (uKg i x0 x1 x2 x3 x4 x5 x6 r h)) (ix3 0 p l)
    = resK a0 a1 a2 a3 b ⟨256 * r + p.val, by omega⟩ l := by
  refine (rope_value f r h _ p l).trans (congrArg (fun v => turned v _ l) (funext fun j => ?_))
  exact (keys_apply _ p j).trans (uK_apply x1 x2 f r h p j)

theorem gates_value (p : Fin 256) (l : Fin 128) : gates (uKg i x0 x1 x2 x3 x4 x5 x6 r h) x8 (ix3 0 p l)
    = resG a0 a1 a2 a3 a5 b ⟨256 * r + p.val, by omega⟩ l := by
  refine (gates_apply _ _ p l).trans ?_
  unfold resG
  by_cases hl : l.val < 16
  · rw [dif_pos hl]
    exact congrArg₂ (· + ·) (uG_apply x1 x2 f r h p ⟨l.val, hl⟩) (f.br ⟨l.val, hl⟩)
  · rw [dif_neg hl]
    have e : l = ⟨16 + (⟨l.val - 16, by omega⟩ : Fin 112).val, by simp only; omega⟩ := Fin.ext (by simp only; omega)
    rw [e]
    refine (congrArg₂ (· + ·) (uZ_apply x1 x2 f r h p ⟨l.val - 16, by omega⟩) (f.bz ⟨l.val - 16, by omega⟩)).trans ?_
    exact add_zero 0

/-- The queries of group `g`, from their lanes. -/
theorem query_value (g : Fin 4) (q : FVec Ideal S256x512 .f32 → FVec Ideal S256x128 .f32)
    (hq : ∀ v p l, q v (ix2 p l) = v (ix2 p ⟨128 * g.val + l.val, by omega⟩)) (p : Fin 256) (l : Fin 128) :
    uRope x11 x12 x13 r h (q (uQ i x0 x1 x2 x3 x4 x5 x6 r h)) (ix3 0 p l)
      = resQ a0 a1 a2 a3 b ⟨256 * r + p.val, by omega⟩ ⟨128 * g.val + l.val, by omega⟩ := by
  refine (rope_value f r h _ p l).trans ?_
  unfold resQ
  refine congrArg₂ (fun v j => turned v (256 * r + p.val) j) (funext fun j => ?_) (Fin.ext (by simp only; omega))
  refine (hq _ p j).trans ((uQ_apply x1 x2 f r h p _).trans ?_)
  exact congrArg (prod a0 a1 a2 a3 b _) (Fin.ext (by simp only; omega))

end

end Cert.Inp

end
-- ==== Proof.Inp.Group.lean ====
/- The groups' tiles joined: each result's block of a grid point, entry by entry. -/
module

public import proofs.«01_k».proof.Proof.Inp.Body

@[expose] public section

set_option maxRecDepth 16384

noncomputable section

namespace Cert.Inp

open Cert.Kernel3Ideal Cert.Kernel3Ideal.Gen Idealize.ShloMosaic Idealize.ShloMosaic.TcCoe Idealize.SL.Sem
  Idealize.ShloMosaic.Pointwise

/-- A block that eight groups of tiles cover is what every tile holds of it. -/
theorem canon_groups {S : Shape} {e : EltTy} (G : S.Idx → Elt Ideal e)
    (L : (n : Nat) → n ≤ 8 → List (View.Piece (Elt Ideal) S e)) (h0 : L 0 (by decide) = [])
    (agree : ∀ (n : Nat) (h : n < 8), (∀ p ∈ L n (Nat.le_of_lt h), ∀ x, p.2 x = G (p.1.emb x)) →
      ∀ p ∈ L (n + 1) h, ∀ x, p.2 x = G (p.1.emb x))
    (keep : ∀ (n : Nat) (h : n < 8), ∀ p ∈ L n (Nat.le_of_lt h), p ∈ L (n + 1) h)
    (y : S.Idx) (cover : ∃ (n : Nat) (h : n < 8), ∃ p ∈ L (n + 1) h, y ∈ p.1.set) :
    View.canon (L 8 (Nat.le_refl 8)) y = G y := by
  have all : ∀ (n : Nat) (h : n ≤ 8), ∀ p ∈ L n h, ∀ x, p.2 x = G (p.1.emb x) := by
    intro n
    induction n with
    | zero =>
      intro h p hp
      rw [h0] at hp
      exact absurd hp List.not_mem_nil
    | succ n ih => exact fun h => agree n h (ih (Nat.le_of_lt h))
  have up : ∀ (k n : Nat) (h : n + k ≤ 8), ∀ p ∈ L n (by omega), p ∈ L (n + k) h := by
    intro k
    induction k with
    | zero => exact fun n h p hp => hp
    | succ k ih => exact fun n h p hp => keep (n + k) h p (ih n (Nat.le_of_lt h) p hp)
  obtain ⟨n, h, p, hp, hy⟩ := cover
  have h8 := up (7 - n) (n + 1) (by omega) p hp
  have e : n + 1 + (7 - n) = 8 := by omega
  simp only [e] at h8
  exact View.canon_apply_of_pieces G _ (all 8 (Nat.le_refl 8)) y ⟨p, h8, hy⟩

/- What a tile holds, by where it goes. -/

theorem at3 {n m : Nat} (x : (⟨3, ![1, n, m]⟩ : Shape).Idx) : ∃ (p : Fin n) (l : Fin m), x = ix3 0 p l :=
  ⟨x 1, x 2, by
    funext a
    fin_cases a
    · exact Subsingleton.elim (α := Fin 1) _ _
    · rfl
    · rfl⟩

theorem at4 {n m : Nat} (x : (⟨4, ![1, 1, n, m]⟩ : Shape).Idx) : ∃ (p : Fin n) (l : Fin m), x = ix4 0 0 p l :=
  ⟨x 2, x 3, by
    funext a
    fin_cases a
    · exact Subsingleton.elim (α := Fin 1) _ _
    · exact Subsingleton.elim (α := Fin 1) _ _
    · rfl
    · rfl⟩

theorem in_tQ (G : Fin 2048 → Fin 512 → EReal) (r g : Nat) (h : r < 8) (hg : g < 4) (P : FVec Ideal S1x256x128 .bf16)
    (hP : ∀ p l, P (ix3 0 p l) = G ⟨256 * r + p.val, by omega⟩ ⟨128 * g + l.val, by omega⟩) (x : (tQ r g h hg).shape.Idx) :
    P x = G ((tQ r g h hg).emb x 1) ((tQ r g h hg).emb x 2) := by
  obtain ⟨p, l, rfl⟩ := at3 x
  refine (hP p l).trans (congrArg₂ G (Fin.ext ?_) (Fin.ext ?_))
  · show 256 * r + p.val = 256 * r + 1 * p.val
    omega
  · show 128 * g + l.val = 128 * g + 1 * l.val
    omega

theorem in_tK {ft : FTy} (G : Fin 2048 → Fin 128 → EReal) (r : Nat) (h : r < 8) (P : FVec Ideal S1x256x128 ft)
    (hP : ∀ p l, P (ix3 0 p l) = G ⟨256 * r + p.val, by omega⟩ l) (x : (tK r h).shape.Idx) :
    P x = G ((tK r h).emb x 1) ((tK r h).emb x 2) := by
  obtain ⟨p, l, rfl⟩ := at3 x
  refine (hP p l).trans (congrArg₂ G (Fin.ext ?_) (Fin.ext ?_))
  · show 256 * r + p.val = 256 * r + 1 * p.val
    omega
  · show l.val = 0 + 1 * l.val
    omega

theorem in_tH (G : Fin 2048 → Fin 512 → EReal) (r g : Nat) (h : r < 8) (hg : g < 2) (P : FVec Ideal S1x256x256 .bf16)
    (hP : ∀ p l, P (ix3 0 p l) = G ⟨256 * r + p.val, by omega⟩ ⟨256 * g + l.val, by omega⟩) (x : (tH r g h hg).shape.Idx) :
    P x = G ((tH r g h hg).emb x 1) ((tH r g h hg).emb x 2) := by
  obtain ⟨p, l, rfl⟩ := at3 x
  refine (hP p l).trans (congrArg₂ G (Fin.ext ?_) (Fin.ext ?_))
  · show 256 * r + p.val = 256 * r + 1 * p.val
    omega
  · show 256 * g + l.val = 256 * g + 1 * l.val
    omega

theorem in_tO (G : Fin 2048 → Fin 512 → EReal) (r : Nat) (h : r < 8) (P : FVec Ideal S1x256x512 .bf16)
    (hP : ∀ p l, P (ix3 0 p l) = G ⟨256 * r + p.val, by omega⟩ l) (x : (tO r h).shape.Idx) :
    P x = G ((tO r h).emb x 1) ((tO r h).emb x 2) := by
  obtain ⟨p, l, rfl⟩ := at3 x
  refine (hP p l).trans (congrArg₂ G (Fin.ext ?_) (Fin.ext ?_))
  · show 256 * r + p.val = 256 * r + 1 * p.val
    omega
  · show l.val = 0 + 1 * l.val
    omega

theorem in_tV (G : Fin 128 → Fin 2048 → EReal) (r : Nat) (h : r < 8) (P : FVec Ideal S1x128x256 .bf16)
    (hP : ∀ n p, P (ix3 0 n p) = G n ⟨256 * r + p.val, by omega⟩) (x : (tV r h).shape.Idx) :
    P x = G ((tV r h).emb x 1) ((tV r h).emb x 2) := by
  obtain ⟨n, p, rfl⟩ := at3 x
  refine (hP n p).trans (congrArg₂ G (Fin.ext ?_) (Fin.ext ?_))
  · show n.val = 0 + 1 * n.val
    omega
  · show 256 * r + p.val = 256 * r + 1 * p.val
    omega

theorem in_tM {ft : FTy} {n : Nat} (G : Fin 16 → Fin n → Fin 128 → EReal) (k : Nat) (h : k < 16)
    (P : FVec Ideal ⟨4, ![1, 1, n, 128]⟩ ft)
    (hP : ∀ j p, P (ix4 0 0 j p) = G ⟨k, h⟩ j p) (x : (tM n k h).shape.Idx) :
    P x = G ((tM n k h).emb x 1) ((tM n k h).emb x 2) ((tM n k h).emb x 3) := by
  obtain ⟨j, p, rfl⟩ := at4 x
  have e1 : (⟨k, h⟩ : Fin 16) = (tM n k h).emb (ix4 0 0 j p) 1 := Fin.ext (by
    show k = k + 1 * 0
    omega)
  have e2 : j = (tM n k h).emb (ix4 0 0 j p) 2 := Fin.ext (by
    show j.val = 0 + 1 * j.val
    omega)
  have e3 : p = (tM n k h).emb (ix4 0 0 j p) 3 := Fin.ext (by
    show p.val = 0 + 1 * p.val
    omega)
  exact (hP j p).trans (by rw [← e1, ← e2, ← e3])

/- Which tile an entry is in. -/

theorem mem_tQ (s : Fin 2048) (l : Fin 512) (g : Nat) (hg : g < 4) (hl : l.val / 128 = g) :
    (ix3 0 s l : S1x2048x512.Idx) ∈ (tQ (s.val / 256) g (by omega) hg).set := by
  have hl' := l.isLt
  refine Rect.mem_set_unit.mpr fun a => ?_
  fin_cases a
  · exact ⟨Nat.le_refl 0, Nat.zero_lt_one⟩
  · show 256 * (s.val / 256) ≤ s.val ∧ s.val < 256 * (s.val / 256) + 256
    omega
  · show 128 * g ≤ l.val ∧ l.val < 128 * g + 128
    omega

theorem mem_tK (s : Fin 2048) (l : Fin 128) : (ix3 0 s l : S1x2048x128.Idx) ∈ (tK (s.val / 256) (by omega)).set := by
  have hl := l.isLt
  refine Rect.mem_set_unit.mpr fun a => ?_
  fin_cases a
  · exact ⟨Nat.le_refl 0, Nat.zero_lt_one⟩
  · show 256 * (s.val / 256) ≤ s.val ∧ s.val < 256 * (s.val / 256) + 256
    omega
  · show 0 ≤ l.val ∧ l.val < 0 + 128
    omega

theorem mem_tH (s : Fin 2048) (l : Fin 512) (g : Nat) (hg : g < 2) (hl : l.val / 256 = g) :
    (ix3 0 s l : S1x2048x512.Idx) ∈ (tH (s.val / 256) g (by omega) hg).set := by
  have hl' := l.isLt
  refine Rect.mem_set_unit.mpr fun a => ?_
  fin_cases a
  · exact ⟨Nat.le_refl 0, Nat.zero_lt_one⟩
  · show 256 * (s.val / 256) ≤ s.val ∧ s.val < 256 * (s.val / 256) + 256
    omega
  · show 256 * g ≤ l.val ∧ l.val < 256 * g + 256
    omega

theorem mem_tO (s : Fin 2048) (l : Fin 512) : (ix3 0 s l : S1x2048x512.Idx) ∈ (tO (s.val / 256) (by omega)).set := by
  have hl := l.isLt
  refine Rect.mem_set_unit.mpr fun a => ?_
  fin_cases a
  · exact ⟨Nat.le_refl 0, Nat.zero_lt_one⟩
  · show 256 * (s.val / 256) ≤ s.val ∧ s.val < 256 * (s.val / 256) + 256
    omega
  · show 0 ≤ l.val ∧ l.val < 0 + 512
    omega

theorem mem_tV (n : Fin 128) (s : Fin 2048) : (ix3 0 n s : S1x128x2048.Idx) ∈ (tV (s.val / 256) (by omega)).set := by
  have hn := n.isLt
  refine Rect.mem_set_unit.mpr fun a => ?_
  fin_cases a
  · exact ⟨Nat.le_refl 0, Nat.zero_lt_one⟩
  · show 0 ≤ n.val ∧ n.val < 0 + 128
    omega
  · show 256 * (s.val / 256) ≤ s.val ∧ s.val < 256 * (s.val / 256) + 256
    omega

theorem mem_tM {n : Nat} (k : Fin 16) (j : Fin n) (p : Fin 128) (k' : Nat) (h : k' < 16) (hk : k' = k.val) :
    (ix4 0 k j p : (⟨4, ![1, 16, n, 128]⟩ : Shape).Idx) ∈ (tM n k' h).set := by
  have hj := j.isLt
  have hp := p.isLt
  refine Rect.mem_set_unit.mpr fun a => ?_
  fin_cases a
  · exact ⟨Nat.le_refl 0, Nat.zero_lt_one⟩
  · show k' ≤ k.val ∧ k.val < k' + 1
    omega
  · show 0 ≤ j.val ∧ j.val < 0 + n
    omega
  · show 0 ≤ p.val ∧ p.val < 0 + 128
    omega

section
variable {i : grid0.Coords} {x0 : Vec Ideal S1x2048x1024 .f32} (x1 x2 : Vec Ideal S1x8x1024 .f32) {x3 x4 : Vec Ideal S8x1024 .f32}
  {x5 : Vec Ideal S1x1024 .f32} {x6 : Vec Ideal S1024x1792 .bf16} {x7 : Vec Ideal S656x1024 .bf16} {x8 : Vec Ideal S1x128 .f32}
  {x9 : Vec Ideal S16x1 .f32} {x10 : Vec Ideal S3x512 .f32} {x11 x12 x13 : Vec Ideal S2048x128 .f32} {x14 : Vec Ideal S1x512 .f32}
  {a0 : FVec Ideal S8x2048x1024 .f32} {a1 : FVec Ideal S16x6144 .f32} {a2 : FVec Ideal S1x1024 .f32}
  {a3 : FVec Ideal S1x1024x2320 .f32} {a4 : FVec Ideal S1x3x512 .f32} {a5 : FVec Ideal S1x16 .f32} {a6 : FVec Ideal S1x512 .f32}
  {b : Fin 8} (f : Fits i x0 x3 x4 x5 x6 x7 x8 x9 x10 x11 x12 x13 x14 a0 a1 a2 a3 a4 a5 a6 b)
include f

theorem block_q (s : Fin 2048) (l : Fin 512) :
    View.canon (tilesQ i x0 x1 x2 x3 x4 x5 x6 x11 x12 x13 8 (Nat.le_refl 8)) (ix3 0 s l) = resQ a0 a1 a2 a3 b s l := by
  have hs := s.isLt
  have hl := l.isLt
  refine canon_groups (fun y => resQ a0 a1 a2 a3 b (y 1) (y 2)) (tilesQ i x0 x1 x2 x3 x4 x5 x6 x11 x12 x13) rfl
    (fun n h ih => List.forall_mem_cons.mpr ⟨in_tQ _ n 3 h (by decide) _ (query_value x1 x2 f n h 3 q3 q3_apply),
      List.forall_mem_cons.mpr ⟨in_tQ _ n 2 h (by decide) _ (query_value x1 x2 f n h 2 q2 q2_apply),
        List.forall_mem_cons.mpr ⟨in_tQ _ n 1 h (by decide) _ (query_value x1 x2 f n h 1 q1 q1_apply),
          List.forall_mem_cons.mpr ⟨in_tQ _ n 0 h (by decide) _ (query_value x1 x2 f n h 0 q0 q0_apply), ih⟩⟩⟩⟩)
    (fun n h p hp => .tail _ (.tail _ (.tail _ (.tail _ hp)))) _ ⟨s.val / 256, by omega, ?_⟩
  by_cases h3 : l.val / 128 = 3
  · exact ⟨_, .head _, mem_tQ s l 3 (by decide) h3⟩
  by_cases h2 : l.val / 128 = 2
  · exact ⟨_, .tail _ (.head _), mem_tQ s l 2 (by decide) h2⟩
  by_cases h1 : l.val / 128 = 1
  · exact ⟨_, .tail _ (.tail _ (.head _)), mem_tQ s l 1 (by decide) h1⟩
  · exact ⟨_, .tail _ (.tail _ (.tail _ (.head _))), mem_tQ s l 0 (by decide) (by omega)⟩

theorem block_k (s : Fin 2048) (l : Fin 128) :
    View.canon (tilesK i x0 x1 x2 x3 x4 x5 x6 x11 x12 x13 8 (Nat.le_refl 8)) (ix3 0 s l) = resK a0 a1 a2 a3 b s l :=
  canon_groups (fun y => resK a0 a1 a2 a3 b (y 1) (y 2)) (tilesK i x0 x1 x2 x3 x4 x5 x6 x11 x12 x13) rfl
    (fun n h ih => List.forall_mem_cons.mpr ⟨in_tK _ n h _ (keys_value x1 x2 f n h), ih⟩)
    (fun n h p hp => .tail _ hp) _ ⟨s.val / 256, by omega, _, .head _, mem_tK s l⟩

theorem block_v (n : Fin 128) (s : Fin 2048) :
    View.canon (tilesV i x0 x1 x2 x3 x4 x5 x7 8 (Nat.le_refl 8)) (ix3 0 n s) = resV a0 a1 a2 a3 b n s :=
  canon_groups (fun y => resV a0 a1 a2 a3 b (y 1) (y 2)) (tilesV i x0 x1 x2 x3 x4 x5 x7) rfl
    (fun n h ih => List.forall_mem_cons.mpr ⟨in_tV _ n h _ (vals_value x1 x2 f n h), ih⟩)
    (fun n h p hp => .tail _ hp) _ ⟨s.val / 256, by omega, _, .head _, mem_tV n s⟩

theorem block_qk (s : Fin 2048) (l : Fin 512) :
    View.canon (tilesQk i x0 x1 x2 x3 x4 x5 x6 x10 8 (Nat.le_refl 8)) (ix3 0 s l) = resQk a0 a1 a2 a3 a4 b s l := by
  have hs := s.isLt
  have hl := l.isLt
  refine canon_groups (fun y => resQk a0 a1 a2 a3 a4 b (y 1) (y 2)) (tilesQk i x0 x1 x2 x3 x4 x5 x6 x10) rfl
    (fun n h ih => List.forall_mem_cons.mpr ⟨in_tH _ n 1 h (by decide) _ (mlK_value x1 x2 f n h),
      List.forall_mem_cons.mpr ⟨in_tH _ n 0 h (by decide) _ (mlQ_value x1 x2 f n h), ih⟩⟩)
    (fun n h p hp => .tail _ (.tail _ hp)) _ ⟨s.val / 256, by omega, ?_⟩
  by_cases h1 : l.val / 256 = 1
  · exact ⟨_, .head _, mem_tH s l 1 (by decide) h1⟩
  · exact ⟨_, .tail _ (.head _), mem_tH s l 0 (by decide) (by omega)⟩

theorem block_m (k : Fin 16) (n : Fin 512) (p : Fin 128) :
    View.canon (tilesM i x0 x1 x2 x3 x4 x5 x7 8 (Nat.le_refl 8)) (ix4 0 k n p) = resM a0 a1 a2 a3 b k n p := by
  have hk := k.isLt
  refine canon_groups (fun y => resM a0 a1 a2 a3 b (y 1) (y 2) (y 3)) (tilesM i x0 x1 x2 x3 x4 x5 x7) rfl
    (fun n h ih => List.forall_mem_cons.mpr ⟨in_tM _ (2 * n + 1) (by omega) _ (mlV1_value x1 x2 f n h),
      List.forall_mem_cons.mpr ⟨in_tM _ (2 * n) (by omega) _ (mlV0_value x1 x2 f n h), ih⟩⟩)
    (fun n h p hp => .tail _ (.tail _ hp)) _ ⟨k.val / 2, by omega, ?_⟩
  by_cases h1 : k.val % 2 = 1
  · exact ⟨_, .head _, mem_tM k n p _ (by omega) (by omega)⟩
  · exact ⟨_, .tail _ (.head _), mem_tM k n p _ (by omega) (by omega)⟩

theorem block_o (s : Fin 2048) (l : Fin 512) :
    View.canon (tilesO i x0 x1 x2 x3 x4 x5 x6 x14 8 (Nat.le_refl 8)) (ix3 0 s l) = resO a0 a1 a2 a3 a6 b s l :=
  canon_groups (fun y => resO a0 a1 a2 a3 a6 b (y 1) (y 2)) (tilesO i x0 x1 x2 x3 x4 x5 x6 x14) rfl
    (fun n h ih => List.forall_mem_cons.mpr ⟨in_tO _ n h _ (outGate_value x1 x2 f n h), ih⟩)
    (fun n h p hp => .tail _ hp) _ ⟨s.val / 256, by omega, _, .head _, mem_tO s l⟩

theorem block_g (s : Fin 2048) (l : Fin 128) :
    View.canon (tilesG i x0 x1 x2 x3 x4 x5 x6 x8 8 (Nat.le_refl 8)) (ix3 0 s l) = resG a0 a1 a2 a3 a5 b s l :=
  canon_groups (fun y => resG a0 a1 a2 a3 a5 b (y 1) (y 2)) (tilesG i x0 x1 x2 x3 x4 x5 x6 x8) rfl
    (fun n h ih => List.forall_mem_cons.mpr ⟨in_tK _ n h _ (gates_value x1 x2 f n h), ih⟩)
    (fun n h p hp => .tail _ hp) _ ⟨s.val / 256, by omega, _, .head _, mem_tK s l⟩

theorem block_b (k : Fin 16) (n : Fin 16) (p : Fin 128) :
    View.canon (tilesB i x0 x1 x2 x3 x4 x5 x7 x9 8 (Nat.le_refl 8)) (ix4 0 k n p) = resB a0 a1 a2 a3 a5 b k n p := by
  have hk := k.isLt
  refine canon_groups (fun y => resB a0 a1 a2 a3 a5 b (y 1) (y 2) (y 3)) (tilesB i x0 x1 x2 x3 x4 x5 x7 x9) rfl
    (fun n h ih => List.forall_mem_cons.mpr ⟨in_tM _ (2 * n + 1) (by omega) _ (gates1_value x1 x2 f n h),
      List.forall_mem_cons.mpr ⟨in_tM _ (2 * n) (by omega) _ (gates0_value x1 x2 f n h), ih⟩⟩)
    (fun n h p hp => .tail _ (.tail _ hp)) _ ⟨k.val / 2, by omega, ?_⟩
  by_cases h1 : k.val % 2 = 1
  · exact ⟨_, .head _, mem_tM k n p _ (by omega) (by omega)⟩
  · exact ⟨_, .tail _ (.head _), mem_tM k n p _ (by omega) (by omega)⟩

end

end Cert.Inp

end
-- ==== Proof.Inp.Seg.lean ====
/- What the operations before the input projection's launch compute: the permuted weights and the rotary tables. -/
module

public import proofs.«01_k».proof.Proof.Inp.Spec
public import Idealize.ShloMosaic.Lib.Claim

@[expose] public section

set_option maxRecDepth 16384

noncomputable section

namespace Cert.Inp

open Cert.Kernel3Ideal Cert.Kernel3Ideal.Gen Idealize.ShloMosaic Idealize.ShloMosaic.TcCoe Idealize.SL.Sem
  Idealize.ShloMosaic.Pointwise

variable (W : Valuation τ sig (Elt Ideal))

section Keep
variable (r : Ref sig .tc)

/-- A buffer that the operations do not write keeps its contents. -/
theorem keep0 (h : r ∉ ([main_v0, main_v1, main_v2, main_v3, main_v4, main_v5, main_c] : List (Ref sig .tc))) :
    StableHlo.after hostOps0 W (Proc.devRef .tc r) = W (Proc.devRef .tc r) :=
  StableHlo.after_of_writes_sub (W := [main_v0, main_v1, main_v2, main_v3, main_v4, main_v5, main_c]) _ _ (StableHlo.forall_writes_sub_of_map rfl) h

theorem keep1 (h : r ∉ ([main_call0_v0, main_v6] : List (Ref sig .tc))) :
    StableHlo.after hostOps0_1 W (Proc.devRef .tc r) = W (Proc.devRef .tc r) :=
  StableHlo.after_of_writes_sub (W := [main_call0_v0, main_v6]) _ _ (StableHlo.forall_writes_sub_of_map rfl) h

theorem keep2 (h : r ∉ ([main_v7, main_v8, main_v9, main_v10, main_v11, main_v12, main_v13, main_v14, main_v15, main_v16, main_v17, main_c_0] : List (Ref sig .tc))) :
    StableHlo.after hostOps0_2 W (Proc.devRef .tc r) = W (Proc.devRef .tc r) :=
  StableHlo.after_of_writes_sub (W := [main_v7, main_v8, main_v9, main_v10, main_v11, main_v12, main_v13, main_v14, main_v15, main_v16, main_v17, main_c_0]) _ _ (StableHlo.forall_writes_sub_of_map rfl) h

theorem keep3 (h : r ∉ ([main_call1_v0, main_v18] : List (Ref sig .tc))) :
    StableHlo.after hostOps0_3 W (Proc.devRef .tc r) = W (Proc.devRef .tc r) :=
  StableHlo.after_of_writes_sub (W := [main_call1_v0, main_v18]) _ _ (StableHlo.forall_writes_sub_of_map rfl) h

theorem keep4 (h : r ∉ ([main_v19, main_v20, main_v21, main_c_1] : List (Ref sig .tc))) :
    StableHlo.after hostOps0_4 W (Proc.devRef .tc r) = W (Proc.devRef .tc r) :=
  StableHlo.after_of_writes_sub (W := [main_v19, main_v20, main_v21, main_c_1]) _ _ (StableHlo.forall_writes_sub_of_map rfl) h

theorem keep5 (h : r ∉ ([main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v22] : List (Ref sig .tc))) :
    StableHlo.after hostOps0_5 W (Proc.devRef .tc r) = W (Proc.devRef .tc r) :=
  StableHlo.after_of_writes_sub (W := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v22]) _ _ (StableHlo.forall_writes_sub_of_map rfl) h

theorem keep6 (h : r ∉ ([main_v23, main_c_2] : List (Ref sig .tc))) :
    StableHlo.after hostOps0_6 W (Proc.devRef .tc r) = W (Proc.devRef .tc r) :=
  StableHlo.after_of_writes_sub (W := [main_v23, main_c_2]) _ _ (StableHlo.forall_writes_sub_of_map rfl) h

theorem keep7 (h : r ∉ ([main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v24] : List (Ref sig .tc))) :
    StableHlo.after hostOps0_7 W (Proc.devRef .tc r) = W (Proc.devRef .tc r) :=
  StableHlo.after_of_writes_sub (W := [main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v24]) _ _ (StableHlo.forall_writes_sub_of_map rfl) h

theorem keep8 (h : r ∉ ([main_v25, main_v26, main_v27, main_cst, main_v28, main_v29, main_cst_3, main_v30, main_v31, main_v32, main_v33, main_v34, main_v35, main_v36, main_v37, main_v38, main_v39, main_v40, main_v41, main_cst_4, main_v42, main_v43, main_v44, main_v45, main_v46, main_v47, main_v48, main_v49, main_v50, main_v51, main_v52, main_v53, main_v54, main_v55, main_v56, main_v57, main_v58, main_v59, main_v60, main_v61, main_v62] : List (Ref sig .tc))) :
    StableHlo.after hostOps0_8 W (Proc.devRef .tc r) = W (Proc.devRef .tc r) :=
  StableHlo.after_of_writes_sub (W := [main_v25, main_v26, main_v27, main_cst, main_v28, main_v29, main_cst_3, main_v30, main_v31, main_v32, main_v33, main_v34, main_v35, main_v36, main_v37, main_v38, main_v39, main_v40, main_v41, main_cst_4, main_v42, main_v43, main_v44, main_v45, main_v46, main_v47, main_v48, main_v49, main_v50, main_v51, main_v52, main_v53, main_v54, main_v55, main_v56, main_v57, main_v58, main_v59, main_v60, main_v61, main_v62]) _ _ (StableHlo.forall_writes_sub_of_map rfl) h

end Keep

/- The weights' columns. -/

theorem s0_v0 (k : Fin 1024) (n : Fin 2320) : StableHlo.after hostOps0 W (Proc.devRef .tc main_v0) (ix2 k n)
    = W (Proc.devRef .tc main_arg3) (ix3 0 k n) := by
  entry_read
  pointwise

theorem s0_v4 (k : Fin 1024) (n : Fin 512) : StableHlo.after hostOps0 W (Proc.devRef .tc main_v4) (ix2 k n)
    = W (Proc.devRef .tc main_arg3) (ix3 0 k ⟨n.val / 64 % 2 * 256 + n.val / 128 * 64 + n.val % 64, by omega⟩) := by
  entry_read
  pointwise

theorem s0_v5 (k : Fin 1024) (n : Fin 16) : StableHlo.after hostOps0 W (Proc.devRef .tc main_v5) (ix2 k n)
    = W (Proc.devRef .tc main_arg3) (ix3 0 k ⟨2304 + n.val, by omega⟩) := by
  entry_read
  pointwise

theorem s0_c : StableHlo.after hostOps0 W (Proc.devRef .tc main_c) = constantI S_ 32 0#32 := by
  entry_read
  rfl

/-- Columns of zeros after the gates' columns. -/
def padCols (x : FVec Ideal S1024x16 .f32) (c : IVec S_ 32) : FVec Ideal S1024x128 .f32 :=
  pad S1024x128 ![0, 0] ![0, 112] ![0, 0] x (sitofp .f32 c) pads_S1024x16_S1024x128_000_01120 h_S_

theorem s1_v6 : StableHlo.after hostOps0_1 W (Proc.devRef .tc main_v6)
    = padCols (W (Proc.devRef .tc main_v5)) (W (Proc.devRef .tc main_c)) := by
  entry_read
  simp only [StableHlo.TRef.ofBuf_toBuf]
  rfl

/-- The word zero as a number. -/
theorem zero_word : (FloatOps.sitofp (F := Ideal) .f32 (0#32) : EReal) = 0 := by
  show (((0#32 : BitVec 32).toInt : ℝ) : EReal) = 0
  norm_num

theorem padCols_apply (x : FVec Ideal S1024x16 .f32) (c : IVec S_ 32) (k : Fin 1024) (n : Fin 16) :
    padCols x c (ix2 k ⟨n.val, by omega⟩) = x (ix2 k n) := by
  pointwise [padCols]

theorem padCols_zero (x : FVec Ideal S1024x16 .f32) (k : Fin 1024) (n : Fin 112) :
    padCols x (constantI S_ 32 0#32) (ix2 k ⟨16 + n.val, by omega⟩) = 0 := by
  pointwise [padCols]
  exact zero_word

theorem s2_q (k : Fin 1024) (n : Fin 512) : StableHlo.after hostOps0_2 W (Proc.devRef .tc main_v11) (ix2 k ⟨n.val, by omega⟩)
    = W (Proc.devRef .tc main_v4) (ix2 k n) := by
  simp only [StableHlo.after_cons, StableHlo.after_nil]
  simp -zeta -beta -eta -iota -proj -zetaUnused -letToHave only [↓ StableHlo.readResult, -eq_self]
  rw [StableHlo.nary_result]
  dsimp only [Matrix.cons_val]
  simp -zeta -beta -eta -iota -proj -zetaUnused -letToHave only [↓ StableHlo.readResult, ↓ StableHlo.readPieces, -eq_self]
  pointwise

theorem s2_k (k : Fin 1024) (n : Fin 128) : StableHlo.after hostOps0_2 W (Proc.devRef .tc main_v11) (ix2 k ⟨512 + n.val, by omega⟩)
    = W (Proc.devRef .tc main_v0) (ix2 k ⟨512 + n.val, by omega⟩) := by
  simp only [StableHlo.after_cons, StableHlo.after_nil]
  simp -zeta -beta -eta -iota -proj -zetaUnused -letToHave only [↓ StableHlo.readResult, -eq_self]
  rw [StableHlo.nary_result]
  dsimp only [Matrix.cons_val]
  simp -zeta -beta -eta -iota -proj -zetaUnused -letToHave only [↓ StableHlo.readResult, ↓ StableHlo.readPieces, -eq_self]
  pointwise

theorem s2_g (k : Fin 1024) (n : Fin 128) : StableHlo.after hostOps0_2 W (Proc.devRef .tc main_v11) (ix2 k ⟨640 + n.val, by omega⟩)
    = W (Proc.devRef .tc main_v6) (ix2 k n) := by
  simp only [StableHlo.after_cons, StableHlo.after_nil]
  simp -zeta -beta -eta -iota -proj -zetaUnused -letToHave only [↓ StableHlo.readResult, -eq_self]
  rw [StableHlo.nary_result]
  dsimp only [Matrix.cons_val]
  simp -zeta -beta -eta -iota -proj -zetaUnused -letToHave only [↓ StableHlo.readResult, ↓ StableHlo.readPieces, -eq_self]
  pointwise
  rw [dif_neg (by omega), dif_neg (by omega), dif_pos (by omega)]
  exact congrArg (fun j => W (Proc.devRef .tc main_v6) (ix2 k j)) (Fin.ext (by simp only; omega))

theorem s2_qk (k : Fin 1024) (n : Fin 512) : StableHlo.after hostOps0_2 W (Proc.devRef .tc main_v11) (ix2 k ⟨768 + n.val, by omega⟩)
    = W (Proc.devRef .tc main_v0) (ix2 k ⟨768 + n.val, by omega⟩) := by
  simp only [StableHlo.after_cons, StableHlo.after_nil]
  simp -zeta -beta -eta -iota -proj -zetaUnused -letToHave only [↓ StableHlo.readResult, -eq_self]
  rw [StableHlo.nary_result]
  dsimp only [Matrix.cons_val]
  simp -zeta -beta -eta -iota -proj -zetaUnused -letToHave only [↓ StableHlo.readResult, ↓ StableHlo.readPieces, -eq_self]
  pointwise
  rw [dif_neg (by omega), dif_neg (by omega), dif_neg (by omega), dif_pos (by omega)]
  exact congrArg (fun j => W (Proc.devRef .tc main_v0) (ix2 k j)) (Fin.ext (by simp only; omega))

theorem s2_o (k : Fin 1024) (n : Fin 512) : StableHlo.after hostOps0_2 W (Proc.devRef .tc main_v11) (ix2 k ⟨1280 + n.val, by omega⟩)
    = W (Proc.devRef .tc main_v0) (ix2 k ⟨1792 + n.val, by omega⟩) := by
  simp only [StableHlo.after_cons, StableHlo.after_nil]
  simp -zeta -beta -eta -iota -proj -zetaUnused -letToHave only [↓ StableHlo.readResult, -eq_self]
  rw [StableHlo.nary_result]
  dsimp only [Matrix.cons_val]
  simp -zeta -beta -eta -iota -proj -zetaUnused -letToHave only [↓ StableHlo.readResult, ↓ StableHlo.readPieces, -eq_self]
  pointwise
  rw [dif_neg (by omega), dif_neg (by omega), dif_neg (by omega), dif_neg (by omega)]
  exact congrArg (fun j => W (Proc.devRef .tc main_v0) (ix2 k j)) (Fin.ext (by simp only; omega))

theorem s2_tv (k : Fin 1024) (n : Fin 128) : StableHlo.after hostOps0_2 W (Proc.devRef .tc main_v17) (ix2 ⟨n.val, by omega⟩ k)
    = W (Proc.devRef .tc main_v0) (ix2 k ⟨640 + n.val, by omega⟩) := by
  simp only [StableHlo.after_cons, StableHlo.after_nil]
  simp -zeta -beta -eta -iota -proj -zetaUnused -letToHave only [↓ StableHlo.readResult, -eq_self]
  rw [StableHlo.nary_result]
  dsimp only [Matrix.cons_val]
  simp -zeta -beta -eta -iota -proj -zetaUnused -letToHave only [↓ StableHlo.readResult, ↓ StableHlo.readPieces, -eq_self]
  pointwise

theorem s2_tm (k : Fin 1024) (n : Fin 512) : StableHlo.after hostOps0_2 W (Proc.devRef .tc main_v17) (ix2 ⟨128 + n.val, by omega⟩ k)
    = W (Proc.devRef .tc main_v0) (ix2 k ⟨1280 + n.val, by omega⟩) := by
  simp only [StableHlo.after_cons, StableHlo.after_nil]
  simp -zeta -beta -eta -iota -proj -zetaUnused -letToHave only [↓ StableHlo.readResult, -eq_self]
  rw [StableHlo.nary_result]
  dsimp only [Matrix.cons_val]
  simp -zeta -beta -eta -iota -proj -zetaUnused -letToHave only [↓ StableHlo.readResult, ↓ StableHlo.readPieces, -eq_self]
  pointwise

theorem s2_tg (k : Fin 1024) (n : Fin 16) : StableHlo.after hostOps0_2 W (Proc.devRef .tc main_v17) (ix2 ⟨640 + n.val, by omega⟩ k)
    = W (Proc.devRef .tc main_v0) (ix2 k ⟨2304 + n.val, by omega⟩) := by
  simp only [StableHlo.after_cons, StableHlo.after_nil]
  simp -zeta -beta -eta -iota -proj -zetaUnused -letToHave only [↓ StableHlo.readResult, -eq_self]
  rw [StableHlo.nary_result]
  dsimp only [Matrix.cons_val]
  simp -zeta -beta -eta -iota -proj -zetaUnused -letToHave only [↓ StableHlo.readResult, ↓ StableHlo.readPieces, -eq_self]
  pointwise
  rw [dif_neg (by omega), dif_neg (by omega)]
  exact congrArg (fun j => W (Proc.devRef .tc main_v0) (ix2 k j)) (Fin.ext (by simp only; omega))

theorem s2_c : StableHlo.after hostOps0_2 W (Proc.devRef .tc main_c_0) = constantI S_ 32 0#32 := by
  entry_read
  rfl

/- The biases and the convolution's weights. -/

/-- Zeros after the gates' biases. -/
def padRow (x : FVec Ideal S1x16 .f32) (c : IVec S_ 32) : FVec Ideal S1x128 .f32 :=
  pad S1x128 ![0, 0] ![0, 112] ![0, 0] x (sitofp .f32 c) pads_S1x16_S1x128_000_01120 h_S_

theorem s3_v18 : StableHlo.after hostOps0_3 W (Proc.devRef .tc main_v18)
    = padRow (W (Proc.devRef .tc main_arg5)) (W (Proc.devRef .tc main_c_0)) := by
  entry_read
  simp only [StableHlo.TRef.ofBuf_toBuf]
  rfl

theorem padRow_apply (x : FVec Ideal S1x16 .f32) (c : IVec S_ 32) (n : Fin 16) :
    padRow x c (ix2 0 ⟨n.val, by omega⟩) = x (ix2 0 n) := by
  pointwise [padRow]

theorem padRow_zero (x : FVec Ideal S1x16 .f32) (n : Fin 112) :
    padRow x (constantI S_ 32 0#32) (ix2 0 ⟨16 + n.val, by omega⟩) = 0 := by
  pointwise [padRow]
  exact zero_word

theorem s4_v19 (n : Fin 16) : StableHlo.after hostOps0_4 W (Proc.devRef .tc main_v19) (ix2 n 0)
    = W (Proc.devRef .tc main_arg5) (ix2 0 n) := by
  entry_read
  pointwise

theorem s4_v20 (r : Fin 3) (n : Fin 512) : StableHlo.after hostOps0_4 W (Proc.devRef .tc main_v20) (ix2 r n)
    = W (Proc.devRef .tc main_arg4) (ix3 0 r n) := by
  entry_read
  pointwise

/- The tokens' rows and columns. -/

theorem s4_v21 : StableHlo.after hostOps0_4 W (Proc.devRef .tc main_v21) = iotaInDim S2048 32 0 := by
  entry_read
  rfl

theorem s4_c : StableHlo.after hostOps0_4 W (Proc.devRef .tc main_c_1) = constantI S_ 32 64#32 := by
  entry_read
  rfl

/-- The quotient of each by `y`, rounded down. -/
def over (x : IVec S2048 32) (y : IVec S_ 32) : IVec S2048 32 :=
  select (andi (cmpi .ne (signi x) (broadcastInDim S2048 ![] bcast_S_S2048 (signi y)))
      (cmpi .ne (Host.remsi x (broadcastInDim S2048 ![] bcast_S_S2048 y)) (broadcastInDim S2048 ![] bcast_S_S2048 (constantI S_ 32 0#32))))
    (subi (Host.divsi x (broadcastInDim S2048 ![] bcast_S_S2048 y)) (broadcastInDim S2048 ![] bcast_S_S2048 (constantI S_ 32 1#32)))
    (Host.divsi x (broadcastInDim S2048 ![] bcast_S_S2048 y))

theorem s5_v22 : StableHlo.after hostOps0_5 W (Proc.devRef .tc main_v22)
    = over (W (Proc.devRef .tc main_v21)) (W (Proc.devRef .tc main_c_1)) := by
  entry_read
  simp only [StableHlo.TRef.ofBuf_toBuf]
  rfl

theorem over_apply (s : Fin 2048) : over (iotaInDim S2048 32 0) (constantI S_ 32 64#32) (ix1 s) = BitVec.ofNat 32 (s.val / 64) := by
  pointwise [over]
  revert s
  decide +kernel

theorem s6_v23 (s : Fin 2048) : StableHlo.after hostOps0_6 W (Proc.devRef .tc main_v23) (ix1 s)
    = FloatOps.sitofp (F := Ideal) .f32 (W (Proc.devRef .tc main_v22) (ix1 s)) := by
  entry_read
  pointwise

theorem s6_c : StableHlo.after hostOps0_6 W (Proc.devRef .tc main_c_2) = constantI S_ 32 64#32 := by
  entry_read
  rfl

/-- The divisor, or one for zero. -/
def divisor (y : IVec S_ 32) : IVec S_ 32 := select (cmpi .eq y (constantI S_ 32 0#32)) (constantI S_ 32 1#32) y

/-- The remainder of each by `y`, with `y`'s sign. -/
def rest (x : IVec S2048 32) (y : IVec S_ 32) : IVec S2048 32 :=
  select (andi (cmpi .ne (cmpi .slt (Host.remsi x (broadcastInDim S2048 ![] bcast_S_S2048 (divisor y)))
        (broadcastInDim S2048 ![] bcast_S_S2048 (constantI S_ 32 0#32)))
      (broadcastInDim S2048 ![] bcast_S_S2048 (cmpi .slt (divisor y) (constantI S_ 32 0#32))))
      (cmpi .ne (Host.remsi x (broadcastInDim S2048 ![] bcast_S_S2048 (divisor y)))
        (broadcastInDim S2048 ![] bcast_S_S2048 (constantI S_ 32 0#32))))
    (addi (Host.remsi x (broadcastInDim S2048 ![] bcast_S_S2048 (divisor y))) (broadcastInDim S2048 ![] bcast_S_S2048 (divisor y)))
    (Host.remsi x (broadcastInDim S2048 ![] bcast_S_S2048 (divisor y)))

theorem s7_v24 : StableHlo.after hostOps0_7 W (Proc.devRef .tc main_v24)
    = rest (W (Proc.devRef .tc main_v21)) (W (Proc.devRef .tc main_c_2)) := by
  entry_read
  simp only [StableHlo.TRef.ofBuf_toBuf]
  rfl

theorem rest_apply (s : Fin 2048) : rest (iotaInDim S2048 32 0) (constantI S_ 32 64#32) (ix1 s) = BitVec.ofNat 32 (s.val % 64) := by
  pointwise [rest, divisor]
  revert s
  decide +kernel

/- The tables. -/

section Tables
variable (h23 : ∀ s : Fin 2048, W (Proc.devRef .tc main_v23) (ix1 s) = FloatOps.sitofp (F := Ideal) .f32 (BitVec.ofNat 32 (s.val / 64)))
  (h24 : ∀ s : Fin 2048, W (Proc.devRef .tc main_v24) (ix1 s) = BitVec.ofNat 32 (s.val % 64))
include h23 h24

theorem s8_cos (s : Fin 2048) (l : Fin 128) : StableHlo.after hostOps0_8 W (Proc.devRef .tc main_v48) (ix2 s l)
    = Ideal.cos (angle s.val (l.val % 64)) := by
  simp only [StableHlo.after_cons, StableHlo.after_nil]
  simp -zeta -beta -eta -iota -proj -zetaUnused -letToHave only [↓ StableHlo.readResult, -eq_self]
  rw [StableHlo.nary_result]
  dsimp only [Matrix.cons_val]
  simp -zeta -beta -eta -iota -proj -zetaUnused -letToHave only [↓ StableHlo.readResult, ↓ StableHlo.readPieces, -eq_self]
  pointwise
  rw [h23, h24]
  split
  · exact congrArg Ideal.cos (angle_row _ _ _ (by omega) (by omega))
  split
  · exact congrArg Ideal.cos (angle_row _ _ _ (by omega) (by omega))
  split
  · exact congrArg Ideal.cos (angle_col _ _ _ (by omega) (by omega))
  · exact congrArg Ideal.cos (angle_col _ _ _ (by omega) (by omega))

theorem s8_lo (s : Fin 2048) (l : Fin 128) : StableHlo.after hostOps0_8 W (Proc.devRef .tc main_v56) (ix2 s l)
    = if l.val % 32 < 16 then -Ideal.sin (angle s.val (l.val % 64)) else 0 := by
  simp only [StableHlo.after_cons, StableHlo.after_nil]
  simp -zeta -beta -eta -iota -proj -zetaUnused -letToHave only [↓ StableHlo.readResult, -eq_self]
  rw [StableHlo.nary_result]
  dsimp only [Matrix.cons_val]
  simp -zeta -beta -eta -iota -proj -zetaUnused -letToHave only [↓ StableHlo.readResult, ↓ StableHlo.readPieces, -eq_self]
  pointwise
  rw [h23, h24]
  split
  · exact (congrArg (-Ideal.sin ·) (angle_row _ _ _ (by omega) (by omega))).trans (if_pos (by omega)).symm
  split
  · exact (if_neg (by omega)).symm
  split
  · exact (congrArg (-Ideal.sin ·) (angle_col _ _ _ (by omega) (by omega))).trans (if_pos (by omega)).symm
  · exact (if_neg (by omega)).symm

theorem s8_hi (s : Fin 2048) (l : Fin 128) : StableHlo.after hostOps0_8 W (Proc.devRef .tc main_v62) (ix2 s l)
    = if l.val % 32 < 16 then 0 else Ideal.sin (angle s.val (l.val % 64)) := by
  simp only [StableHlo.after_cons, StableHlo.after_nil]
  simp -zeta -beta -eta -iota -proj -zetaUnused -letToHave only [↓ StableHlo.readResult, -eq_self]
  rw [StableHlo.nary_result]
  dsimp only [Matrix.cons_val]
  simp -zeta -beta -eta -iota -proj -zetaUnused -letToHave only [↓ StableHlo.readResult, ↓ StableHlo.readPieces, -eq_self]
  pointwise
  rw [h23, h24]
  split
  · exact (if_pos (by omega)).symm
  split
  · exact (congrArg Ideal.sin (angle_row _ _ _ (by omega) (by omega))).trans (if_neg (by omega)).symm
  split
  · exact (if_pos (by omega)).symm
  · exact (congrArg Ideal.sin (angle_col _ _ _ (by omega) (by omega))).trans (if_neg (by omega)).symm

end Tables

end Cert.Inp

end
-- ==== Proof.Inp.Host.lean ====
/- What each grid point's blocks hold of the arguments. -/
module

public import proofs.«01_k».proof.Proof.Inp.Seg

@[expose] public section

set_option maxRecDepth 16384

noncomputable section

namespace Cert.Inp

open Cert.Kernel3Ideal Cert.Kernel3Ideal.Gen Idealize.ShloMosaic Idealize.ShloMosaic.TcCoe Idealize.SL.Sem
  Idealize.ShloMosaic.Pointwise

variable (m : (ℓ : Loc nD τ sig) → Buf (Elt Ideal) ℓ) (c : Dev nD)

/-- Every window's block index at each point. -/
theorem idx : ∀ t : Fin cfg0.N, win0_0.index t = ![t.val, 0, 0] ∧ win0_1.index t = ![t.val, 0, 0] ∧ win0_2.index t = ![t.val, 255, 0]
    ∧ win0_3.index t = ![0, 0] ∧ win0_4.index t = ![0, 1] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] :=
  (by decide +kernel : ∀ t : Fin grid0.N, _)

/-- Every result's. -/
theorem idx_out : ∀ t : Fin cfg0.N, win0_15.index t = ![t.val, 0, 0] ∧ win0_16.index t = ![t.val, 0, 0] ∧ win0_17.index t = ![t.val, 0, 0]
    ∧ win0_18.index t = ![t.val, 0, 0] ∧ win0_19.index t = ![t.val, 0, 0, 0] ∧ win0_20.index t = ![t.val, 0, 0]
    ∧ win0_21.index t = ![t.val, 0, 0] ∧ win0_22.index t = ![t.val, 0, 0, 0] :=
  (by decide +kernel : ∀ t : Fin grid0.N, _)

/-- The row of the modulation block a point reads is its batch's. -/
theorem off_eq : ∀ t : Fin cfg0.N, k0_off1 (grid0.coords t) = ![t.val, 0] :=
  (by decide +kernel : ∀ t : Fin grid0.N, _)

/-- The batch of a grid point. -/
abbrev batch (t : Fin cfg0.N) : Fin 8 := ⟨t.val, t.isLt⟩

theorem fit_x (t : Fin cfg0.N) (p : Fin 2048) (j : Fin 1024) :
    iblk m c 0 t (ix3 0 p j) = m ((c : Thread nD τ).loc main_arg0) (ix3 (batch t) p j) := by
  have ht : t.val < 8 := t.isLt
  blk_ext! [iblk, V, idx t]

theorem fit_sh (t : Fin cfg0.N) (r : Fin 8) (j : Fin 1024) :
    iblk m c 3 t (ix2 r j) = m ((c : Thread nD τ).loc main_arg1) (ix2 ⟨r.val, by omega⟩ ⟨j.val, by omega⟩) := by
  have ht : t.val < 8 := t.isLt
  blk_ext! [iblk, V, idx t]

theorem fit_sc (t : Fin cfg0.N) (r : Fin 8) (j : Fin 1024) :
    iblk m c 4 t (ix2 r j) = m ((c : Thread nD τ).loc main_arg1) (ix2 ⟨r.val, by omega⟩ ⟨1024 + j.val, by omega⟩) := by
  have ht : t.val < 8 := t.isLt
  blk_ext! [iblk, V, idx t]

theorem fit_g (t : Fin cfg0.N) (j : Fin 1024) :
    iblk m c 5 t (ix2 0 j) = m ((c : Thread nD τ).loc main_arg2) (ix2 0 j) := by
  have ht : t.val < 8 := t.isLt
  blk_ext! [iblk, V, idx t]

theorem fit_gn (t : Fin cfg0.N) (n : Fin 512) :
    iblk m c 14 t (ix2 0 n) = m ((c : Thread nD τ).loc main_arg6) (ix2 0 n) := by
  have ht : t.val < 8 := t.isLt
  blk_ext! [iblk, V, idx t]

/-- The memory after the first operations, group by group. -/
abbrev st0 : Valuation τ sig (Elt Ideal) := fun b => m (c, b)
abbrev st1 : Valuation τ sig (Elt Ideal) := StableHlo.after hostOps0 (st0 m c)
abbrev st2 : Valuation τ sig (Elt Ideal) := StableHlo.after hostOps0_1 (st1 m c)
abbrev st3 : Valuation τ sig (Elt Ideal) := StableHlo.after hostOps0_2 (st2 m c)
abbrev st4 : Valuation τ sig (Elt Ideal) := StableHlo.after hostOps0_3 (st3 m c)
abbrev st5 : Valuation τ sig (Elt Ideal) := StableHlo.after hostOps0_4 (st4 m c)
abbrev st6 : Valuation τ sig (Elt Ideal) := StableHlo.after hostOps0_5 (st5 m c)
abbrev st7 : Valuation τ sig (Elt Ideal) := StableHlo.after hostOps0_6 (st6 m c)
abbrev st8 : Valuation τ sig (Elt Ideal) := StableHlo.after hostOps0_7 (st7 m c)
abbrev st9 : Valuation τ sig (Elt Ideal) := StableHlo.after hostOps0_8 (st8 m c)

theorem V_eq (r : Ref sig .tc) : V m c r = st9 m c (Proc.devRef .tc r) := by
  show StableHlo.after (List.flatten _) _ _ = _
  rw [List.flatten_cons, StableHlo.after_append, List.flatten_cons, StableHlo.after_append, List.flatten_cons,
    StableHlo.after_append, List.flatten_cons, StableHlo.after_append, List.flatten_cons, StableHlo.after_append,
    List.flatten_cons, StableHlo.after_append, List.flatten_cons, StableHlo.after_append, List.flatten_cons,
    StableHlo.after_append, List.flatten_cons, StableHlo.after_append, List.flatten_nil]
  rfl

theorem V_v11 : V m c main_v11 = st3 m c (Proc.devRef .tc main_v11) :=
  (V_eq m c _).trans ((keep8 _ _ (by decide)).trans ((keep7 _ _ (by decide)).trans ((keep6 _ _ (by decide)).trans ((keep5 _ _ (by decide)).trans ((keep4 _ _ (by decide)).trans (keep3 _ _ (by decide)))))))

theorem V_v17 : V m c main_v17 = st3 m c (Proc.devRef .tc main_v17) :=
  (V_eq m c _).trans ((keep8 _ _ (by decide)).trans ((keep7 _ _ (by decide)).trans ((keep6 _ _ (by decide)).trans ((keep5 _ _ (by decide)).trans ((keep4 _ _ (by decide)).trans (keep3 _ _ (by decide)))))))

theorem V_v18 : V m c main_v18 = st4 m c (Proc.devRef .tc main_v18) :=
  (V_eq m c _).trans ((keep8 _ _ (by decide)).trans ((keep7 _ _ (by decide)).trans ((keep6 _ _ (by decide)).trans ((keep5 _ _ (by decide)).trans (keep4 _ _ (by decide))))))

theorem V_v19 : V m c main_v19 = st5 m c (Proc.devRef .tc main_v19) :=
  (V_eq m c _).trans ((keep8 _ _ (by decide)).trans ((keep7 _ _ (by decide)).trans ((keep6 _ _ (by decide)).trans (keep5 _ _ (by decide)))))

theorem V_v20 : V m c main_v20 = st5 m c (Proc.devRef .tc main_v20) :=
  (V_eq m c _).trans ((keep8 _ _ (by decide)).trans ((keep7 _ _ (by decide)).trans ((keep6 _ _ (by decide)).trans (keep5 _ _ (by decide)))))

theorem st2_v0 (k : Fin 1024) (n : Fin 2320) :
    st2 m c (Proc.devRef .tc main_v0) (ix2 k n) = m ((c : Thread nD τ).loc main_arg3) (ix3 0 k n) :=
  (congrFun (keep1 _ main_v0 (by decide)) (ix2 k n)).trans (s0_v0 _ k n)

theorem st3_arg5 : st3 m c (Proc.devRef .tc main_arg5) = m ((c : Thread nD τ).loc main_arg5) :=
  (keep2 _ _ (by decide)).trans ((keep1 _ _ (by decide)).trans (keep0 _ _ (by decide)))

theorem st4_arg5 : st4 m c (Proc.devRef .tc main_arg5) = m ((c : Thread nD τ).loc main_arg5) :=
  (keep3 _ _ (by decide)).trans (st3_arg5 m c)

theorem st4_arg4 : st4 m c (Proc.devRef .tc main_arg4) = m ((c : Thread nD τ).loc main_arg4) :=
  (keep3 _ _ (by decide)).trans ((keep2 _ _ (by decide)).trans ((keep1 _ _ (by decide)).trans (keep0 _ _ (by decide))))

theorem st7_v22 : st6 m c (Proc.devRef .tc main_v22) = over (iotaInDim S2048 32 0) (constantI S_ 32 64#32) :=
  (s5_v22 _).trans (congrArg₂ over (s4_v21 _) (s4_c _))

theorem st8_v23 (s : Fin 2048) :
    st8 m c (Proc.devRef .tc main_v23) (ix1 s) = FloatOps.sitofp (F := Ideal) .f32 (BitVec.ofNat 32 (s.val / 64)) :=
  (congrFun (keep7 _ main_v23 (by decide)) (ix1 s)).trans <| (s6_v23 _ s).trans <|
    congrArg (FloatOps.sitofp (F := Ideal) .f32) ((congrFun (st7_v22 m c) (ix1 s)).trans (over_apply s))

theorem st8_v24 (s : Fin 2048) : st8 m c (Proc.devRef .tc main_v24) (ix1 s) = BitVec.ofNat 32 (s.val % 64) :=
  (congrFun ((s7_v24 _).trans (congrArg₂ rest ((keep6 _ main_v21 (by decide)).trans ((keep5 _ main_v21 (by decide)).trans (s4_v21 _)))
    (s6_c _))) (ix1 s)).trans (rest_apply s)

section Windows
variable (t : Fin cfg0.N)

theorem win6 (k : Fin 1024) (n : Fin 1792) : iblk m c 6 t (ix2 k n) = V m c main_v11 (ix2 k n) := by
  have ht : t.val < 8 := t.isLt
  generalize hv : V m c main_v11 = v
  blk_ext! [iblk, hv, idx t]

theorem win7 (n : Fin 656) (k : Fin 1024) : iblk m c 7 t (ix2 n k) = V m c main_v17 (ix2 n k) := by
  have ht : t.val < 8 := t.isLt
  generalize hv : V m c main_v17 = v
  blk_ext! [iblk, hv, idx t]

theorem win8 (n : Fin 128) : iblk m c 8 t (ix2 0 n) = V m c main_v18 (ix2 0 n) := by
  have ht : t.val < 8 := t.isLt
  generalize hv : V m c main_v18 = v
  blk_ext! [iblk, hv, idx t]

theorem win9 (n : Fin 16) : iblk m c 9 t (ix2 n 0) = V m c main_v19 (ix2 n 0) := by
  have ht : t.val < 8 := t.isLt
  generalize hv : V m c main_v19 = v
  blk_ext! [iblk, hv, idx t]

theorem win10 (r : Fin 3) (n : Fin 512) : iblk m c 10 t (ix2 r n) = V m c main_v20 (ix2 r n) := by
  have ht : t.val < 8 := t.isLt
  generalize hv : V m c main_v20 = v
  blk_ext! [iblk, hv, idx t]

theorem win11 (s : Fin 2048) (l : Fin 128) : iblk m c 11 t (ix2 s l) = V m c main_v48 (ix2 s l) := by
  have ht : t.val < 8 := t.isLt
  generalize hv : V m c main_v48 = v
  blk_ext! [iblk, hv, idx t]

theorem win12 (s : Fin 2048) (l : Fin 128) : iblk m c 12 t (ix2 s l) = V m c main_v56 (ix2 s l) := by
  have ht : t.val < 8 := t.isLt
  generalize hv : V m c main_v56 = v
  blk_ext! [iblk, hv, idx t]

theorem win13 (s : Fin 2048) (l : Fin 128) : iblk m c 13 t (ix2 s l) = V m c main_v62 (ix2 s l) := by
  have ht : t.val < 8 := t.isLt
  generalize hv : V m c main_v62 = v
  blk_ext! [iblk, hv, idx t]

theorem fit_wq (k : Fin 1024) (n : Fin 512) : iblk m c 6 t (ix2 k ⟨n.val, by omega⟩)
    = m ((c : Thread nD τ).loc main_arg3) (ix3 0 k ⟨n.val / 64 % 2 * 256 + n.val / 128 * 64 + n.val % 64, by omega⟩) :=
  (win6 m c t k _).trans <| (congrFun (V_v11 m c) _).trans <| (s2_q _ k n).trans <|
    (congrFun (keep1 _ main_v4 (by decide)) _).trans (s0_v4 _ k n)

theorem fit_wk (k : Fin 1024) (n : Fin 128) : iblk m c 6 t (ix2 k ⟨512 + n.val, by omega⟩)
    = m ((c : Thread nD τ).loc main_arg3) (ix3 0 k ⟨512 + n.val, by omega⟩) :=
  (win6 m c t k _).trans <| (congrFun (V_v11 m c) _).trans <| (s2_k _ k n).trans (st2_v0 m c k _)

theorem fit_wg (k : Fin 1024) (n : Fin 16) : iblk m c 6 t (ix2 k ⟨640 + n.val, by omega⟩)
    = m ((c : Thread nD τ).loc main_arg3) (ix3 0 k ⟨2304 + n.val, by omega⟩) :=
  (win6 m c t k _).trans <| (congrFun (V_v11 m c) _).trans <| (s2_g _ k ⟨n.val, by omega⟩).trans <|
    (congrFun (s1_v6 _) _).trans <| (padCols_apply _ _ k n).trans (s0_v5 _ k n)

theorem fit_wz (k : Fin 1024) (n : Fin 112) : iblk m c 6 t (ix2 k ⟨640 + (16 + n.val), by omega⟩) = (0 : EReal) :=
  (win6 m c t k _).trans <| (congrFun (V_v11 m c) _).trans <| (s2_g _ k ⟨16 + n.val, by omega⟩).trans <|
    (congrFun ((s1_v6 _).trans (congrArg (padCols _) (s0_c _))) _).trans (padCols_zero _ k n)

theorem fit_wqk (k : Fin 1024) (n : Fin 512) : iblk m c 6 t (ix2 k ⟨768 + n.val, by omega⟩)
    = m ((c : Thread nD τ).loc main_arg3) (ix3 0 k ⟨768 + n.val, by omega⟩) :=
  (win6 m c t k _).trans <| (congrFun (V_v11 m c) _).trans <| (s2_qk _ k n).trans (st2_v0 m c k _)

theorem fit_wo (k : Fin 1024) (n : Fin 512) : iblk m c 6 t (ix2 k ⟨1280 + n.val, by omega⟩)
    = m ((c : Thread nD τ).loc main_arg3) (ix3 0 k ⟨1792 + n.val, by omega⟩) :=
  (win6 m c t k _).trans <| (congrFun (V_v11 m c) _).trans <| (s2_o _ k n).trans (st2_v0 m c k _)

theorem fit_tv (k : Fin 1024) (n : Fin 128) : iblk m c 7 t (ix2 ⟨n.val, by omega⟩ k)
    = m ((c : Thread nD τ).loc main_arg3) (ix3 0 k ⟨640 + n.val, by omega⟩) :=
  (win7 m c t _ k).trans <| (congrFun (V_v17 m c) _).trans <| (s2_tv _ k n).trans (st2_v0 m c k _)

theorem fit_tm (k : Fin 1024) (n : Fin 512) : iblk m c 7 t (ix2 ⟨128 + n.val, by omega⟩ k)
    = m ((c : Thread nD τ).loc main_arg3) (ix3 0 k ⟨1280 + n.val, by omega⟩) :=
  (win7 m c t _ k).trans <| (congrFun (V_v17 m c) _).trans <| (s2_tm _ k n).trans (st2_v0 m c k _)

theorem fit_tg (k : Fin 1024) (n : Fin 16) : iblk m c 7 t (ix2 ⟨640 + n.val, by omega⟩ k)
    = m ((c : Thread nD τ).loc main_arg3) (ix3 0 k ⟨2304 + n.val, by omega⟩) :=
  (win7 m c t _ k).trans <| (congrFun (V_v17 m c) _).trans <| (s2_tg _ k n).trans (st2_v0 m c k _)

theorem fit_br (n : Fin 16) : iblk m c 8 t (ix2 0 ⟨n.val, by omega⟩) = m ((c : Thread nD τ).loc main_arg5) (ix2 0 n) :=
  (win8 m c t _).trans <| (congrFun (V_v18 m c) _).trans <| (congrFun (s3_v18 _) _).trans <|
    (padRow_apply _ _ n).trans (congrFun (st3_arg5 m c) _)

theorem fit_bz (n : Fin 112) : iblk m c 8 t (ix2 0 ⟨16 + n.val, by omega⟩) = (0 : EReal) :=
  (win8 m c t _).trans <| (congrFun (V_v18 m c) _).trans <|
    (congrFun ((s3_v18 _).trans (congrArg (padRow _) (s2_c _))) _).trans (padRow_zero _ n)

theorem fit_bc (n : Fin 16) : iblk m c 9 t (ix2 n 0) = m ((c : Thread nD τ).loc main_arg5) (ix2 0 n) :=
  (win9 m c t _).trans <| (congrFun (V_v19 m c) _).trans <| (s4_v19 _ n).trans (congrFun (st4_arg5 m c) _)

theorem fit_wc (r : Fin 3) (n : Fin 512) : iblk m c 10 t (ix2 r n) = m ((c : Thread nD τ).loc main_arg4) (ix3 0 r n) :=
  (win10 m c t _ _).trans <| (congrFun (V_v20 m c) _).trans <| (s4_v20 _ r n).trans (congrFun (st4_arg4 m c) _)

theorem fit_cs (s : Fin 2048) (l : Fin 128) : iblk m c 11 t (ix2 s l) = Ideal.cos (angle s.val (l.val % 64)) :=
  (win11 m c t _ _).trans <| (congrFun (V_eq m c _) _).trans <| s8_cos _ (st8_v23 m c) (st8_v24 m c) s l

theorem fit_lo (s : Fin 2048) (l : Fin 128) :
    iblk m c 12 t (ix2 s l) = if l.val % 32 < 16 then -Ideal.sin (angle s.val (l.val % 64)) else 0 :=
  (win12 m c t _ _).trans <| (congrFun (V_eq m c _) _).trans <| s8_lo _ (st8_v23 m c) (st8_v24 m c) s l

theorem fit_hi (s : Fin 2048) (l : Fin 128) :
    iblk m c 13 t (ix2 s l) = if l.val % 32 < 16 then 0 else Ideal.sin (angle s.val (l.val % 64)) :=
  (win13 m c t _ _).trans <| (congrFun (V_eq m c _) _).trans <| s8_hi _ (st8_v23 m c) (st8_v24 m c) s l

end Windows

end Cert.Inp

end
-- ==== Proof.Inp.Ref.lean ====
/- The reference's eight results at an index. -/
module

public import proofs.«01_k».proof.Proof.Inp.Seg
public import proofs.«01_k».proof.Proof.Gen.Reference3Ideal.Read

@[expose] public section

set_option maxRecDepth 16384

noncomputable section

namespace Cert.Inp

open Cert.Reference3Ideal Cert.Reference3Ideal.Read Idealize.ShloMosaic Idealize.SL.Sem Idealize.ShloMosaic.Pointwise

variable (x0 : FVec Ideal S8x2048x1024 .f32) (x1 : FVec Ideal S16x6144 .f32) (x2 : FVec Ideal S1x1024 .f32)
  (x3 : FVec Ideal S1x1024x2320 .f32) (x4 : FVec Ideal S1x3x512 .f32) (x5 : FVec Ideal S1x16 .f32) (x6 : FVec Ideal S1x512 .f32)
  (b : Fin 8) (s : Fin 2048)

theorem sq_ref : val_main_v35 (F := Ideal) x0 (ix2 b s) = ∑ k, x0 (ix3 b s k) * x0 (ix3 b s k) := by
  rw [val_main_v35_apply, val_main_cst_1_apply]
  refine (congrArg (· + _) Ideal.ofBits_zero_f32).trans ((zero_add _).trans ?_)
  refine Finset.sum_congr rfl fun k _ => ?_
  have hi : idx_main_v35 (ix2 b s) k = ix3 b s k := by funext a; fin_cases a <;> rfl
  rw [hi, val_main_v34_apply]
  rfl

theorem hrow_ref (j : Fin 1024) : val_main_v52 (F := Ideal) x0 x1 x2 (ix3 b s j) = hrow x0 x1 x2 b s j := by
  have h1 := sq_ref x0 b s
  pointwise [val_main_v52, val_main_v51, val_main_v50, val_main_v49, val_main_v48, val_main_v47, val_main_v46, val_main_v45,
    val_main_v44, val_main_v43, val_main_v42, val_main_v41, val_main_v40, val_main_v39, val_main_v38, val_main_v37, val_main_v36,
    val_main_v33, val_main_v28, val_main_v27, val_main_v26, val_main_v25, val_main_cst_2, val_main_cst_3, val_main_cst_4]
  simp only [h1]
  rfl

theorem prod_ref (n : Fin 2320) : val_main_v54 (F := Ideal) x0 x1 x2 x3 (ix3 b s n) = prod x0 x1 x2 x3 b s n := by
  have h := hrow_ref x0 x1 x2 b s
  generalize hy : val_main_v52 (F := Ideal) x0 x1 x2 = y at h
  pointwise [val_main_v54, val_main_v53]
  rw [hy]
  simp only [h]
  rfl

theorem row_ref (d : Fin 16) : val_main_v18 (F := Ideal) (ix3 s 0 d)
    = (FloatOps.sitofp (F := Ideal) .f32 (BitVec.ofNat 32 (s.val / 64)) : EReal) * freq d.val := by
  pointwise [val_main_v18, val_main_v17, val_main_v16, val_main_v15, val_main_v14, val_main_v13, val_main_v12, val_main_v11,
    val_main_v10, val_main_v9, val_main_v8, val_main_v7, val_main_v2, val_main_v1, val_main_v0, val_main_cst, val_main_cst_0]
  rfl

theorem col_ref (d : Fin 16) : val_main_v24 (F := Ideal) (ix3 s 0 d)
    = (FloatOps.sitofp (F := Ideal) .f32 (BitVec.ofNat 32 (s.val % 64)) : EReal) * freq d.val := by
  pointwise [val_main_v24, val_main_v23, val_main_v22, val_main_v21, val_main_v20, val_main_v19, val_main_v12, val_main_v11,
    val_main_v10, val_main_v9, val_main_v8, val_main_v7, val_main_v6, val_main_v5, val_main_v4, val_main_v3, val_main_cst,
    val_main_cst_0]
  rfl

theorem turned_lo (v : Fin 128 → EReal) (s : Nat) (l : Fin 128) (p p' A : EReal) (hp : p = v l)
    (hp' : p' = v ⟨(l.val + 16) % 128, by omega⟩) (hA : A = angle s (l.val % 64)) (h : l.val % 32 < 16) :
    p * Ideal.cos A - p' * Ideal.sin A = turned v s l := by
  rw [hp, hp', hA, turned, if_pos h]

theorem turned_hi (v : Fin 128 → EReal) (s : Nat) (l : Fin 128) (p p' A : EReal) (hp : p = v l)
    (hp' : p' = v ⟨(l.val + 112) % 128, by omega⟩) (hA : A = angle s (l.val % 64)) (h : ¬ l.val % 32 < 16) :
    p * Ideal.cos A + p' * Ideal.sin A = turned v s l := by
  rw [hp, hp', hA, turned, if_neg h]

theorem query0 (e : Fin 8) (d : Fin 16) : val_main_v76 (F := Ideal) x0 x1 x2 x3 (ix4 b s e d)
    = prod x0 x1 x2 x3 b s ⟨(e.val * 64 + d.val), by omega⟩ * Ideal.cos ((FloatOps.sitofp (F := Ideal) .f32 (BitVec.ofNat 32 (s.val / 64)) : EReal) * freq d.val)
      - prod x0 x1 x2 x3 b s ⟨(e.val * 64 + (16 + d.val)), by omega⟩ * Ideal.sin ((FloatOps.sitofp (F := Ideal) .f32 (BitVec.ofNat 32 (s.val / 64)) : EReal) * freq d.val) := by
  have hv := fun n => prod_ref x0 x1 x2 x3 b s n
  have hr := fun d => row_ref s d
  generalize hy : val_main_v54 (F := Ideal) x0 x1 x2 x3 = y at hv
  generalize hA : val_main_v18 (F := Ideal) = A at hr
  pointwise [val_main_v76, val_main_v75, val_main_v74, val_main_v73, val_main_v72, val_main_v71, val_main_v70, val_main_v69,
    val_main_v68, val_main_v67, val_main_v66, val_main_v64, val_main_v63, val_main_v55]
  rw [hy, hA]
  simp only [hv, hr]

theorem query1 (e : Fin 8) (d : Fin 16) : val_main_v83 (F := Ideal) x0 x1 x2 x3 (ix4 b s e d)
    = prod x0 x1 x2 x3 b s ⟨(e.val * 64 + (16 + d.val)), by omega⟩ * Ideal.cos ((FloatOps.sitofp (F := Ideal) .f32 (BitVec.ofNat 32 (s.val / 64)) : EReal) * freq d.val)
      + prod x0 x1 x2 x3 b s ⟨(e.val * 64 + d.val), by omega⟩ * Ideal.sin ((FloatOps.sitofp (F := Ideal) .f32 (BitVec.ofNat 32 (s.val / 64)) : EReal) * freq d.val) := by
  have hv := fun n => prod_ref x0 x1 x2 x3 b s n
  have hr := fun d => row_ref s d
  generalize hy : val_main_v54 (F := Ideal) x0 x1 x2 x3 = y at hv
  generalize hA : val_main_v18 (F := Ideal) = A at hr
  pointwise [val_main_v83, val_main_v82, val_main_v81, val_main_v80, val_main_v79, val_main_v78, val_main_v77, val_main_v69,
    val_main_v68, val_main_v67, val_main_v66, val_main_v64, val_main_v63, val_main_v55]
  rw [hy, hA]
  simp only [hv, hr]

theorem query2 (e : Fin 8) (d : Fin 16) : val_main_v95 (F := Ideal) x0 x1 x2 x3 (ix4 b s e d)
    = prod x0 x1 x2 x3 b s ⟨(e.val * 64 + (32 + d.val)), by omega⟩ * Ideal.cos ((FloatOps.sitofp (F := Ideal) .f32 (BitVec.ofNat 32 (s.val % 64)) : EReal) * freq d.val)
      - prod x0 x1 x2 x3 b s ⟨(e.val * 64 + (32 + (16 + d.val))), by omega⟩ * Ideal.sin ((FloatOps.sitofp (F := Ideal) .f32 (BitVec.ofNat 32 (s.val % 64)) : EReal) * freq d.val) := by
  have hv := fun n => prod_ref x0 x1 x2 x3 b s n
  have hr := fun d => col_ref s d
  generalize hy : val_main_v54 (F := Ideal) x0 x1 x2 x3 = y at hv
  generalize hA : val_main_v24 (F := Ideal) = A at hr
  pointwise [val_main_v95, val_main_v94, val_main_v93, val_main_v92, val_main_v91, val_main_v90, val_main_v89, val_main_v88,
    val_main_v87, val_main_v86, val_main_v85, val_main_v65, val_main_v63, val_main_v55]
  rw [hy, hA]
  simp only [hv, hr]

theorem query3 (e : Fin 8) (d : Fin 16) : val_main_v102 (F := Ideal) x0 x1 x2 x3 (ix4 b s e d)
    = prod x0 x1 x2 x3 b s ⟨(e.val * 64 + (32 + (16 + d.val))), by omega⟩ * Ideal.cos ((FloatOps.sitofp (F := Ideal) .f32 (BitVec.ofNat 32 (s.val % 64)) : EReal) * freq d.val)
      + prod x0 x1 x2 x3 b s ⟨(e.val * 64 + (32 + d.val)), by omega⟩ * Ideal.sin ((FloatOps.sitofp (F := Ideal) .f32 (BitVec.ofNat 32 (s.val % 64)) : EReal) * freq d.val) := by
  have hv := fun n => prod_ref x0 x1 x2 x3 b s n
  have hr := fun d => col_ref s d
  generalize hy : val_main_v54 (F := Ideal) x0 x1 x2 x3 = y at hv
  generalize hA : val_main_v24 (F := Ideal) = A at hr
  pointwise [val_main_v102, val_main_v101, val_main_v100, val_main_v99, val_main_v98, val_main_v97, val_main_v96, val_main_v88,
    val_main_v87, val_main_v86, val_main_v85, val_main_v65, val_main_v63, val_main_v55]
  rw [hy, hA]
  simp only [hv, hr]

theorem query_flat (y : FVec Ideal S8x2048x4x2x64 .f32) (h : S8x2048x4x2x64.ShapeCasts S8x2048x512) (l : Fin 512) :
    shapeCast S8x2048x512 y h (ix3 b s l)
      = y (ix5 b s ⟨l.val / 128, by omega⟩ ⟨l.val / 64 % 2, by omega⟩ ⟨l.val % 64, by omega⟩) := by
  refine shapeCast_apply y h _ _ ?_
  rewrite [Shape.rowMajor_val_five, Shape.rowMajor_val_three]
  show (((b.val * 2048 + s.val) * 4 + l.val / 128) * 2 + l.val / 64 % 2) * 64 + l.val % 64
    = (b.val * 2048 + s.val) * 512 + l.val
  omega

theorem query_split (y : FVec Ideal S8x2048x8x64 .f32) (hc : S8x2048x8x64.ShapeCasts S8x2048x2x4x64) (h : Fin 2) (g : Fin 4)
    (d : Fin 64) : shapeCast S8x2048x2x4x64 y hc (ix5 b s h g d) = y (ix4 b s ⟨4 * h.val + g.val, by omega⟩ d) := by
  refine shapeCast_apply y hc _ _ ?_
  rewrite [Shape.rowMajor_val_four, Shape.rowMajor_val_five]
  show ((b.val * 2048 + s.val) * 8 + (4 * h.val + g.val)) * 64 + d.val
    = (((b.val * 2048 + s.val) * 2 + h.val) * 4 + g.val) * 64 + d.val
  omega

theorem query_turn (y : FVec Ideal S8x2048x2x4x64 .f32) (hc : S8x2048x2x4x64.Transposes [0, 1, 3, 2, 4] S8x2048x4x2x64)
    (g : Fin 4) (h : Fin 2) (d : Fin 64) :
    transpose S8x2048x4x2x64 [0, 1, 3, 2, 4] y hc (ix5 b s g h d) = y (ix5 b s h g d) :=
  transpose_apply [0, 1, 3, 2, 4] y hc (ix5 b s g h d) (ix5 b s h g d) fun a => match a with
    | ⟨0, _⟩ => rfl
    | ⟨1, _⟩ => rfl
    | ⟨2, _⟩ => rfl
    | ⟨3, _⟩ => rfl
    | ⟨4, _⟩ => rfl

theorem query_gather (y : FVec Ideal S8x2048x8x64 .f32) (h1 : S8x2048x8x64.ShapeCasts S8x2048x2x4x64)
    (h2 : S8x2048x2x4x64.Transposes [0, 1, 3, 2, 4] S8x2048x4x2x64) (h3 : S8x2048x4x2x64.ShapeCasts S8x2048x512) (l : Fin 512) :
    shapeCast S8x2048x512 (transpose S8x2048x4x2x64 [0, 1, 3, 2, 4] (shapeCast S8x2048x2x4x64 y h1) h2) h3 (ix3 b s l)
      = y (ix4 b s ⟨4 * (l.val / 64 % 2) + l.val / 128, by omega⟩ ⟨l.val % 64, by omega⟩) := by
  generalize hz : shapeCast S8x2048x2x4x64 y h1 = z
  generalize hw : transpose S8x2048x4x2x64 [0, 1, 3, 2, 4] z h2 = w
  rw [query_flat b s w h3 l, ← hw, query_turn, ← hz]
  exact query_split b s y h1 ⟨l.val / 64 % 2, by omega⟩ ⟨l.val / 128, by omega⟩ ⟨l.val % 64, by omega⟩

theorem query_head (l : Fin 512) : val_main_v194 (F := Ideal) x0 x1 x2 x3 (ix3 b s l)
    = val_main_v104 (F := Ideal) x0 x1 x2 x3 (ix4 b s ⟨4 * (l.val / 64 % 2) + l.val / 128, by omega⟩ ⟨l.val % 64, by omega⟩) := by
  have e := query_gather b s (val_main_v104 (F := Ideal) x0 x1 x2 x3) Gen.shapeCasts_S8x2048x8x64_S8x2048x2x4x64
    Gen.transposes_S8x2048x2x4x64_S8x2048x4x2x64_0_1_3_2_4 Gen.shapeCasts_S8x2048x4x2x64_S8x2048x512 l
  have e0 : val_main_v194 (F := Ideal) x0 x1 x2 x3 (ix3 b s l) = val_main_v107 (F := Ideal) x0 x1 x2 x3 (ix3 b s l) := by
    unfold val_main_v194
    generalize val_main_v107 (F := Ideal) x0 x1 x2 x3 = f
    rfl
  refine e0.trans ?_
  unfold val_main_v107 val_main_v106 val_main_v105
  exact e

theorem q_ref (l : Fin 512) : val_main_v194 (F := Ideal) x0 x1 x2 x3 (ix3 b s l) = resQ x0 x1 x2 x3 b s l := by
  rw [query_head]
  pointwise [val_main_v104, val_main_v103, val_main_v84]
  by_cases h : l.val % 64 < 32
  · refine (dif_pos h).trans ?_
    by_cases h' : l.val % 64 < 16
    · refine (dif_pos h').trans ((query0 x0 x1 x2 x3 b s _ _).trans (turned_lo _ _ _ _ _ _ ?_ ?_ ?_ ?_))
      · exact congrArg (prod x0 x1 x2 x3 b s) (Fin.ext (by simp only; omega))
      · exact congrArg (prod x0 x1 x2 x3 b s) (Fin.ext (by simp only; omega))
      · exact angle_row _ _ _ (by dsimp only; omega) (by dsimp only; omega)
      · dsimp only; omega
    · refine (dif_neg h').trans ((query1 x0 x1 x2 x3 b s _ _).trans (turned_hi _ _ _ _ _ _ ?_ ?_ ?_ ?_))
      · exact congrArg (prod x0 x1 x2 x3 b s) (Fin.ext (by simp only; omega))
      · exact congrArg (prod x0 x1 x2 x3 b s) (Fin.ext (by simp only; omega))
      · exact angle_row _ _ _ (by dsimp only; omega) (by dsimp only; omega)
      · dsimp only; omega
  · refine (dif_neg h).trans ?_
    by_cases h' : l.val % 64 - 32 < 16
    · refine (dif_pos h').trans ((query2 x0 x1 x2 x3 b s _ _).trans (turned_lo _ _ _ _ _ _ ?_ ?_ ?_ ?_))
      · exact congrArg (prod x0 x1 x2 x3 b s) (Fin.ext (by simp only; omega))
      · exact congrArg (prod x0 x1 x2 x3 b s) (Fin.ext (by simp only; omega))
      · exact angle_col _ _ _ (by dsimp only; omega) (by dsimp only; omega)
      · dsimp only; omega
    · refine (dif_neg h').trans ((query3 x0 x1 x2 x3 b s _ _).trans (turned_hi _ _ _ _ _ _ ?_ ?_ ?_ ?_))
      · exact congrArg (prod x0 x1 x2 x3 b s) (Fin.ext (by simp only; omega))
      · exact congrArg (prod x0 x1 x2 x3 b s) (Fin.ext (by simp only; omega))
      · exact angle_col _ _ _ (by dsimp only; omega) (by dsimp only; omega)
      · dsimp only; omega

theorem key0 (e : Fin 2) (d : Fin 16) : val_main_v121 (F := Ideal) x0 x1 x2 x3 (ix4 b s e d)
    = prod x0 x1 x2 x3 b s ⟨512 + (e.val * 64 + d.val), by omega⟩ * Ideal.cos ((FloatOps.sitofp (F := Ideal) .f32 (BitVec.ofNat 32 (s.val / 64)) : EReal) * freq d.val)
      - prod x0 x1 x2 x3 b s ⟨512 + (e.val * 64 + (16 + d.val)), by omega⟩ * Ideal.sin ((FloatOps.sitofp (F := Ideal) .f32 (BitVec.ofNat 32 (s.val / 64)) : EReal) * freq d.val) := by
  have hv := fun n => prod_ref x0 x1 x2 x3 b s n
  have hr := fun d => row_ref s d
  generalize hy : val_main_v54 (F := Ideal) x0 x1 x2 x3 = y at hv
  generalize hA : val_main_v18 (F := Ideal) = A at hr
  pointwise [val_main_v121, val_main_v120, val_main_v119, val_main_v118, val_main_v117, val_main_v116, val_main_v115, val_main_v114,
    val_main_v113, val_main_v112, val_main_v111, val_main_v109, val_main_v108, val_main_v56]
  rw [hy, hA]
  simp only [hv, hr]

theorem key1 (e : Fin 2) (d : Fin 16) : val_main_v128 (F := Ideal) x0 x1 x2 x3 (ix4 b s e d)
    = prod x0 x1 x2 x3 b s ⟨512 + (e.val * 64 + (16 + d.val)), by omega⟩ * Ideal.cos ((FloatOps.sitofp (F := Ideal) .f32 (BitVec.ofNat 32 (s.val / 64)) : EReal) * freq d.val)
      + prod x0 x1 x2 x3 b s ⟨512 + (e.val * 64 + d.val), by omega⟩ * Ideal.sin ((FloatOps.sitofp (F := Ideal) .f32 (BitVec.ofNat 32 (s.val / 64)) : EReal) * freq d.val) := by
  have hv := fun n => prod_ref x0 x1 x2 x3 b s n
  have hr := fun d => row_ref s d
  generalize hy : val_main_v54 (F := Ideal) x0 x1 x2 x3 = y at hv
  generalize hA : val_main_v18 (F := Ideal) = A at hr
  pointwise [val_main_v128, val_main_v127, val_main_v126, val_main_v125, val_main_v124, val_main_v123, val_main_v122, val_main_v114,
    val_main_v113, val_main_v112, val_main_v111, val_main_v109, val_main_v108, val_main_v56]
  rw [hy, hA]
  simp only [hv, hr]

theorem key2 (e : Fin 2) (d : Fin 16) : val_main_v140 (F := Ideal) x0 x1 x2 x3 (ix4 b s e d)
    = prod x0 x1 x2 x3 b s ⟨512 + (e.val * 64 + (32 + d.val)), by omega⟩ * Ideal.cos ((FloatOps.sitofp (F := Ideal) .f32 (BitVec.ofNat 32 (s.val % 64)) : EReal) * freq d.val)
      - prod x0 x1 x2 x3 b s ⟨512 + (e.val * 64 + (32 + (16 + d.val))), by omega⟩ * Ideal.sin ((FloatOps.sitofp (F := Ideal) .f32 (BitVec.ofNat 32 (s.val % 64)) : EReal) * freq d.val) := by
  have hv := fun n => prod_ref x0 x1 x2 x3 b s n
  have hr := fun d => col_ref s d
  generalize hy : val_main_v54 (F := Ideal) x0 x1 x2 x3 = y at hv
  generalize hA : val_main_v24 (F := Ideal) = A at hr
  pointwise [val_main_v140, val_main_v139, val_main_v138, val_main_v137, val_main_v136, val_main_v135, val_main_v134, val_main_v133,
    val_main_v132, val_main_v131, val_main_v130, val_main_v110, val_main_v108, val_main_v56]
  rw [hy, hA]
  simp only [hv, hr]

theorem key3 (e : Fin 2) (d : Fin 16) : val_main_v147 (F := Ideal) x0 x1 x2 x3 (ix4 b s e d)
    = prod x0 x1 x2 x3 b s ⟨512 + (e.val * 64 + (32 + (16 + d.val))), by omega⟩ * Ideal.cos ((FloatOps.sitofp (F := Ideal) .f32 (BitVec.ofNat 32 (s.val % 64)) : EReal) * freq d.val)
      + prod x0 x1 x2 x3 b s ⟨512 + (e.val * 64 + (32 + d.val)), by omega⟩ * Ideal.sin ((FloatOps.sitofp (F := Ideal) .f32 (BitVec.ofNat 32 (s.val % 64)) : EReal) * freq d.val) := by
  have hv := fun n => prod_ref x0 x1 x2 x3 b s n
  have hr := fun d => col_ref s d
  generalize hy : val_main_v54 (F := Ideal) x0 x1 x2 x3 = y at hv
  generalize hA : val_main_v24 (F := Ideal) = A at hr
  pointwise [val_main_v147, val_main_v146, val_main_v145, val_main_v144, val_main_v143, val_main_v142, val_main_v141, val_main_v133,
    val_main_v132, val_main_v131, val_main_v130, val_main_v110, val_main_v108, val_main_v56]
  rw [hy, hA]
  simp only [hv, hr]

theorem k_ref (l : Fin 128) : val_main_v195 (F := Ideal) x0 x1 x2 x3 (ix3 b s l) = resK x0 x1 x2 x3 b s l := by
  pointwise [val_main_v195, val_main_v150, val_main_v149, val_main_v148, val_main_v129]
  by_cases h : l.val % 64 < 32
  · refine (dif_pos h).trans ?_
    by_cases h' : l.val % 64 < 16
    · refine (dif_pos h').trans ((key0 x0 x1 x2 x3 b s _ _).trans (turned_lo _ _ _ _ _ _ ?_ ?_ ?_ ?_))
      · exact congrArg (prod x0 x1 x2 x3 b s) (Fin.ext (by simp only; omega))
      · exact congrArg (prod x0 x1 x2 x3 b s) (Fin.ext (by simp only; omega))
      · exact angle_row _ _ _ h (by dsimp only; omega)
      · omega
    · refine (dif_neg h').trans ((key1 x0 x1 x2 x3 b s _ _).trans (turned_hi _ _ _ _ _ _ ?_ ?_ ?_ ?_))
      · exact congrArg (prod x0 x1 x2 x3 b s) (Fin.ext (by simp only; omega))
      · exact congrArg (prod x0 x1 x2 x3 b s) (Fin.ext (by simp only; omega))
      · exact angle_row _ _ _ h (by dsimp only; omega)
      · omega
  · refine (dif_neg h).trans ?_
    by_cases h' : l.val % 64 - 32 < 16
    · refine (dif_pos h').trans ((key2 x0 x1 x2 x3 b s _ _).trans (turned_lo _ _ _ _ _ _ ?_ ?_ ?_ ?_))
      · exact congrArg (prod x0 x1 x2 x3 b s) (Fin.ext (by simp only; omega))
      · exact congrArg (prod x0 x1 x2 x3 b s) (Fin.ext (by simp only; omega))
      · exact angle_col _ _ _ h (by dsimp only; omega)
      · omega
    · refine (dif_neg h').trans ((key3 x0 x1 x2 x3 b s _ _).trans (turned_hi _ _ _ _ _ _ ?_ ?_ ?_ ?_))
      · exact congrArg (prod x0 x1 x2 x3 b s) (Fin.ext (by simp only; omega))
      · exact congrArg (prod x0 x1 x2 x3 b s) (Fin.ext (by simp only; omega))
      · exact angle_col _ _ _ h (by dsimp only; omega)
      · omega

theorem v_ref (n : Fin 128) : val_main_v197 (F := Ideal) x0 x1 x2 x3 (ix3 b n s) = resV x0 x1 x2 x3 b n s := by
  have hv := fun n => prod_ref x0 x1 x2 x3 b s n
  generalize hy : val_main_v54 (F := Ideal) x0 x1 x2 x3 = y at hv
  pointwise [val_main_v197, val_main_v196, val_main_v57]
  rw [hy]
  exact hv _

theorem m_ref (k : Fin 16) (n : Fin 512) (p : Fin 128) :
    val_main_v201 (F := Ideal) x0 x1 x2 x3 (ix4 b k n p) = resM x0 x1 x2 x3 b k n p := by
  have hv := fun s n => prod_ref x0 x1 x2 x3 b s n
  generalize hy : val_main_v54 (F := Ideal) x0 x1 x2 x3 = y at hv
  pointwise [val_main_v201, val_main_v200, val_main_v199, val_main_v60]
  rw [hy]
  refine (hv _ _).trans ?_
  exact congrArg (fun r => prod x0 x1 x2 x3 b r _) (Fin.ext (by simp only; omega))

theorem o_ref (n : Fin 512) : val_main_v202 (F := Ideal) x0 x1 x2 x3 x6 (ix3 b s n) = resO x0 x1 x2 x3 x6 b s n := by
  have hv := fun n => prod_ref x0 x1 x2 x3 b s n
  generalize hy : val_main_v54 (F := Ideal) x0 x1 x2 x3 = y at hv
  pointwise [val_main_v202, val_main_v193, val_main_v192, val_main_v191, val_main_v190, val_main_v189, val_main_v188,
    val_main_v187, val_main_v186, val_main_v185, val_main_v184, val_main_v61, val_main_cst_6, val_main_cst_7]
  rw [hy]
  simp only [hv]
  rfl

theorem gate_ref (n : Fin 16) : val_main_v183 (F := Ideal) x0 x1 x2 x3 x5 (ix3 b s n)
    = prod x0 x1 x2 x3 b s ⟨2304 + n.val, by omega⟩ + x5 (ix2 0 n) := by
  have hv := fun n => prod_ref x0 x1 x2 x3 b s n
  generalize hy : val_main_v54 (F := Ideal) x0 x1 x2 x3 = y at hv
  pointwise [val_main_v183, val_main_v182, val_main_v181, val_main_v180, val_main_v62]
  rw [hy]
  simp only [hv]

theorem g_ref (l : Fin 128) : val_main_v203 (F := Ideal) x0 x1 x2 x3 x5 (ix3 b s l) = resG x0 x1 x2 x3 x5 b s l := by
  have hv := fun n => gate_ref x0 x1 x2 x3 x5 b s n
  generalize hy : val_main_v183 (F := Ideal) x0 x1 x2 x3 x5 = y at hv
  pointwise [val_main_v203, val_main_call2_v0, val_main_c_8]
  rw [hy]
  simp only [hv]
  rw [resG]
  by_cases h : l.val < 16
  · rw [dif_pos h, dif_pos h]
  · rw [dif_neg h, dif_neg h]
    exact zero_word

theorem b_ref (k : Fin 16) (n : Fin 16) (p : Fin 128) :
    val_main_v205 (F := Ideal) x0 x1 x2 x3 x5 (ix4 b k n p) = resB x0 x1 x2 x3 x5 b k n p := by
  have hv := fun s n => gate_ref x0 x1 x2 x3 x5 b s n
  generalize hy : val_main_v183 (F := Ideal) x0 x1 x2 x3 x5 = y at hv
  pointwise [val_main_v205, val_main_v204]
  rw [hy]
  refine (hv _ _).trans ?_
  exact congrArg (fun r => prod x0 x1 x2 x3 b r _ + _) (Fin.ext (by simp only; omega))

theorem pair_ref (n : Fin 512) : val_main_v151 (F := Ideal) x0 x1 x2 x3 (ix3 b s n)
    = prod x0 x1 x2 x3 b s ⟨768 + n.val, by omega⟩ := by
  pointwise [val_main_v151, val_main_v59, val_main_v58]
  by_cases h : n.val < 256
  · exact (dif_pos h).trans (prod_ref x0 x1 x2 x3 b s _)
  · refine (dif_neg h).trans ((prod_ref x0 x1 x2 x3 b s _).trans (congrArg (prod x0 x1 x2 x3 b s) (Fin.ext ?_)))
    simp only
    omega

theorem above_ref (n : Fin 512) : val_main_v154 (F := Ideal) x0 x1 x2 x3 (ix3 b s n)
    = if h : s.val = 0 then 0 else prod x0 x1 x2 x3 b ⟨s.val - 1, by omega⟩ ⟨768 + n.val, by omega⟩ := by
  have hs := s.isLt
  have hv := fun r => pair_ref x0 x1 x2 x3 b r n
  generalize hy : val_main_v151 (F := Ideal) x0 x1 x2 x3 = y at hv
  pointwise [val_main_v154, val_main_v153, val_main_call0_v0, val_main_c]
  rw [hy]
  by_cases h : s.val = 0
  · rw [dif_pos h]
    exact (dif_neg (by omega)).trans zero_word
  · rw [dif_neg h]
    exact (dif_pos (by omega)).trans (hv _)

theorem here_ref (n : Fin 512) : val_main_v160 (F := Ideal) x0 x1 x2 x3 (ix3 b s n)
    = prod x0 x1 x2 x3 b s ⟨768 + n.val, by omega⟩ := by
  have hs := s.isLt
  have hv := fun r => pair_ref x0 x1 x2 x3 b r n
  generalize hy : val_main_v151 (F := Ideal) x0 x1 x2 x3 = y at hv
  pointwise [val_main_v160, val_main_v153, val_main_call0_v0, val_main_c]
  rw [hy]
  exact hv s

theorem below_ref (n : Fin 512) : val_main_v167 (F := Ideal) x0 x1 x2 x3 (ix3 b s n)
    = if h : s.val = 2047 then 0 else prod x0 x1 x2 x3 b ⟨s.val + 1, by omega⟩ ⟨768 + n.val, by omega⟩ := by
  have hs := s.isLt
  have hv := fun r => pair_ref x0 x1 x2 x3 b r n
  generalize hy : val_main_v151 (F := Ideal) x0 x1 x2 x3 = y at hv
  pointwise [val_main_v167, val_main_v153, val_main_call0_v0, val_main_c]
  rw [hy]
  by_cases h : s.val = 2047
  · rw [dif_pos h]
    exact (dif_neg (by omega)).trans zero_word
  · rw [dif_neg h]
    refine (dif_pos (by omega)).trans ((hv _).trans ?_)
    exact congrArg (fun r => prod x0 x1 x2 x3 b r _) (Fin.ext (by simp only; omega))

theorem conv_ref (n : Fin 512) : val_main_v173 (F := Ideal) x0 x1 x2 x3 x4 (ix3 b s n) = convAt x0 x1 x2 x3 x4 b s n := by
  have h0 := above_ref x0 x1 x2 x3 b s n
  have h1 := here_ref x0 x1 x2 x3 b s n
  have h2 := below_ref x0 x1 x2 x3 b s n
  generalize hy0 : val_main_v154 (F := Ideal) x0 x1 x2 x3 = y0 at h0
  generalize hy1 : val_main_v160 (F := Ideal) x0 x1 x2 x3 = y1 at h1
  generalize hy2 : val_main_v167 (F := Ideal) x0 x1 x2 x3 = y2 at h2
  pointwise [val_main_v173, val_main_v172, val_main_v171, val_main_v170, val_main_v169, val_main_v168, val_main_v166,
    val_main_v165, val_main_v164, val_main_v163, val_main_v162, val_main_v161, val_main_v159, val_main_v158, val_main_v157,
    val_main_v156, val_main_v155, val_main_v152]
  rw [hy0, hy1, hy2, h0, h1, h2]
  rfl

theorem qk_ref (n : Fin 512) : val_main_v198 (F := Ideal) x0 x1 x2 x3 x4 (ix3 b s n) = resQk x0 x1 x2 x3 x4 b s n := by
  have hv := fun n => conv_ref x0 x1 x2 x3 x4 b s n
  generalize hy : val_main_v173 (F := Ideal) x0 x1 x2 x3 x4 = y at hv
  pointwise [val_main_v198, val_main_v179, val_main_v178, val_main_v177, val_main_v176, val_main_v175, val_main_v174,
    val_main_call1_v5, val_main_call1_v4, val_main_call1_v3, val_main_call1_v2, val_main_call1_v1, val_main_call1_v0,
    val_main_cst_5, val_main_call1_cst, val_main_call1_cst_0]
  rw [hy]
  simp only [hv]
  rw [resQk]
  by_cases h : n.val < 256
  · rw [dif_pos h, if_pos h]
    rfl
  · rw [dif_neg h, if_neg h]
    have hi : (⟨256 + (n.val - 256), by omega⟩ : Fin 512) = n := Fin.ext (by simp only; omega)
    rw [hi]
    rfl

end Cert.Inp

end
-- ==== Proof.Inp.Value.lean ====
/- The input projection call's eight results are the reference's. -/
module

public import proofs.«01_k».proof.Proof.Inp.Blocks
public import proofs.«01_k».proof.Proof.Inp.Out
public import proofs.«01_k».proof.Proof.Inp.Group
public import proofs.«01_k».proof.Proof.Inp.Host
public import proofs.«01_k».proof.Proof.Inp.Ref
public import proofs.«01_k».proof.Defs
public import proofs.«01_k».proof.Proof.Gen.Reference3Ideal.Run

@[expose] public section

set_option maxRecDepth 16384

noncomputable section

namespace Cert.Inp

open Cert.Kernel3Ideal Cert.Kernel3Ideal.Gen Idealize.ShloMosaic Idealize.ShloMosaic.TcCoe Idealize.SL.Sem
  Idealize.ShloMosaic.Pointwise

variable (m : (ℓ : Loc nD τ sig) → Buf (Elt Ideal) ℓ) (c : Dev nD)

/-- The blocks a grid point reads hold its batch's data. -/
theorem fits (t : Fin cfg0.N) : Fits (grid0.coords t) (iblk m c 0 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (batch t) where
  off := off_eq t
  x := fit_x m c t
  sh := fit_sh m c t
  sc := fit_sc m c t
  g := fit_g m c t
  wq := fit_wq m c t
  wk := fit_wk m c t
  wg := fit_wg m c t
  wz := fit_wz m c t
  wqk := fit_wqk m c t
  wo := fit_wo m c t
  tv := fit_tv m c t
  tm := fit_tm m c t
  tg := fit_tg m c t
  br := fit_br m c t
  bz := fit_bz m c t
  bc := fit_bc m c t
  wc := fit_wc m c t
  cs := fit_cs m c t
  lo := fit_lo m c t
  hi := fit_hi m c t
  gn := fit_gn m c t

/-- The reference's result: the attention's queries. -/
abbrev val_q : FVec Ideal S8x2048x512 .bf16 :=
  Reference3Ideal.Read.val_main_v194 (F := Ideal)
    (m ((c : Thread nD τ).loc main_arg0)) (m ((c : Thread nD τ).loc main_arg1)) (m ((c : Thread nD τ).loc main_arg2))
    (m ((c : Thread nD τ).loc main_arg3))

/-- The reference's result: the attention's keys. -/
abbrev val_k : FVec Ideal S8x2048x128 .bf16 :=
  Reference3Ideal.Read.val_main_v195 (F := Ideal)
    (m ((c : Thread nD τ).loc main_arg0)) (m ((c : Thread nD τ).loc main_arg1)) (m ((c : Thread nD τ).loc main_arg2))
    (m ((c : Thread nD τ).loc main_arg3))

/-- The reference's result: the attention's values. -/
abbrev val_v : FVec Ideal S8x128x2048 .bf16 :=
  Reference3Ideal.Read.val_main_v197 (F := Ideal)
    (m ((c : Thread nD τ).loc main_arg0)) (m ((c : Thread nD τ).loc main_arg1)) (m ((c : Thread nD τ).loc main_arg2))
    (m ((c : Thread nD τ).loc main_arg3))

/-- The reference's result: the mLSTM's queries and keys. -/
abbrev val_qk : FVec Ideal S8x2048x512 .bf16 :=
  Reference3Ideal.Read.val_main_v198 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4))

/-- The reference's result: the mLSTM's values. -/
abbrev val_m : FVec Ideal S8x16x512x128 .bf16 :=
  Reference3Ideal.Read.val_main_v201 (F := Ideal)
    (m ((c : Thread nD τ).loc main_arg0)) (m ((c : Thread nD τ).loc main_arg1)) (m ((c : Thread nD τ).loc main_arg2))
    (m ((c : Thread nD τ).loc main_arg3))

/-- The reference's result: the output gates. -/
abbrev val_o : FVec Ideal S8x2048x512 .bf16 :=
  Reference3Ideal.Read.val_main_v202 (F := Ideal)
    (m ((c : Thread nD τ).loc main_arg0)) (m ((c : Thread nD τ).loc main_arg1)) (m ((c : Thread nD τ).loc main_arg2))
    (m ((c : Thread nD τ).loc main_arg3)) (m ((c : Thread nD τ).loc main_arg6))

/-- The reference's result: the gates by rows. -/
abbrev val_g : FVec Ideal S8x2048x128 .f32 :=
  Reference3Ideal.Read.val_main_v203 (F := Ideal)
    (m ((c : Thread nD τ).loc main_arg0)) (m ((c : Thread nD τ).loc main_arg1)) (m ((c : Thread nD τ).loc main_arg2))
    (m ((c : Thread nD τ).loc main_arg3)) (m ((c : Thread nD τ).loc main_arg5))

/-- The reference's result: the gates by chunks. -/
abbrev val_b : FVec Ideal S8x16x16x128 .f32 :=
  Reference3Ideal.Read.val_main_v205 (F := Ideal)
    (m ((c : Thread nD τ).loc main_arg0)) (m ((c : Thread nD τ).loc main_arg1)) (m ((c : Thread nD τ).loc main_arg2))
    (m ((c : Thread nD τ).loc main_arg3)) (m ((c : Thread nD τ).loc main_arg5))

theorem final_q : (dats m 0 c).arrAt 15 cfg0.N = val_q m c := by
  refine (dats m 0 c).arrAt_eq_of_covers 15 _ (by decide +kernel) fun t hf y => ?_
  blk_simp
  rw [out_q m c t]
  have ht : t.val < 8 := t.isLt
  have h0 : (y 0).val < 1 := (y 0).isLt
  have h1 : (y 1).val < 2048 := (y 1).isLt
  have h2 : (y 2).val < 512 := (y 2).isLt
  have hy : y = (ix3 (0 : Fin 1) ⟨(y 1).val, h1⟩ ⟨(y 2).val, h2⟩ : S1x2048x512.Idx) := by
    funext a
    fin_cases a
    · exact Subsingleton.elim (α := Fin 1) _ _
    all_goals rfl
  have he : ((cfg0.win 15).blk t).view.emb y = (ix3 (batch t) ⟨(y 1).val, h1⟩ ⟨(y 2).val, h2⟩ : S8x2048x512.Idx) := by
    blk_ext [idx_out t]
  refine (congrArg _ hy).trans ((block_q _ _ (fits m c t) _ _).trans ?_)
  exact (q_ref _ _ _ _ (batch t) _ _).symm.trans (congrArg (val_q m c) he.symm)

theorem final_k : (dats m 0 c).arrAt 16 cfg0.N = val_k m c := by
  refine (dats m 0 c).arrAt_eq_of_covers 16 _ (by decide +kernel) fun t hf y => ?_
  blk_simp
  rw [out_k m c t]
  have ht : t.val < 8 := t.isLt
  have h0 : (y 0).val < 1 := (y 0).isLt
  have h1 : (y 1).val < 2048 := (y 1).isLt
  have h2 : (y 2).val < 128 := (y 2).isLt
  have hy : y = (ix3 (0 : Fin 1) ⟨(y 1).val, h1⟩ ⟨(y 2).val, h2⟩ : S1x2048x128.Idx) := by
    funext a
    fin_cases a
    · exact Subsingleton.elim (α := Fin 1) _ _
    all_goals rfl
  have he : ((cfg0.win 16).blk t).view.emb y = (ix3 (batch t) ⟨(y 1).val, h1⟩ ⟨(y 2).val, h2⟩ : S8x2048x128.Idx) := by
    blk_ext [idx_out t]
  refine (congrArg _ hy).trans ((block_k _ _ (fits m c t) _ _).trans ?_)
  exact (k_ref _ _ _ _ (batch t) _ _).symm.trans (congrArg (val_k m c) he.symm)

theorem final_v : (dats m 0 c).arrAt 17 cfg0.N = val_v m c := by
  refine (dats m 0 c).arrAt_eq_of_covers 17 _ (by decide +kernel) fun t hf y => ?_
  blk_simp
  rw [out_v m c t]
  have ht : t.val < 8 := t.isLt
  have h0 : (y 0).val < 1 := (y 0).isLt
  have h1 : (y 1).val < 128 := (y 1).isLt
  have h2 : (y 2).val < 2048 := (y 2).isLt
  have hy : y = (ix3 (0 : Fin 1) ⟨(y 1).val, h1⟩ ⟨(y 2).val, h2⟩ : S1x128x2048.Idx) := by
    funext a
    fin_cases a
    · exact Subsingleton.elim (α := Fin 1) _ _
    all_goals rfl
  have he : ((cfg0.win 17).blk t).view.emb y = (ix3 (batch t) ⟨(y 1).val, h1⟩ ⟨(y 2).val, h2⟩ : S8x128x2048.Idx) := by
    blk_ext [idx_out t]
  refine (congrArg _ hy).trans ((block_v _ _ (fits m c t) _ _).trans ?_)
  exact (v_ref _ _ _ _ (batch t) _ _).symm.trans (congrArg (val_v m c) he.symm)

theorem final_qk : (dats m 0 c).arrAt 18 cfg0.N = val_qk m c := by
  refine (dats m 0 c).arrAt_eq_of_covers 18 _ (by decide +kernel) fun t hf y => ?_
  blk_simp
  rw [out_qk m c t]
  have ht : t.val < 8 := t.isLt
  have h0 : (y 0).val < 1 := (y 0).isLt
  have h1 : (y 1).val < 2048 := (y 1).isLt
  have h2 : (y 2).val < 512 := (y 2).isLt
  have hy : y = (ix3 (0 : Fin 1) ⟨(y 1).val, h1⟩ ⟨(y 2).val, h2⟩ : S1x2048x512.Idx) := by
    funext a
    fin_cases a
    · exact Subsingleton.elim (α := Fin 1) _ _
    all_goals rfl
  have he : ((cfg0.win 18).blk t).view.emb y = (ix3 (batch t) ⟨(y 1).val, h1⟩ ⟨(y 2).val, h2⟩ : S8x2048x512.Idx) := by
    blk_ext [idx_out t]
  refine (congrArg _ hy).trans ((block_qk _ _ (fits m c t) _ _).trans ?_)
  exact (qk_ref _ _ _ _ _ (batch t) _ _).symm.trans (congrArg (val_qk m c) he.symm)

theorem final_m : (dats m 0 c).arrAt 19 cfg0.N = val_m m c := by
  refine (dats m 0 c).arrAt_eq_of_covers 19 _ (by decide +kernel) fun t hf y => ?_
  blk_simp
  rw [out_m m c t]
  have ht : t.val < 8 := t.isLt
  have h0 : (y 0).val < 1 := (y 0).isLt
  have h1 : (y 1).val < 16 := (y 1).isLt
  have h2 : (y 2).val < 512 := (y 2).isLt
  have h3 : (y 3).val < 128 := (y 3).isLt
  have hy : y = (ix4 (0 : Fin 1) ⟨(y 1).val, h1⟩ ⟨(y 2).val, h2⟩ ⟨(y 3).val, h3⟩ : S1x16x512x128.Idx) := by
    funext a
    fin_cases a
    · exact Subsingleton.elim (α := Fin 1) _ _
    all_goals rfl
  have he : ((cfg0.win 19).blk t).view.emb y = (ix4 (batch t) ⟨(y 1).val, h1⟩ ⟨(y 2).val, h2⟩ ⟨(y 3).val, h3⟩ : S8x16x512x128.Idx) := by
    blk_ext [idx_out t]
  refine (congrArg _ hy).trans ((block_m _ _ (fits m c t) _ _ _).trans ?_)
  exact (m_ref _ _ _ _ (batch t) _ _ _).symm.trans (congrArg (val_m m c) he.symm)

theorem final_o : (dats m 0 c).arrAt 20 cfg0.N = val_o m c := by
  refine (dats m 0 c).arrAt_eq_of_covers 20 _ (by decide +kernel) fun t hf y => ?_
  blk_simp
  rw [out_o m c t]
  have ht : t.val < 8 := t.isLt
  have h0 : (y 0).val < 1 := (y 0).isLt
  have h1 : (y 1).val < 2048 := (y 1).isLt
  have h2 : (y 2).val < 512 := (y 2).isLt
  have hy : y = (ix3 (0 : Fin 1) ⟨(y 1).val, h1⟩ ⟨(y 2).val, h2⟩ : S1x2048x512.Idx) := by
    funext a
    fin_cases a
    · exact Subsingleton.elim (α := Fin 1) _ _
    all_goals rfl
  have he : ((cfg0.win 20).blk t).view.emb y = (ix3 (batch t) ⟨(y 1).val, h1⟩ ⟨(y 2).val, h2⟩ : S8x2048x512.Idx) := by
    blk_ext [idx_out t]
  refine (congrArg _ hy).trans ((block_o _ _ (fits m c t) _ _).trans ?_)
  exact (o_ref _ _ _ _ _ (batch t) _ _).symm.trans (congrArg (val_o m c) he.symm)

theorem final_g : (dats m 0 c).arrAt 21 cfg0.N = val_g m c := by
  refine (dats m 0 c).arrAt_eq_of_covers 21 _ (by decide +kernel) fun t hf y => ?_
  blk_simp
  rw [out_g m c t]
  have ht : t.val < 8 := t.isLt
  have h0 : (y 0).val < 1 := (y 0).isLt
  have h1 : (y 1).val < 2048 := (y 1).isLt
  have h2 : (y 2).val < 128 := (y 2).isLt
  have hy : y = (ix3 (0 : Fin 1) ⟨(y 1).val, h1⟩ ⟨(y 2).val, h2⟩ : S1x2048x128.Idx) := by
    funext a
    fin_cases a
    · exact Subsingleton.elim (α := Fin 1) _ _
    all_goals rfl
  have he : ((cfg0.win 21).blk t).view.emb y = (ix3 (batch t) ⟨(y 1).val, h1⟩ ⟨(y 2).val, h2⟩ : S8x2048x128.Idx) := by
    blk_ext [idx_out t]
  refine (congrArg _ hy).trans ((block_g _ _ (fits m c t) _ _).trans ?_)
  exact (g_ref _ _ _ _ _ (batch t) _ _).symm.trans (congrArg (val_g m c) he.symm)

theorem final_b : (dats m 0 c).arrAt 22 cfg0.N = val_b m c := by
  refine (dats m 0 c).arrAt_eq_of_covers 22 _ (by decide +kernel) fun t hf y => ?_
  blk_simp
  rw [out_b m c t]
  have ht : t.val < 8 := t.isLt
  have h0 : (y 0).val < 1 := (y 0).isLt
  have h1 : (y 1).val < 16 := (y 1).isLt
  have h2 : (y 2).val < 16 := (y 2).isLt
  have h3 : (y 3).val < 128 := (y 3).isLt
  have hy : y = (ix4 (0 : Fin 1) ⟨(y 1).val, h1⟩ ⟨(y 2).val, h2⟩ ⟨(y 3).val, h3⟩ : S1x16x16x128.Idx) := by
    funext a
    fin_cases a
    · exact Subsingleton.elim (α := Fin 1) _ _
    all_goals rfl
  have he : ((cfg0.win 22).blk t).view.emb y = (ix4 (batch t) ⟨(y 1).val, h1⟩ ⟨(y 2).val, h2⟩ ⟨(y 3).val, h3⟩ : S8x16x16x128.Idx) := by
    blk_ext [idx_out t]
  refine (congrArg _ hy).trans ((block_b _ _ (fits m c t) _ _ _).trans ?_)
  exact (b_ref _ _ _ _ _ (batch t) _ _ _).symm.trans (congrArg (val_b m c) he.symm)

set_option maxHeartbeats 8000000 in
/-- The call and the reference compute the same functions. -/
theorem algebraic : Cert.algebraic_Kernel3Ideal_Reference3Ideal := by
  intro m g m' g' _ hagree
  refine ⟨val_q m, val_k m, val_v m, val_qk m, val_m m, val_o m, val_g m, val_b m, ?_, ?_⟩
  · exact (θ_run _ _ _).mono (fun r h c => by
      obtain ⟨q0, q1, q2, q3, q4, q5, q6, q7, k⟩ := h c
      exact ⟨q0.trans (final_q m c), q1.trans (final_k m c), q2.trans (final_v m c), q3.trans (final_qk m c),
        q4.trans (final_m m c), q5.trans (final_o m c), q6.trans (final_g m c), q7.trans (final_b m c), k⟩) (Value.run_blocks m g)
  · refine (θ_run _ _ _).mono (fun r h c => ?_) (Reference3Ideal.Value.run m' g')
    obtain ⟨q0, q1, q2, q3, q4, q5, q6, q7, k⟩ := h c
    obtain ⟨h0, h1, h2, h3, h4, h5, h6⟩ := hagree c
    refine ⟨q0.trans ?_, q1.trans ?_, q2.trans ?_, q3.trans ?_, q4.trans ?_, q5.trans ?_, q6.trans ?_, q7.trans ?_, k⟩
    · exact (Reference3Ideal.Read.val_main_v194_eq _).trans (congr (congr (congr (congrArg (Reference3Ideal.Read.val_main_v194 (F := Ideal)) h0) h1) h2) h3)
    · exact (Reference3Ideal.Read.val_main_v195_eq _).trans (congr (congr (congr (congrArg (Reference3Ideal.Read.val_main_v195 (F := Ideal)) h0) h1) h2) h3)
    · exact (Reference3Ideal.Read.val_main_v197_eq _).trans (congr (congr (congr (congrArg (Reference3Ideal.Read.val_main_v197 (F := Ideal)) h0) h1) h2) h3)
    · exact (Reference3Ideal.Read.val_main_v198_eq _).trans (congr (congr (congr (congr (congrArg (Reference3Ideal.Read.val_main_v198 (F := Ideal)) h0) h1) h2) h3) h4)
    · exact (Reference3Ideal.Read.val_main_v201_eq _).trans (congr (congr (congr (congrArg (Reference3Ideal.Read.val_main_v201 (F := Ideal)) h0) h1) h2) h3)
    · exact (Reference3Ideal.Read.val_main_v202_eq _).trans (congr (congr (congr (congr (congrArg (Reference3Ideal.Read.val_main_v202 (F := Ideal)) h0) h1) h2) h3) h6)
    · exact (Reference3Ideal.Read.val_main_v203_eq _).trans (congr (congr (congr (congr (congrArg (Reference3Ideal.Read.val_main_v203 (F := Ideal)) h0) h1) h2) h3) h5)
    · exact (Reference3Ideal.Read.val_main_v205_eq _).trans (congr (congr (congr (congr (congrArg (Reference3Ideal.Read.val_main_v205 (F := Ideal)) h0) h1) h2) h3) h5)

end Cert.Inp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame.RunA
public import proofs.«01_k».proof.Proof.Gen.Reference3Ideal
public import proofs.«01_k».proof.Proof.Gen.Reference3Ideal.Run
public import proofs.«01_k».proof.Proof.Gen.Reference3Ideal.Read
public import proofs.«01_k».proof.Proof.Attn.Value
public import proofs.«01_k».proof.Proof.Ffn.Value
public import proofs.«01_k».proof.Proof.Inp.Frame
public import proofs.«01_k».proof.Proof.Inp.Same
public import proofs.«01_k».proof.Proof.Inp.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The attention's reference has no semaphores and leaves its arguments as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The same of the second reference. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- And of the third. -/
theorem frame_reference3 : Cert.quiescent_Reference3Ideal := fun m ρ _ =>
  (θ_run Cert.Reference3Ideal.defs _ _).mono (fun r h => ⟨fun c => (h c).2.2.2.2.2.2.2.2, sem_eq_zero_of_no_sems (by decide) r.2⟩)
    (Cert.Reference3Ideal.Value.run m ρ)

/-- The two named numbers are the values the attention kernel's words round to. -/
theorem named : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "qscale" .f32 0x3E38AA3B#32 (((Real.log 256)⁻¹ : ℝ) : EReal) rfl⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.Kernel.Gen.frame m ρ,
  fun m ρ _ => Cert.KernelIdeal.Gen.frame m ρ,
  frame_reference,
  fun m ρ _ => Cert.Kernel2.Gen.frame m ρ,
  fun m ρ _ => Cert.Kernel2Ideal.Gen.frame m ρ,
  frame_reference2,
  Cert.Inp.frame_kernel,
  fun m ρ _ => Cert.Kernel3Ideal.Gen.frame m ρ,
  frame_reference3,
  named,
  Cert.Attn.algebraic,
  trivial,
  Cert.Ffn.algebraic,
  trivial,
  Cert.Inp.algebraic⟩

end Cert.Proof

end
